-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x64 : Shape := ⟨4, ![1, 16, 2048, 64]⟩
abbrev S16x2048x64 : Shape := ⟨3, ![16, 2048, 64]⟩
abbrev S16x64x2048 : Shape := ⟨3, ![16, 64, 2048]⟩
abbrev S16x2x2048 : Shape := ⟨3, ![16, 2, 2048]⟩
abbrev S1x2048x64 : Shape := ⟨3, ![1, 2048, 64]⟩
abbrev S1x64x2048 : Shape := ⟨3, ![1, 64, 2048]⟩
abbrev S1x2x2048 : Shape := ⟨3, ![1, 2, 2048]⟩
abbrev S2048x64 : Shape := ⟨2, ![2048, 64]⟩
abbrev S64x2048 : Shape := ⟨2, ![64, 2048]⟩
abbrev S2048 : Shape := ⟨1, ![2048]⟩
abbrev S2048x1 : Shape := ⟨2, ![2048, 1]⟩
abbrev S1x64 : Shape := ⟨2, ![1, 64]⟩
abbrev S64 : Shape := ⟨1, ![64]⟩
abbrev S32x64 : Shape := ⟨2, ![32, 64]⟩
abbrev S32x2048 : Shape := ⟨2, ![32, 2048]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S32 : Shape := ⟨1, ![32]⟩
abbrev S32x1 : Shape := ⟨2, ![32, 1]⟩
abbrev S32x12 : Shape := ⟨2, ![32, 12]⟩
abbrev S1x12 : Shape := ⟨2, ![1, 12]⟩
abbrev S12 : Shape := ⟨1, ![12]⟩
abbrev S1x1x12 : Shape := ⟨3, ![1, 1, 12]⟩
abbrev S4x64 : Shape := ⟨2, ![4, 64]⟩
abbrev S4x2048 : Shape := ⟨2, ![4, 2048]⟩
abbrev S2x2048 : Shape := ⟨2, ![2, 2048]⟩
abbrev S16x64x8x256 : Shape := ⟨4, ![16, 64, 8, 256]⟩
abbrev S16x8x64x256 : Shape := ⟨4, ![16, 8, 64, 256]⟩
abbrev S16x64x272 : Shape := ⟨3, ![16, 64, 272]⟩
abbrev S16x1x64x272 : Shape := ⟨4, ![16, 1, 64, 272]⟩
abbrev S16x8x64x272 : Shape := ⟨4, ![16, 8, 64, 272]⟩
abbrev S16x8x17408 : Shape := ⟨3, ![16, 8, 17408]⟩
abbrev S16x2x8x256 : Shape := ⟨4, ![16, 2, 8, 256]⟩
abbrev S16x8x2x256 : Shape := ⟨4, ![16, 8, 2, 256]⟩
abbrev S64x256 : Shape := ⟨2, ![64, 256]⟩
abbrev S17408 : Shape := ⟨1, ![17408]⟩
abbrev S2x256 : Shape := ⟨2, ![2, 256]⟩
abbrev S16 : Shape := ⟨1, ![16]⟩
abbrev S_ : Shape := ⟨0, ![]⟩
abbrev S1x1x64x256 : Shape := ⟨4, ![1, 1, 64, 256]⟩
abbrev S1x1x17408 : Shape := ⟨3, ![1, 1, 17408]⟩
abbrev S1x1x2x256 : Shape := ⟨4, ![1, 1, 2, 256]⟩
abbrev S1x16 : Shape := ⟨2, ![1, 16]⟩

abbrev nBuf : Table → Nat
  | .hbm => 58
  | .local .tc .vmem => 16
  | .local .scVector .vmem => 6
  | _ => 0

abbrev bufTy : (tb : Table) → Fin (nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x64x2048, .f32⟩
  | .hbm, ⟨7, _⟩ => ⟨S16x2x2048, .f32⟩
  | .hbm, ⟨8, _⟩ => ⟨S16x64x2048, .f32⟩
  | .hbm, ⟨9, _⟩ => ⟨S16x64x2048, .f32⟩
  | .hbm, ⟨10, _⟩ => ⟨S16x64x2048, .f32⟩
  | .hbm, ⟨11, _⟩ => ⟨S16x64x8x256, .f32⟩
  | .hbm, ⟨12, _⟩ => ⟨S16x8x64x256, .f32⟩
  | .hbm, ⟨13, _⟩ => ⟨S16x64x272, .f32⟩
  | .hbm, ⟨14, _⟩ => ⟨S16x64x272, .f32⟩
  | .hbm, ⟨15, _⟩ => ⟨S16x64x272, .f32⟩
  | .hbm, ⟨16, _⟩ => ⟨S16x64x272, .f32⟩
  | .hbm, ⟨17, _⟩ => ⟨S16x64x272, .f32⟩
  | .hbm, ⟨18, _⟩ => ⟨S16x64x272, .f32⟩
  | .hbm, ⟨19, _⟩ => ⟨S16x64x272, .f32⟩
  | .hbm, ⟨20, _⟩ => ⟨S16x64x272, .f32⟩
  | .hbm, ⟨21, _⟩ => ⟨S16x1x64x272, .f32⟩
  | .hbm, ⟨22, _⟩ => ⟨S16x1x64x272, .f32⟩
  | .hbm, ⟨23, _⟩ => ⟨S16x1x64x272, .f32⟩
  | .hbm, ⟨24, _⟩ => ⟨S16x1x64x272, .f32⟩
  | .hbm, ⟨25, _⟩ => ⟨S16x1x64x272, .f32⟩
  | .hbm, ⟨26, _⟩ => ⟨S16x1x64x272, .f32⟩
  | .hbm, ⟨27, _⟩ => ⟨S16x1x64x272, .f32⟩
  | .hbm, ⟨28, _⟩ => ⟨S16x1x64x272, .f32⟩
  | .hbm, ⟨29, _⟩ => ⟨S16x8x64x272, .f32⟩
  | .hbm, ⟨30, _⟩ => ⟨S16x8x17408, .f32⟩
  | .hbm, ⟨31, _⟩ => ⟨S16x64x272, .f32⟩
  | .hbm, ⟨32, _⟩ => ⟨S16x64x272, .f32⟩
  | .hbm, ⟨33, _⟩ => ⟨S16x64x272, .f32⟩
  | .hbm, ⟨34, _⟩ => ⟨S16x64x272, .f32⟩
  | .hbm, ⟨35, _⟩ => ⟨S16x64x272, .f32⟩
  | .hbm, ⟨36, _⟩ => ⟨S16x64x272, .f32⟩
  | .hbm, ⟨37, _⟩ => ⟨S16x64x272, .f32⟩
  | .hbm, ⟨38, _⟩ => ⟨S16x64x272, .f32⟩
  | .hbm, ⟨39, _⟩ => ⟨S16x1x64x272, .f32⟩
  | .hbm, ⟨40, _⟩ => ⟨S16x1x64x272, .f32⟩
  | .hbm, ⟨41, _⟩ => ⟨S16x1x64x272, .f32⟩
  | .hbm, ⟨42, _⟩ => ⟨S16x1x64x272, .f32⟩
  | .hbm, ⟨43, _⟩ => ⟨S16x1x64x272, .f32⟩
  | .hbm, ⟨44, _⟩ => ⟨S16x1x64x272, .f32⟩
  | .hbm, ⟨45, _⟩ => ⟨S16x1x64x272, .f32⟩
  | .hbm, ⟨46, _⟩ => ⟨S16x1x64x272, .f32⟩
  | .hbm, ⟨47, _⟩ => ⟨S16x8x64x272, .f32⟩
  | .hbm, ⟨48, _⟩ => ⟨S16x8x17408, .f32⟩
  | .hbm, ⟨49, _⟩ => ⟨S16x64x8x256, .f32⟩
  | .hbm, ⟨50, _⟩ => ⟨S16x8x64x256, .f32⟩
  | .hbm, ⟨51, _⟩ => ⟨S16x2x8x256, .f32⟩
  | .hbm, ⟨52, _⟩ => ⟨S16x8x2x256, .f32⟩
  | .hbm, ⟨53, _⟩ => ⟨S16x8x64x256, .f32⟩
  | .hbm, ⟨54, _⟩ => ⟨S16x64x8x256, .f32⟩
  | .hbm, ⟨55, _⟩ => ⟨S16x64x2048, .f32⟩
  | .hbm, ⟨56, _⟩ => ⟨S16x2048x64, .f32⟩
  | .hbm, ⟨57, _⟩ => ⟨S1x16x2048x64, .f32⟩
  | .local .tc .vmem, ⟨0, _⟩ => ⟨S1x2048x64, .f32⟩
  | .local .tc .vmem, ⟨1, _⟩ => ⟨S1x2048x64, .f32⟩
  | .local .tc .vmem, ⟨2, _⟩ => ⟨S1x2048x64, .f32⟩
  | .local .tc .vmem, ⟨3, _⟩ => ⟨S1x2048x64, .f32⟩
  | .local .tc .vmem, ⟨4, _⟩ => ⟨S1x2048x64, .f32⟩
  | .local .tc .vmem, ⟨5, _⟩ => ⟨S1x2048x64, .f32⟩
  | .local .tc .vmem, ⟨6, _⟩ => ⟨S1x64x2048, .f32⟩
  | .local .tc .vmem, ⟨7, _⟩ => ⟨S1x64x2048, .f32⟩
  | .local .tc .vmem, ⟨8, _⟩ => ⟨S1x2x2048, .f32⟩
  | .local .tc .vmem, ⟨9, _⟩ => ⟨S1x2x2048, .f32⟩
  | .local .tc .vmem, ⟨10, _⟩ => ⟨S1x64x2048, .f32⟩
  | .local .tc .vmem, ⟨11, _⟩ => ⟨S1x64x2048, .f32⟩
  | .local .tc .vmem, ⟨12, _⟩ => ⟨S1x64x2048, .f32⟩
  | .local .tc .vmem, ⟨13, _⟩ => ⟨S1x64x2048, .f32⟩
  | .local .tc .vmem, ⟨14, _⟩ => ⟨S1x64x2048, .f32⟩
  | .local .tc .vmem, ⟨15, _⟩ => ⟨S1x64x2048, .f32⟩
  | .local .scVector .vmem, ⟨0, _⟩ => ⟨S64x256, .f32⟩
  | .local .scVector .vmem, ⟨1, _⟩ => ⟨S17408, .f32⟩
  | .local .scVector .vmem, ⟨2, _⟩ => ⟨S17408, .f32⟩
  | .local .scVector .vmem, ⟨3, _⟩ => ⟨S64x256, .f32⟩
  | .local .scVector .vmem, ⟨4, _⟩ => ⟨S2x256, .f32⟩
  | .local .scVector .vmem, ⟨5, _⟩ => ⟨S64x256, .f32⟩
  | _, _ => ⟨S1x16x2048x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v5_scv : Ref sig .scVector := ⟨.hbm, 12, rfl⟩
abbrev main_v23_scv : Ref sig .scVector := ⟨.hbm, 30, rfl⟩
abbrev main_v41_scv : Ref sig .scVector := ⟨.hbm, 48, rfl⟩
abbrev main_v43_scv : Ref sig .scVector := ⟨.hbm, 50, rfl⟩
abbrev main_v45_scv : Ref sig .scVector := ⟨.hbm, 52, rfl⟩
abbrev main_v46_scv : Ref sig .scVector := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

@[reducible] def k1_t1_loop : Scf.Loop 32 :=
  let c0_i32_0 : BitVec 32 := 0#32
  let c4_i32 : BitVec 32 := 4#32
  let v1 : BitVec 32 := Scalar.addi c0_i32_0 c4_i32
  let c1_i32 : BitVec 32 := 1#32
  ⟨c0_i32_0, v1, c1_i32⟩
def k1_off1 (i : grid1.Coords) (k1_t1 : Fin k1_t1_loop.trips) : Fin 4 → Nat :=
  let arg1 : BitVec 32 := BitVec.ofNat 32 (i 1).val
  let arg0 : BitVec 32 := BitVec.ofNat 32 (i 0).val
  let c4_i32_2 : BitVec 32 := 4#32
  let v3 : BitVec 32 := Scalar.muli arg0 c4_i32_2
  let c0_i32_0 : BitVec 32 := 0#32
  let c1_i32 : BitVec 32 := 1#32
  let arg14 : BitVec 32 := Scf.iv c0_i32_0 c1_i32 k1_t1
  let v4 : BitVec 32 := Scalar.addi v3 arg14
  let c0_i32_9_r0 : BitVec 32 := 0#32
  let c0_i32_10_r0 : BitVec 32 := 0#32
  ![arg1.toNat, v4.toNat, 0, 0]
def k1_off2 (i : grid1.Coords) (k1_t1 : Fin k1_t1_loop.trips) : Fin 3 → Nat :=
  let arg1 : BitVec 32 := BitVec.ofNat 32 (i 1).val
  let arg0 : BitVec 32 := BitVec.ofNat 32 (i 0).val
  let c4_i32_2 : BitVec 32 := 4#32
  let v3 : BitVec 32 := Scalar.muli arg0 c4_i32_2
  let c0_i32_0 : BitVec 32 := 0#32
  let c1_i32 : BitVec 32 := 1#32
  let arg14 : BitVec 32 := Scf.iv c0_i32_0 c1_i32 k1_t1
  let v4 : BitVec 32 := Scalar.addi v3 arg14
  let c0_i32_9_r1 : BitVec 32 := 0#32
  ![arg1.toNat, v4.toNat, 0]
def k1_off3 (i : grid1.Coords) (k1_t1 : Fin k1_t1_loop.trips) : Fin 4 → Nat :=
  let arg1 : BitVec 32 := BitVec.ofNat 32 (i 1).val
  let arg0 : BitVec 32 := BitVec.ofNat 32 (i 0).val
  let c4_i32_2 : BitVec 32 := 4#32
  let v3 : BitVec 32 := Scalar.muli arg0 c4_i32_2
  let c0_i32_0 : BitVec 32 := 0#32
  let c1_i32 : BitVec 32 := 1#32
  let arg14 : BitVec 32 := Scf.iv c0_i32_0 c1_i32 k1_t1
  let v4 : BitVec 32 := Scalar.addi v3 arg14
  let c0_i32_9_r4 : BitVec 32 := 0#32
  let c0_i32_10_r4 : BitVec 32 := 0#32
  ![arg1.toNat, v4.toNat, 0, 0]
@[reducible] def k1_t2_loop : Scf.Loop 32 :=
  let c0_i32_5 : BitVec 32 := 0#32
  let c16_i32 : BitVec 32 := 16#32
  let v9 : BitVec 32 := Scalar.addi c0_i32_5 c16_i32
  let c1_i32_6 : BitVec 32 := 1#32
  ⟨c0_i32_5, v9, c1_i32_6⟩
@[reducible] def k1_t3_loop : Scf.Loop 32 :=
  let c0_i32_31 : BitVec 32 := 0#32
  let c64_i32 : BitVec 32 := 64#32
  let v71 : BitVec 32 := Scalar.addi c0_i32_31 c64_i32
  let c1_i32_32 : BitVec 32 := 1#32
  ⟨c0_i32_31, v71, c1_i32_32⟩
def k1_off4 (k1_t2 : Fin k1_t2_loop.trips) (k1_t3 : Fin k1_t3_loop.trips) : Fin 2 → Nat :=
  let c0_i32_31 : BitVec 32 := 0#32
  let c1_i32_32 : BitVec 32 := 1#32
  let arg18 : BitVec 32 := Scf.iv c0_i32_31 c1_i32_32 k1_t3
  let v1435 : Index := Scalar.indexCast arg18
  let c0_i32_5 : BitVec 32 := 0#32
  let c1_i32_6 : BitVec 32 := 1#32
  let arg16 : BitVec 32 := Scf.iv c0_i32_5 c1_i32_6 k1_t2
  let c16_i32_9 : BitVec 32 := 16#32
  let v11 : BitVec 32 := Scalar.muli arg16 c16_i32_9
  let v1436 : Index := Scalar.indexCast v11
  ![v1435.toNat, v1436.toNat]

def k1_chk1 (v1439 : IVec S16 32) : Prop :=
  (∀ a x, ((![v1439] : Fin 1 → IVec S16 32) a x).toNat < S17408.size a)
theorem k1_idx1_inb : ∀ (v1439 : IVec S16 32) (k1_hw1 : k1_chk1 v1439), ∀ a x, ((![v1439] : Fin 1 → IVec S16 32) a x).toNat < S17408.size a := fun v1439 k1_hw1 => k1_hw1

def k1_chk2 (v1444 : IVec S16 32) : Prop :=
  (∀ a x, ((![v1444] : Fin 1 → IVec S16 32) a x).toNat < S17408.size a)
theorem k1_idx2_inb : ∀ (v1444 : IVec S16 32) (k1_hw2 : k1_chk2 v1444), ∀ a x, ((![v1444] : Fin 1 → IVec S16 32) a x).toNat < S17408.size a := fun v1444 k1_hw2 => k1_hw2

def k1_chk3 (v1449 : IVec S16 32) : Prop :=
  (∀ a x, ((![v1449] : Fin 1 → IVec S16 32) a x).toNat < S17408.size a)
theorem k1_idx3_inb : ∀ (v1449 : IVec S16 32) (k1_hw3 : k1_chk3 v1449), ∀ a x, ((![v1449] : Fin 1 → IVec S16 32) a x).toNat < S17408.size a := fun v1449 k1_hw3 => k1_hw3

def k1_chk4 (v1454 : IVec S16 32) : Prop :=
  (∀ a x, ((![v1454] : Fin 1 → IVec S16 32) a x).toNat < S17408.size a)
theorem k1_idx4_inb : ∀ (v1454 : IVec S16 32) (k1_hw4 : k1_chk4 v1454), ∀ a x, ((![v1454] : Fin 1 → IVec S16 32) a x).toNat < S17408.size a := fun v1454 k1_hw4 => k1_hw4

def k1_chk5 (v1459 : IVec S16 32) : Prop :=
  (∀ a x, ((![v1459] : Fin 1 → IVec S16 32) a x).toNat < S17408.size a)
theorem k1_idx5_inb : ∀ (v1459 : IVec S16 32) (k1_hw5 : k1_chk5 v1459), ∀ a x, ((![v1459] : Fin 1 → IVec S16 32) a x).toNat < S17408.size a := fun v1459 k1_hw5 => k1_hw5

def k1_chk6 (v1464 : IVec S16 32) : Prop :=
  (∀ a x, ((![v1464] : Fin 1 → IVec S16 32) a x).toNat < S17408.size a)
theorem k1_idx6_inb : ∀ (v1464 : IVec S16 32) (k1_hw6 : k1_chk6 v1464), ∀ a x, ((![v1464] : Fin 1 → IVec S16 32) a x).toNat < S17408.size a := fun v1464 k1_hw6 => k1_hw6

def k1_chk7 (v1469 : IVec S16 32) : Prop :=
  (∀ a x, ((![v1469] : Fin 1 → IVec S16 32) a x).toNat < S17408.size a)
theorem k1_idx7_inb : ∀ (v1469 : IVec S16 32) (k1_hw7 : k1_chk7 v1469), ∀ a x, ((![v1469] : Fin 1 → IVec S16 32) a x).toNat < S17408.size a := fun v1469 k1_hw7 => k1_hw7

def k1_chk8 (v1474 : IVec S16 32) : Prop :=
  (∀ a x, ((![v1474] : Fin 1 → IVec S16 32) a x).toNat < S17408.size a)
theorem k1_idx8_inb : ∀ (v1474 : IVec S16 32) (k1_hw8 : k1_chk8 v1474), ∀ a x, ((![v1474] : Fin 1 → IVec S16 32) a x).toNat < S17408.size a := fun v1474 k1_hw8 => k1_hw8

def k1_chk9 (v1479 : IVec S16 32) : Prop :=
  (∀ a x, ((![v1479] : Fin 1 → IVec S16 32) a x).toNat < S17408.size a)
theorem k1_idx9_inb : ∀ (v1479 : IVec S16 32) (k1_hw9 : k1_chk9 v1479), ∀ a x, ((![v1479] : Fin 1 → IVec S16 32) a x).toNat < S17408.size a := fun v1479 k1_hw9 => k1_hw9

def k1_chk10 (v1484 : IVec S16 32) : Prop :=
  (∀ a x, ((![v1484] : Fin 1 → IVec S16 32) a x).toNat < S17408.size a)
theorem k1_idx10_inb : ∀ (v1484 : IVec S16 32) (k1_hw10 : k1_chk10 v1484), ∀ a x, ((![v1484] : Fin 1 → IVec S16 32) a x).toNat < S17408.size a := fun v1484 k1_hw10 => k1_hw10

def k1_chk11 (v1489 : IVec S16 32) : Prop :=
  (∀ a x, ((![v1489] : Fin 1 → IVec S16 32) a x).toNat < S17408.size a)
theorem k1_idx11_inb : ∀ (v1489 : IVec S16 32) (k1_hw11 : k1_chk11 v1489), ∀ a x, ((![v1489] : Fin 1 → IVec S16 32) a x).toNat < S17408.size a := fun v1489 k1_hw11 => k1_hw11

def k1_chk12 (v1494 : IVec S16 32) : Prop :=
  (∀ a x, ((![v1494] : Fin 1 → IVec S16 32) a x).toNat < S17408.size a)
theorem k1_idx12_inb : ∀ (v1494 : IVec S16 32) (k1_hw12 : k1_chk12 v1494), ∀ a x, ((![v1494] : Fin 1 → IVec S16 32) a x).toNat < S17408.size a := fun v1494 k1_hw12 => k1_hw12

def k1_chk13 (v1499 : IVec S16 32) : Prop :=
  (∀ a x, ((![v1499] : Fin 1 → IVec S16 32) a x).toNat < S17408.size a)
theorem k1_idx13_inb : ∀ (v1499 : IVec S16 32) (k1_hw13 : k1_chk13 v1499), ∀ a x, ((![v1499] : Fin 1 → IVec S16 32) a x).toNat < S17408.size a := fun v1499 k1_hw13 => k1_hw13

def k1_chk14 (v1504 : IVec S16 32) : Prop :=
  (∀ a x, ((![v1504] : Fin 1 → IVec S16 32) a x).toNat < S17408.size a)
theorem k1_idx14_inb : ∀ (v1504 : IVec S16 32) (k1_hw14 : k1_chk14 v1504), ∀ a x, ((![v1504] : Fin 1 → IVec S16 32) a x).toNat < S17408.size a := fun v1504 k1_hw14 => k1_hw14

def k1_chk15 (v1509 : IVec S16 32) : Prop :=
  (∀ a x, ((![v1509] : Fin 1 → IVec S16 32) a x).toNat < S17408.size a)
theorem k1_idx15_inb : ∀ (v1509 : IVec S16 32) (k1_hw15 : k1_chk15 v1509), ∀ a x, ((![v1509] : Fin 1 → IVec S16 32) a x).toNat < S17408.size a := fun v1509 k1_hw15 => k1_hw15

def k1_chk16 (v1514 : IVec S16 32) : Prop :=
  (∀ a x, ((![v1514] : Fin 1 → IVec S16 32) a x).toNat < S17408.size a)
theorem k1_idx16_inb : ∀ (v1514 : IVec S16 32) (k1_hw16 : k1_chk16 v1514), ∀ a x, ((![v1514] : Fin 1 → IVec S16 32) a x).toNat < S17408.size a := fun v1514 k1_hw16 => k1_hw16
def k1_off5 (k1_t2 : Fin k1_t2_loop.trips) : Fin 2 → Nat :=
  let c0_i32_506 : BitVec 32 := 0#32
  let v1383 : Index := Scalar.indexCast c0_i32_506
  let c0_i32_5 : BitVec 32 := 0#32
  let c1_i32_6 : BitVec 32 := 1#32
  let arg16 : BitVec 32 := Scf.iv c0_i32_5 c1_i32_6 k1_t2
  let c16_i32_9 : BitVec 32 := 16#32
  let v11 : BitVec 32 := Scalar.muli arg16 c16_i32_9
  let v1384 : Index := Scalar.indexCast v11
  ![0, v1384.toNat]
def k1_off6 (k1_t2 : Fin k1_t2_loop.trips) : Fin 2 → Nat :=
  let c1_i32_507 : BitVec 32 := 1#32
  let v1386 : Index := Scalar.indexCast c1_i32_507
  let c0_i32_5 : BitVec 32 := 0#32
  let c1_i32_6 : BitVec 32 := 1#32
  let arg16 : BitVec 32 := Scf.iv c0_i32_5 c1_i32_6 k1_t2
  let c16_i32_9 : BitVec 32 := 16#32
  let v11 : BitVec 32 := Scalar.muli arg16 c16_i32_9
  let v1387 : Index := Scalar.indexCast v11
  ![1, v1387.toNat]
@[reducible] def k1_t4_loop : Scf.Loop 32 :=
  let c0_i32_510 : BitVec 32 := 0#32
  let c64_i32_511 : BitVec 32 := 64#32
  let v1432 : BitVec 32 := Scalar.addi c0_i32_510 c64_i32_511
  let c1_i32_512 : BitVec 32 := 1#32
  ⟨c0_i32_510, v1432, c1_i32_512⟩
def k1_off7 (k1_t2 : Fin k1_t2_loop.trips) (k1_t4 : Fin k1_t4_loop.trips) : Fin 2 → Nat :=
  let c0_i32_510 : BitVec 32 := 0#32
  let c1_i32_512 : BitVec 32 := 1#32
  let arg18 : BitVec 32 := Scf.iv c0_i32_510 c1_i32_512 k1_t4
  let v1435 : Index := Scalar.indexCast arg18
  let c0_i32_5 : BitVec 32 := 0#32
  let c1_i32_6 : BitVec 32 := 1#32
  let arg16 : BitVec 32 := Scf.iv c0_i32_5 c1_i32_6 k1_t2
  let c16_i32_9 : BitVec 32 := 16#32
  let v11 : BitVec 32 := Scalar.muli arg16 c16_i32_9
  let v1436 : Index := Scalar.indexCast v11
  ![v1435.toNat, v1436.toNat]

def k1_chk17 (v1440 : IVec S16 32) : Prop :=
  (∀ a x, ((![v1440] : Fin 1 → IVec S16 32) a x).toNat < S17408.size a)
theorem k1_idx17_inb : ∀ (v1440 : IVec S16 32) (k1_hw17 : k1_chk17 v1440), ∀ a x, ((![v1440] : Fin 1 → IVec S16 32) a x).toNat < S17408.size a := fun v1440 k1_hw17 => k1_hw17

def k1_chk18 (v1445 : IVec S16 32) : Prop :=
  (∀ a x, ((![v1445] : Fin 1 → IVec S16 32) a x).toNat < S17408.size a)
theorem k1_idx18_inb : ∀ (v1445 : IVec S16 32) (k1_hw18 : k1_chk18 v1445), ∀ a x, ((![v1445] : Fin 1 → IVec S16 32) a x).toNat < S17408.size a := fun v1445 k1_hw18 => k1_hw18

def k1_chk19 (v1450 : IVec S16 32) : Prop :=
  (∀ a x, ((![v1450] : Fin 1 → IVec S16 32) a x).toNat < S17408.size a)
theorem k1_idx19_inb : ∀ (v1450 : IVec S16 32) (k1_hw19 : k1_chk19 v1450), ∀ a x, ((![v1450] : Fin 1 → IVec S16 32) a x).toNat < S17408.size a := fun v1450 k1_hw19 => k1_hw19

def k1_chk20 (v1455 : IVec S16 32) : Prop :=
  (∀ a x, ((![v1455] : Fin 1 → IVec S16 32) a x).toNat < S17408.size a)
theorem k1_idx20_inb : ∀ (v1455 : IVec S16 32) (k1_hw20 : k1_chk20 v1455), ∀ a x, ((![v1455] : Fin 1 → IVec S16 32) a x).toNat < S17408.size a := fun v1455 k1_hw20 => k1_hw20

def k1_chk21 (v1460 : IVec S16 32) : Prop :=
  (∀ a x, ((![v1460] : Fin 1 → IVec S16 32) a x).toNat < S17408.size a)
theorem k1_idx21_inb : ∀ (v1460 : IVec S16 32) (k1_hw21 : k1_chk21 v1460), ∀ a x, ((![v1460] : Fin 1 → IVec S16 32) a x).toNat < S17408.size a := fun v1460 k1_hw21 => k1_hw21

def k1_chk22 (v1465 : IVec S16 32) : Prop :=
  (∀ a x, ((![v1465] : Fin 1 → IVec S16 32) a x).toNat < S17408.size a)
theorem k1_idx22_inb : ∀ (v1465 : IVec S16 32) (k1_hw22 : k1_chk22 v1465), ∀ a x, ((![v1465] : Fin 1 → IVec S16 32) a x).toNat < S17408.size a := fun v1465 k1_hw22 => k1_hw22

def k1_chk23 (v1470 : IVec S16 32) : Prop :=
  (∀ a x, ((![v1470] : Fin 1 → IVec S16 32) a x).toNat < S17408.size a)
theorem k1_idx23_inb : ∀ (v1470 : IVec S16 32) (k1_hw23 : k1_chk23 v1470), ∀ a x, ((![v1470] : Fin 1 → IVec S16 32) a x).toNat < S17408.size a := fun v1470 k1_hw23 => k1_hw23

def k1_chk24 (v1475 : IVec S16 32) : Prop :=
  (∀ a x, ((![v1475] : Fin 1 → IVec S16 32) a x).toNat < S17408.size a)
theorem k1_idx24_inb : ∀ (v1475 : IVec S16 32) (k1_hw24 : k1_chk24 v1475), ∀ a x, ((![v1475] : Fin 1 → IVec S16 32) a x).toNat < S17408.size a := fun v1475 k1_hw24 => k1_hw24

def k1_chk25 (v1480 : IVec S16 32) : Prop :=
  (∀ a x, ((![v1480] : Fin 1 → IVec S16 32) a x).toNat < S17408.size a)
theorem k1_idx25_inb : ∀ (v1480 : IVec S16 32) (k1_hw25 : k1_chk25 v1480), ∀ a x, ((![v1480] : Fin 1 → IVec S16 32) a x).toNat < S17408.size a := fun v1480 k1_hw25 => k1_hw25

def k1_chk26 (v1485 : IVec S16 32) : Prop :=
  (∀ a x, ((![v1485] : Fin 1 → IVec S16 32) a x).toNat < S17408.size a)
theorem k1_idx26_inb : ∀ (v1485 : IVec S16 32) (k1_hw26 : k1_chk26 v1485), ∀ a x, ((![v1485] : Fin 1 → IVec S16 32) a x).toNat < S17408.size a := fun v1485 k1_hw26 => k1_hw26

def k1_chk27 (v1490 : IVec S16 32) : Prop :=
  (∀ a x, ((![v1490] : Fin 1 → IVec S16 32) a x).toNat < S17408.size a)
theorem k1_idx27_inb : ∀ (v1490 : IVec S16 32) (k1_hw27 : k1_chk27 v1490), ∀ a x, ((![v1490] : Fin 1 → IVec S16 32) a x).toNat < S17408.size a := fun v1490 k1_hw27 => k1_hw27

def k1_chk28 (v1495 : IVec S16 32) : Prop :=
  (∀ a x, ((![v1495] : Fin 1 → IVec S16 32) a x).toNat < S17408.size a)
theorem k1_idx28_inb : ∀ (v1495 : IVec S16 32) (k1_hw28 : k1_chk28 v1495), ∀ a x, ((![v1495] : Fin 1 → IVec S16 32) a x).toNat < S17408.size a := fun v1495 k1_hw28 => k1_hw28

def k1_chk29 (v1500 : IVec S16 32) : Prop :=
  (∀ a x, ((![v1500] : Fin 1 → IVec S16 32) a x).toNat < S17408.size a)
theorem k1_idx29_inb : ∀ (v1500 : IVec S16 32) (k1_hw29 : k1_chk29 v1500), ∀ a x, ((![v1500] : Fin 1 → IVec S16 32) a x).toNat < S17408.size a := fun v1500 k1_hw29 => k1_hw29

def k1_chk30 (v1505 : IVec S16 32) : Prop :=
  (∀ a x, ((![v1505] : Fin 1 → IVec S16 32) a x).toNat < S17408.size a)
theorem k1_idx30_inb : ∀ (v1505 : IVec S16 32) (k1_hw30 : k1_chk30 v1505), ∀ a x, ((![v1505] : Fin 1 → IVec S16 32) a x).toNat < S17408.size a := fun v1505 k1_hw30 => k1_hw30

def k1_chk31 (v1510 : IVec S16 32) : Prop :=
  (∀ a x, ((![v1510] : Fin 1 → IVec S16 32) a x).toNat < S17408.size a)
theorem k1_idx31_inb : ∀ (v1510 : IVec S16 32) (k1_hw31 : k1_chk31 v1510), ∀ a x, ((![v1510] : Fin 1 → IVec S16 32) a x).toNat < S17408.size a := fun v1510 k1_hw31 => k1_hw31

def k1_chk32 (v1515 : IVec S16 32) : Prop :=
  (∀ a x, ((![v1515] : Fin 1 → IVec S16 32) a x).toNat < S17408.size a)
theorem k1_idx32_inb : ∀ (v1515 : IVec S16 32) (k1_hw32 : k1_chk32 v1515), ∀ a x, ((![v1515] : Fin 1 → IVec S16 32) a x).toNat < S17408.size a := fun v1515 k1_hw32 => k1_hw32
def k1_off8 (k1_t2 : Fin k1_t2_loop.trips) (k1_t4 : Fin k1_t4_loop.trips) : Fin 2 → Nat :=
  let c0_i32_510 : BitVec 32 := 0#32
  let c1_i32_512 : BitVec 32 := 1#32
  let arg18 : BitVec 32 := Scf.iv c0_i32_510 c1_i32_512 k1_t4
  let v1519 : Index := Scalar.indexCast arg18
  let c0_i32_5 : BitVec 32 := 0#32
  let c1_i32_6 : BitVec 32 := 1#32
  let arg16 : BitVec 32 := Scf.iv c0_i32_5 c1_i32_6 k1_t2
  let c16_i32_9 : BitVec 32 := 16#32
  let v11 : BitVec 32 := Scalar.muli arg16 c16_i32_9
  let v1520 : Index := Scalar.indexCast v11
  ![v1519.toNat, v1520.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x16x2048x64 : Shape := ⟨4, ![1, 16, 2048, 64]⟩
abbrev S32 : Shape := ⟨1, ![32]⟩
abbrev S2048 : Shape := ⟨1, ![2048]⟩
abbrev S_ : Shape := ⟨0, ![]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S2048x16x1 : Shape := ⟨3, ![2048, 16, 1]⟩
abbrev S1x16x2048x16x64 : Shape := ⟨5, ![1, 16, 2048, 16, 64]⟩
abbrev S1x16x2048x16 : Shape := ⟨4, ![1, 16, 2048, 16]⟩
abbrev S1x1x2048x16 : Shape := ⟨4, ![1, 1, 2048, 16]⟩
abbrev S1x16x2048x6 : Shape := ⟨4, ![1, 16, 2048, 6]⟩
abbrev S16x2048x6x1 : Shape := ⟨4, ![16, 2048, 6, 1]⟩
abbrev S1x16x2048x6x1 : Shape := ⟨5, ![1, 16, 2048, 6, 1]⟩
abbrev S1x16x2048x6x64 : Shape := ⟨5, ![1, 16, 2048, 6, 64]⟩
abbrev S16x2048x64 : Shape := ⟨3, ![16, 2048, 64]⟩
abbrev S16x2048 : Shape := ⟨2, ![16, 2048]⟩
abbrev S16x2048x1 : Shape := ⟨3, ![16, 2048, 1]⟩
abbrev S32x1 : Shape := ⟨2, ![32, 1]⟩
abbrev S16x32x64 : Shape := ⟨3, ![16, 32, 64]⟩
abbrev S16x2048x32 : Shape := ⟨3, ![16, 2048, 32]⟩
abbrev S16x2048x6 : Shape := ⟨3, ![16, 2048, 6]⟩
abbrev S16x12 : Shape := ⟨2, ![16, 12]⟩
abbrev S16x12x1 : Shape := ⟨3, ![16, 12, 1]⟩
abbrev S16x12x32 : Shape := ⟨3, ![16, 12, 32]⟩
abbrev S16x32 : Shape := ⟨2, ![16, 32]⟩
abbrev S16x1x32 : Shape := ⟨3, ![16, 1, 32]⟩
abbrev S16x1 : Shape := ⟨2, ![16, 1]⟩
abbrev S12 : Shape := ⟨1, ![12]⟩
abbrev S1x12 : Shape := ⟨2, ![1, 12]⟩
abbrev S16x1x1 : Shape := ⟨3, ![16, 1, 1]⟩
abbrev S16x4 : Shape := ⟨2, ![16, 4]⟩
abbrev S16x4x1 : Shape := ⟨3, ![16, 4, 1]⟩
abbrev S1x16x4x1 : Shape := ⟨4, ![1, 16, 4, 1]⟩
abbrev S1x16x4x64 : Shape := ⟨4, ![1, 16, 4, 64]⟩
abbrev S1x16x2048x4 : Shape := ⟨4, ![1, 16, 2048, 4]⟩
abbrev S1x16x2048x10 : Shape := ⟨4, ![1, 16, 2048, 10]⟩
abbrev S1x16x2048 : Shape := ⟨3, ![1, 16, 2048]⟩
abbrev S1x16x2048x1 : Shape := ⟨4, ![1, 16, 2048, 1]⟩

abbrev nBuf : Space → Nat
  | .hbm => 381
  | .vmem => 0
  | .smem => 0
  | _ => 0

abbrev hbmTy0_0 (i : Nat) : BufTy := match i % 128 with
  | 0 => ⟨S1x16x2048x64, .f32⟩
  | 1 => ⟨S1x16x2048x64, .f32⟩
  | 2 => ⟨S1x16x2048x64, .f32⟩
  | 3 => ⟨S32, .i32⟩
  | 4 => ⟨S32, .i1⟩
  | 5 => ⟨S2048, .i32⟩
  | 6 => ⟨S_, .i32⟩
  | 7 => ⟨S2048, .i32⟩
  | 8 => ⟨S2048, .i32⟩
  | 9 => ⟨S_, .i32⟩
  | 10 => ⟨S_, .i32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S2048x1, .i32⟩
  | 18 => ⟨S16, .i32⟩
  | 19 => ⟨S1x16, .i32⟩
  | 20 => ⟨S2048x16, .i32⟩
  | 21 => ⟨S2048x16, .i32⟩
  | 22 => ⟨S2048x16, .i32⟩
  | 23 => ⟨S_, .i32⟩
  | 24 => ⟨S2048x16, .i32⟩
  | 25 => ⟨S2048x16, .i1⟩
  | 26 => ⟨S_, .i32⟩
  | 27 => ⟨S2048x16, .i32⟩
  | 28 => ⟨S2048x16, .i32⟩
  | 29 => ⟨S2048x16, .i32⟩
  | 30 => ⟨S2048x16x1, .i32⟩
  | 31 => ⟨S1x16x2048x16x64, .f32⟩
  | 32 => ⟨S_, .i32⟩
  | 33 => ⟨S2048x16, .i32⟩
  | 34 => ⟨S2048x16, .i1⟩
  | 35 => ⟨S_, .i32⟩
  | 36 => ⟨S2048x16, .i32⟩
  | 37 => ⟨S2048x16, .i32⟩
  | 38 => ⟨S2048x16, .i32⟩
  | 39 => ⟨S2048x16x1, .i32⟩
  | 40 => ⟨S1x16x2048x16x64, .f32⟩
  | 41 => ⟨S1x16x2048x16, .f32⟩
  | 42 => ⟨S_, .f32⟩
  | 43 => ⟨S1x16x2048x16, .f32⟩
  | 44 => ⟨S1x16x2048x16, .f32⟩
  | 45 => ⟨S2048, .i32⟩
  | 46 => ⟨S2048x1, .i32⟩
  | 47 => ⟨S2048x16, .i32⟩
  | 48 => ⟨S2048x16, .i32⟩
  | 49 => ⟨S2048x16, .i32⟩
  | 50 => ⟨S2048x16, .f32⟩
  | 51 => ⟨S2048x16, .f32⟩
  | 52 => ⟨S_, .f32⟩
  | 53 => ⟨S2048x16, .f32⟩
  | 54 => ⟨S2048x16, .f32⟩
  | 55 => ⟨S2048x16, .f32⟩
  | 56 => ⟨S1x1x2048x16, .f32⟩
  | 57 => ⟨S_, .f32⟩
  | 58 => ⟨S1x1x2048x16, .f32⟩
  | 59 => ⟨S1x1x2048x16, .f32⟩
  | 60 => ⟨S1x16x2048x16, .f32⟩
  | 61 => ⟨S1x16x2048x16, .f32⟩
  | 62 => ⟨S1x16x2048x6, .f32⟩
  | 63 => ⟨S1x16x2048x6, .i32⟩
  | 64 => ⟨S_, .i32⟩
  | 65 => ⟨S1x16x2048x6, .i32⟩
  | 66 => ⟨S1x16x2048x6, .i1⟩
  | 67 => ⟨S_, .i32⟩
  | 68 => ⟨S1x16x2048x6, .i32⟩
  | 69 => ⟨S1x16x2048x6, .i32⟩
  | 70 => ⟨S1x16x2048x6, .i32⟩
  | 71 => ⟨S16x2048x6x1, .i32⟩
  | 72 => ⟨S1x16x2048x6, .f32⟩
  | 73 => ⟨S1x16x2048x6x1, .i32⟩
  | 74 => ⟨S_, .i32⟩
  | 75 => ⟨S1x16x2048x6x1, .i32⟩
  | 76 => ⟨S1x16x2048x6x1, .i1⟩
  | 77 => ⟨S_, .i32⟩
  | 78 => ⟨S1x16x2048x6x1, .i32⟩
  | 79 => ⟨S1x16x2048x6x1, .i32⟩
  | 80 => ⟨S1x16x2048x6x1, .i32⟩
  | 81 => ⟨S16x2048x6x1, .i32⟩
  | 82 => ⟨S1x16x2048x6x64, .f32⟩
  | 83 => ⟨S_, .f32⟩
  | 84 => ⟨S16x2048x64, .f32⟩
  | 85 => ⟨S_, .f32⟩
  | 86 => ⟨S16x2048x64, .f32⟩
  | 87 => ⟨S16x2048x64, .f32⟩
  | 88 => ⟨S16x2048x64, .f32⟩
  | 89 => ⟨S_, .f32⟩
  | 90 => ⟨S16x2048, .f32⟩
  | 91 => ⟨S16x2048x1, .f32⟩
  | 92 => ⟨S16x2048x1, .f32⟩
  | 93 => ⟨S_, .f32⟩
  | 94 => ⟨S16x2048x1, .f32⟩
  | 95 => ⟨S16x2048x1, .f32⟩
  | 96 => ⟨S16x2048x64, .f32⟩
  | 97 => ⟨S16x2048x64, .f32⟩
  | 98 => ⟨S_, .f32⟩
  | 99 => ⟨S16x2048x64, .f32⟩
  | 100 => ⟨S_, .f32⟩
  | 101 => ⟨S16x2048x64, .f32⟩
  | 102 => ⟨S16x2048x64, .f32⟩
  | 103 => ⟨S16x2048x64, .f32⟩
  | 104 => ⟨S_, .f32⟩
  | 105 => ⟨S16x2048, .f32⟩
  | 106 => ⟨S16x2048x1, .f32⟩
  | 107 => ⟨S16x2048x1, .f32⟩
  | 108 => ⟨S_, .f32⟩
  | 109 => ⟨S16x2048x1, .f32⟩
  | 110 => ⟨S16x2048x1, .f32⟩
  | 111 => ⟨S16x2048x64, .f32⟩
  | 112 => ⟨S16x2048x64, .f32⟩
  | 113 => ⟨S_, .i32⟩
  | 114 => ⟨S32, .i32⟩
  | 115 => ⟨S32, .i32⟩
  | 116 => ⟨S32, .i32⟩
  | 117 => ⟨S32x1, .i32⟩
  | 118 => ⟨S16x32x64, .f32⟩
  | 119 => ⟨S16x2048x32, .f32⟩
  | 120 => ⟨S_, .f32⟩
  | 121 => ⟨S16x2048x32, .f32⟩
  | 122 => ⟨S16x2048x32, .f32⟩
  | 123 => ⟨S_, .f32⟩
  | 124 => ⟨S16x2048, .f32⟩
  | 125 => ⟨S_, .f32⟩
  | 126 => ⟨S16x2048, .f32⟩
  | 127 => ⟨S16x2048, .f32⟩
  | _ => ⟨S1x16x2048x64, .f32⟩

abbrev hbmTy0_1 (i : Nat) : BufTy := match i % 128 with
  | 0 => ⟨S_, .f32⟩
  | 1 => ⟨S16x2048, .f32⟩
  | 2 => ⟨S16x2048x6, .f32⟩
  | 3 => ⟨S16x2048x6, .i32⟩
  | 4 => ⟨S_, .f32⟩
  | 5 => ⟨S16x2048, .f32⟩
  | 6 => ⟨S_, .f32⟩
  | 7 => ⟨S16x2048, .f32⟩
  | 8 => ⟨S16x2048, .f32⟩
  | 9 => ⟨S_, .i32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S16x2048x32, .f32⟩
  | 17 => ⟨S16x2048x32, .f32⟩
  | 18 => ⟨S16x2048x32, .f32⟩
  | 19 => ⟨S_, .f32⟩
  | 20 => ⟨S_, .f32⟩
  | 21 => ⟨S_, .f32⟩
  | 22 => ⟨S_, .f32⟩
  | 23 => ⟨S16x2048, .f32⟩
  | 24 => ⟨S16x2048, .f32⟩
  | 25 => ⟨S16x2048, .f32⟩
  | 26 => ⟨S_, .f32⟩
  | 27 => ⟨S_, .i1⟩
  | 28 => ⟨S_, .f32⟩
  | 29 => ⟨S_, .f32⟩
  | 30 => ⟨S16x2048, .f32⟩
  | 31 => ⟨S16x2048, .f32⟩
  | 32 => ⟨S16x2048, .f32⟩
  | 33 => ⟨S_, .f32⟩
  | 34 => ⟨S16x2048, .f32⟩
  | 35 => ⟨S16x2048, .f32⟩
  | 36 => ⟨S_, .f32⟩
  | 37 => ⟨S16x2048, .f32⟩
  | 38 => ⟨S16x2048, .f32⟩
  | 39 => ⟨S16x2048, .f32⟩
  | 40 => ⟨S_, .f32⟩
  | 41 => ⟨S16x2048, .f32⟩
  | 42 => ⟨S16x2048, .f32⟩
  | 43 => ⟨S16x2048, .f32⟩
  | 44 => ⟨S_, .f32⟩
  | 45 => ⟨S16x2048, .f32⟩
  | 46 => ⟨S16x2048, .f32⟩
  | 47 => ⟨S16x2048, .f32⟩
  | 48 => ⟨S16x12, .f32⟩
  | 49 => ⟨S16x12, .i32⟩
  | 50 => ⟨S16x12x1, .i32⟩
  | 51 => ⟨S_, .i32⟩
  | 52 => ⟨S16x12x1, .i32⟩
  | 53 => ⟨S16x12x1, .i1⟩
  | 54 => ⟨S_, .i32⟩
  | 55 => ⟨S16x12x1, .i32⟩
  | 56 => ⟨S16x12x1, .i32⟩
  | 57 => ⟨S16x12x1, .i32⟩
  | 58 => ⟨S16x12x32, .f32⟩
  | 59 => ⟨S_, .f32⟩
  | 60 => ⟨S16x32, .f32⟩
  | 61 => ⟨S_, .i1⟩
  | 62 => ⟨S16x12, .i1⟩
  | 63 => ⟨S16x1x32, .f32⟩
  | 64 => ⟨S16x12x32, .f32⟩
  | 65 => ⟨S16x12x32, .f32⟩
  | 66 => ⟨S_, .f32⟩
  | 67 => ⟨S16x12x32, .f32⟩
  | 68 => ⟨S16x12x32, .f32⟩
  | 69 => ⟨S_, .f32⟩
  | 70 => ⟨S16x12, .f32⟩
  | 71 => ⟨S_, .f32⟩
  | 72 => ⟨S_, .f32⟩
  | 73 => ⟨S16x12, .f32⟩
  | 74 => ⟨S16x12, .f32⟩
  | 75 => ⟨S16x1, .f32⟩
  | 76 => ⟨S16x1, .i32⟩
  | 77 => ⟨S16, .i32⟩
  | 78 => ⟨S12, .i32⟩
  | 79 => ⟨S1x12, .i32⟩
  | 80 => ⟨S16x1, .i32⟩
  | 81 => ⟨S16x12, .i32⟩
  | 82 => ⟨S16x12, .i32⟩
  | 83 => ⟨S16x12, .i1⟩
  | 84 => ⟨S16x12, .i1⟩
  | 85 => ⟨S16x1x1, .i32⟩
  | 86 => ⟨S_, .i32⟩
  | 87 => ⟨S16x1x1, .i32⟩
  | 88 => ⟨S16x1x1, .i1⟩
  | 89 => ⟨S_, .i32⟩
  | 90 => ⟨S16x1x1, .i32⟩
  | 91 => ⟨S16x1x1, .i32⟩
  | 92 => ⟨S16x1x1, .i32⟩
  | 93 => ⟨S16x1x32, .f32⟩
  | 94 => ⟨S16x32, .f32⟩
  | 95 => ⟨S16x32, .f32⟩
  | 96 => ⟨S16x1x32, .f32⟩
  | 97 => ⟨S16x12x32, .f32⟩
  | 98 => ⟨S16x12x32, .f32⟩
  | 99 => ⟨S_, .f32⟩
  | 100 => ⟨S16x12x32, .f32⟩
  | 101 => ⟨S16x12x32, .f32⟩
  | 102 => ⟨S_, .f32⟩
  | 103 => ⟨S16x12, .f32⟩
  | 104 => ⟨S_, .f32⟩
  | 105 => ⟨S_, .f32⟩
  | 106 => ⟨S16x12, .f32⟩
  | 107 => ⟨S16x12, .f32⟩
  | 108 => ⟨S16x1, .f32⟩
  | 109 => ⟨S16x1, .i32⟩
  | 110 => ⟨S16, .i32⟩
  | 111 => ⟨S12, .i32⟩
  | 112 => ⟨S1x12, .i32⟩
  | 113 => ⟨S16x1, .i32⟩
  | 114 => ⟨S16x12, .i32⟩
  | 115 => ⟨S16x12, .i32⟩
  | 116 => ⟨S16x12, .i1⟩
  | 117 => ⟨S16x12, .i1⟩
  | 118 => ⟨S16x1x1, .i32⟩
  | 119 => ⟨S_, .i32⟩
  | 120 => ⟨S16x1x1, .i32⟩
  | 121 => ⟨S16x1x1, .i1⟩
  | 122 => ⟨S_, .i32⟩
  | 123 => ⟨S16x1x1, .i32⟩
  | 124 => ⟨S16x1x1, .i32⟩
  | 125 => ⟨S16x1x1, .i32⟩
  | 126 => ⟨S16x1x32, .f32⟩
  | 127 => ⟨S16x32, .f32⟩
  | _ => ⟨S1x16x2048x64, .f32⟩

abbrev hbmTy0_2 (i : Nat) : BufTy := match i % 128 with
  | 0 => ⟨S16x32, .f32⟩
  | 1 => ⟨S16x1x32, .f32⟩
  | 2 => ⟨S16x12x32, .f32⟩
  | 3 => ⟨S16x12x32, .f32⟩
  | 4 => ⟨S_, .f32⟩
  | 5 => ⟨S16x12x32, .f32⟩
  | 6 => ⟨S16x12x32, .f32⟩
  | 7 => ⟨S_, .f32⟩
  | 8 => ⟨S16x12, .f32⟩
  | 9 => ⟨S_, .f32⟩
  | 10 => ⟨S_, .f32⟩
  | 11 => ⟨S16x12, .f32⟩
  | 12 => ⟨S16x12, .f32⟩
  | 13 => ⟨S16x1, .f32⟩
  | 14 => ⟨S16x1, .i32⟩
  | 15 => ⟨S16, .i32⟩
  | 16 => ⟨S12, .i32⟩
  | 17 => ⟨S1x12, .i32⟩
  | 18 => ⟨S16x1, .i32⟩
  | 19 => ⟨S16x12, .i32⟩
  | 20 => ⟨S16x12, .i32⟩
  | 21 => ⟨S16x12, .i1⟩
  | 22 => ⟨S16x12, .i1⟩
  | 23 => ⟨S16x1x1, .i32⟩
  | 24 => ⟨S_, .i32⟩
  | 25 => ⟨S16x1x1, .i32⟩
  | 26 => ⟨S16x1x1, .i1⟩
  | 27 => ⟨S_, .i32⟩
  | 28 => ⟨S16x1x1, .i32⟩
  | 29 => ⟨S16x1x1, .i32⟩
  | 30 => ⟨S16x1x1, .i32⟩
  | 31 => ⟨S16x1x32, .f32⟩
  | 32 => ⟨S16x32, .f32⟩
  | 33 => ⟨S16x32, .f32⟩
  | 34 => ⟨S16x1x32, .f32⟩
  | 35 => ⟨S16x12x32, .f32⟩
  | 36 => ⟨S16x12x32, .f32⟩
  | 37 => ⟨S_, .f32⟩
  | 38 => ⟨S16x12x32, .f32⟩
  | 39 => ⟨S16x12x32, .f32⟩
  | 40 => ⟨S_, .f32⟩
  | 41 => ⟨S16x12, .f32⟩
  | 42 => ⟨S_, .f32⟩
  | 43 => ⟨S_, .f32⟩
  | 44 => ⟨S16x12, .f32⟩
  | 45 => ⟨S16x12, .f32⟩
  | 46 => ⟨S16x1, .f32⟩
  | 47 => ⟨S16x1, .i32⟩
  | 48 => ⟨S16, .i32⟩
  | 49 => ⟨S12, .i32⟩
  | 50 => ⟨S1x12, .i32⟩
  | 51 => ⟨S16x1, .i32⟩
  | 52 => ⟨S16x12, .i32⟩
  | 53 => ⟨S16x12, .i32⟩
  | 54 => ⟨S16x12, .i1⟩
  | 55 => ⟨S16x12, .i1⟩
  | 56 => ⟨S16x1x1, .i32⟩
  | 57 => ⟨S_, .i32⟩
  | 58 => ⟨S16x1x1, .i32⟩
  | 59 => ⟨S16x1x1, .i1⟩
  | 60 => ⟨S_, .i32⟩
  | 61 => ⟨S16x1x1, .i32⟩
  | 62 => ⟨S16x1x1, .i32⟩
  | 63 => ⟨S16x1x1, .i32⟩
  | 64 => ⟨S16x1x32, .f32⟩
  | 65 => ⟨S16x32, .f32⟩
  | 66 => ⟨S16x32, .f32⟩
  | 67 => ⟨S16x1, .i32⟩
  | 68 => ⟨S16x1, .i32⟩
  | 69 => ⟨S16x1, .i32⟩
  | 70 => ⟨S16x1, .i32⟩
  | 71 => ⟨S16x4, .i32⟩
  | 72 => ⟨S_, .i32⟩
  | 73 => ⟨S16x4, .i32⟩
  | 74 => ⟨S16x4, .i1⟩
  | 75 => ⟨S_, .i32⟩
  | 76 => ⟨S16x4, .i32⟩
  | 77 => ⟨S16x4, .i32⟩
  | 78 => ⟨S16x4, .i32⟩
  | 79 => ⟨S16x4x1, .i32⟩
  | 80 => ⟨S16x4, .i32⟩
  | 81 => ⟨S1x16x4x1, .i32⟩
  | 82 => ⟨S_, .i32⟩
  | 83 => ⟨S1x16x4x1, .i32⟩
  | 84 => ⟨S1x16x4x1, .i1⟩
  | 85 => ⟨S_, .i32⟩
  | 86 => ⟨S1x16x4x1, .i32⟩
  | 87 => ⟨S1x16x4x1, .i32⟩
  | 88 => ⟨S1x16x4x1, .i32⟩
  | 89 => ⟨S16x4x1, .i32⟩
  | 90 => ⟨S1x16x4x64, .f32⟩
  | 91 => ⟨S1x16x4x1, .i32⟩
  | 92 => ⟨S_, .i32⟩
  | 93 => ⟨S1x16x4x1, .i32⟩
  | 94 => ⟨S1x16x4x1, .i1⟩
  | 95 => ⟨S_, .i32⟩
  | 96 => ⟨S1x16x4x1, .i32⟩
  | 97 => ⟨S1x16x4x1, .i32⟩
  | 98 => ⟨S1x16x4x1, .i32⟩
  | 99 => ⟨S16x4x1, .i32⟩
  | 100 => ⟨S1x16x4x64, .f32⟩
  | 101 => ⟨S1x16x2048x4, .f32⟩
  | 102 => ⟨S_, .f32⟩
  | 103 => ⟨S1x16x2048x4, .f32⟩
  | 104 => ⟨S1x16x2048x4, .f32⟩
  | 105 => ⟨S1x16x2048x10, .f32⟩
  | 106 => ⟨S_, .f32⟩
  | 107 => ⟨S1x16x2048, .f32⟩
  | 108 => ⟨S_, .f32⟩
  | 109 => ⟨S1x16x2048, .f32⟩
  | 110 => ⟨S1x16x2048, .f32⟩
  | 111 => ⟨S1x16x2048x1, .f32⟩
  | 112 => ⟨S1x16x2048x10, .f32⟩
  | 113 => ⟨S1x16x2048x10, .f32⟩
  | 114 => ⟨S1x16x2048x10, .f32⟩
  | 115 => ⟨S_, .f32⟩
  | 116 => ⟨S1x16x2048, .f32⟩
  | 117 => ⟨S1x16x2048x1, .f32⟩
  | 118 => ⟨S1x16x2048x10, .f32⟩
  | 119 => ⟨S1x16x2048x10, .f32⟩
  | 120 => ⟨S1x16x2048x6, .f32⟩
  | 121 => ⟨S1x16x2048x4, .f32⟩
  | 122 => ⟨S1x16x2048x64, .f32⟩
  | 123 => ⟨S1x16x2048x64, .f32⟩
  | 124 => ⟨S1x16x2048x64, .f32⟩
  | _ => ⟨S1x16x2048x64, .f32⟩

abbrev hbmTy (i : Nat) : BufTy := match i / 128 with
  | 0 => hbmTy0_0 i
  | 1 => hbmTy0_1 i
  | 2 => hbmTy0_2 i
  | _ => ⟨S1x16x2048x64, .f32⟩

abbrev bufTy : (tb : Table) → Fin (tcTables nBuf tb) → BufTy
  | .hbm, ⟨i, _⟩ => hbmTy i
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_c_3 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_values : Ref sig .tc := ⟨.hbm, 62, rfl⟩
abbrev main_indices : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_v42 : Ref sig .tc := ⟨.hbm, 72, rfl⟩
abbrev main_v43 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_v44 : Ref sig .tc := ⟨.hbm, 82, rfl⟩
abbrev main_cst_10 : Ref sig .tc := ⟨.hbm, 83, rfl⟩
abbrev main_v45 : Ref sig .tc := ⟨.hbm, 84, rfl⟩
abbrev main_cst_11 : Ref sig .tc := ⟨.hbm, 85, rfl⟩
abbrev main_v46 : Ref sig .tc := ⟨.hbm, 86, rfl⟩
abbrev main_v47 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_call3_v2 : Ref sig .tc := ⟨.hbm, 91, rfl⟩
abbrev main_v48 : Ref sig .tc := ⟨.hbm, 92, rfl⟩
abbrev main_cst_12 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_13 : Ref sig .tc := ⟨.hbm, 98, rfl⟩
abbrev main_v53 : Ref sig .tc := ⟨.hbm, 99, rfl⟩
abbrev main_cst_14 : Ref sig .tc := ⟨.hbm, 100, rfl⟩
abbrev main_v54 : Ref sig .tc := ⟨.hbm, 101, rfl⟩
abbrev main_v55 : Ref sig .tc := ⟨.hbm, 102, rfl⟩
abbrev main_call4_v0 : Ref sig .tc := ⟨.hbm, 103, rfl⟩
abbrev main_call4_cst : Ref sig .tc := ⟨.hbm, 104, rfl⟩
abbrev main_call4_v1 : Ref sig .tc := ⟨.hbm, 105, rfl⟩
abbrev main_call4_v2 : Ref sig .tc := ⟨.hbm, 106, rfl⟩
abbrev main_v56 : Ref sig .tc := ⟨.hbm, 107, rfl⟩
abbrev main_cst_15 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_16 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_call5_cst : Ref sig .tc := ⟨.hbm, 120, rfl⟩
abbrev main_call5_v0 : Ref sig .tc := ⟨.hbm, 121, rfl⟩
abbrev main_v67 : Ref sig .tc := ⟨.hbm, 122, rfl⟩
abbrev main_cst_17 : Ref sig .tc := ⟨.hbm, 123, rfl⟩
abbrev main_v68 : Ref sig .tc := ⟨.hbm, 124, rfl⟩
abbrev main_cst_18 : Ref sig .tc := ⟨.hbm, 125, rfl⟩
abbrev main_v69 : Ref sig .tc := ⟨.hbm, 126, rfl⟩
abbrev main_v70 : Ref sig .tc := ⟨.hbm, 127, rfl⟩
abbrev main_cst_19 : Ref sig .tc := ⟨.hbm, 128, rfl⟩
abbrev main_v71 : Ref sig .tc := ⟨.hbm, 129, rfl⟩
abbrev main_values_20 : Ref sig .tc := ⟨.hbm, 130, rfl⟩
abbrev main_indices_21 : Ref sig .tc := ⟨.hbm, 131, rfl⟩
abbrev main_cst_22 : Ref sig .tc := ⟨.hbm, 132, rfl⟩
abbrev main_v72 : Ref sig .tc := ⟨.hbm, 133, rfl⟩
abbrev main_cst_23 : Ref sig .tc := ⟨.hbm, 134, rfl⟩
abbrev main_v73 : Ref sig .tc := ⟨.hbm, 135, rfl⟩
abbrev main_v74 : Ref sig .tc := ⟨.hbm, 136, rfl⟩
abbrev main_c_24 : Ref sig .tc := ⟨.hbm, 137, rfl⟩
abbrev main_call6_call0_cst : Ref sig .tc := ⟨.hbm, 138, rfl⟩
abbrev main_call6_call0_v0 : Ref sig .tc := ⟨.hbm, 139, rfl⟩
abbrev main_call6_call0_v1 : Ref sig .tc := ⟨.hbm, 140, rfl⟩
abbrev main_call6_call0_cst_0 : Ref sig .tc := ⟨.hbm, 141, rfl⟩
abbrev main_call6_call0_v2 : Ref sig .tc := ⟨.hbm, 142, rfl⟩
abbrev main_call6_call0_v3 : Ref sig .tc := ⟨.hbm, 143, rfl⟩
abbrev main_call6_call0_v4 : Ref sig .tc := ⟨.hbm, 144, rfl⟩
abbrev main_call6_call0_v5 : Ref sig .tc := ⟨.hbm, 145, rfl⟩
abbrev main_call6_call0_v6 : Ref sig .tc := ⟨.hbm, 146, rfl⟩
abbrev main_call6_call0_v7 : Ref sig .tc := ⟨.hbm, 147, rfl⟩
abbrev main_call6_call0_cst_1 : Ref sig .tc := ⟨.hbm, 148, rfl⟩
abbrev main_call6_call0_v8 : Ref sig .tc := ⟨.hbm, 149, rfl⟩
abbrev main_call6_call0_cst_2 : Ref sig .tc := ⟨.hbm, 150, rfl⟩
abbrev main_call6_call0_v9 : Ref sig .tc := ⟨.hbm, 151, rfl⟩
abbrev main_call6_call0_v10 : Ref sig .tc := ⟨.hbm, 152, rfl⟩
abbrev main_call6_call0_v11 : Ref sig .tc := ⟨.hbm, 153, rfl⟩
abbrev main_call6_call0_cst_3 : Ref sig .tc := ⟨.hbm, 154, rfl⟩
abbrev main_call6_call0_v12 : Ref sig .tc := ⟨.hbm, 155, rfl⟩
abbrev main_call6_call0_cst_4 : Ref sig .tc := ⟨.hbm, 156, rfl⟩
abbrev main_call6_call0_call0_v0 : Ref sig .tc := ⟨.hbm, 157, rfl⟩
abbrev main_call6_call0_call0_v1 : Ref sig .tc := ⟨.hbm, 158, rfl⟩
abbrev main_call6_v0 : Ref sig .tc := ⟨.hbm, 159, rfl⟩
abbrev main_v75 : Ref sig .tc := ⟨.hbm, 160, rfl⟩
abbrev main_cst_25 : Ref sig .tc := ⟨.hbm, 161, rfl⟩
abbrev main_v76 : Ref sig .tc := ⟨.hbm, 162, rfl⟩
abbrev main_v77 : Ref sig .tc := ⟨.hbm, 163, rfl⟩
abbrev main_cst_26 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_27 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_cst_28 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_values_29 : Ref sig .tc := ⟨.hbm, 176, rfl⟩
abbrev main_indices_30 : Ref sig .tc := ⟨.hbm, 177, rfl⟩
abbrev main_v87 : Ref sig .tc := ⟨.hbm, 178, rfl⟩
abbrev main_call7_c : Ref sig .tc := ⟨.hbm, 179, rfl⟩
abbrev main_call7_v0 : Ref sig .tc := ⟨.hbm, 180, rfl⟩
abbrev main_call7_v1 : Ref sig .tc := ⟨.hbm, 181, rfl⟩
abbrev main_call7_c_0 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_v88 : Ref sig .tc := ⟨.hbm, 186, rfl⟩
abbrev main_cst_31 : Ref sig .tc := ⟨.hbm, 187, rfl⟩
abbrev main_v89 : Ref sig .tc := ⟨.hbm, 188, rfl⟩
abbrev main_c_32 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_call8_cst : Ref sig .tc := ⟨.hbm, 194, rfl⟩
abbrev main_call8_v0 : Ref sig .tc := ⟨.hbm, 195, rfl⟩
abbrev main_v94 : Ref sig .tc := ⟨.hbm, 196, rfl⟩
abbrev main_cst_33 : Ref sig .tc := ⟨.hbm, 197, rfl⟩
abbrev main_v95 : Ref sig .tc := ⟨.hbm, 198, rfl⟩
abbrev main_cst_34 : Ref sig .tc := ⟨.hbm, 199, rfl⟩
abbrev main_call9_v0 : Ref sig .tc := ⟨.hbm, 200, rfl⟩
abbrev main_call9_v1 : Ref sig .tc := ⟨.hbm, 201, rfl⟩
abbrev main_v96 : Ref sig .tc := ⟨.hbm, 202, rfl⟩
abbrev main_values_35 : Ref sig .tc := ⟨.hbm, 203, rfl⟩
abbrev main_indices_36 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_call10_c : Ref sig .tc := ⟨.hbm, 214, rfl⟩
abbrev main_call10_v0 : Ref sig .tc := ⟨.hbm, 215, rfl⟩
abbrev main_call10_v1 : Ref sig .tc := ⟨.hbm, 216, rfl⟩
abbrev main_call10_c_0 : Ref sig .tc := ⟨.hbm, 217, rfl⟩
abbrev main_call10_v2 : Ref sig .tc := ⟨.hbm, 218, rfl⟩
abbrev main_call10_v3 : Ref sig .tc := ⟨.hbm, 219, rfl⟩
abbrev main_call10_v4 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_call11_cst : Ref sig .tc := ⟨.hbm, 227, rfl⟩
abbrev main_call11_v0 : Ref sig .tc := ⟨.hbm, 228, rfl⟩
abbrev main_v112 : Ref sig .tc := ⟨.hbm, 229, rfl⟩
abbrev main_cst_37 : Ref sig .tc := ⟨.hbm, 230, rfl⟩
abbrev main_v113 : Ref sig .tc := ⟨.hbm, 231, rfl⟩
abbrev main_cst_38 : Ref sig .tc := ⟨.hbm, 232, rfl⟩
abbrev main_call12_v0 : Ref sig .tc := ⟨.hbm, 233, rfl⟩
abbrev main_call12_v1 : Ref sig .tc := ⟨.hbm, 234, rfl⟩
abbrev main_v114 : Ref sig .tc := ⟨.hbm, 235, rfl⟩
abbrev main_values_39 : Ref sig .tc := ⟨.hbm, 236, rfl⟩
abbrev main_indices_40 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_call13_c : Ref sig .tc := ⟨.hbm, 247, rfl⟩
abbrev main_call13_v0 : Ref sig .tc := ⟨.hbm, 248, rfl⟩
abbrev main_call13_v1 : Ref sig .tc := ⟨.hbm, 249, rfl⟩
abbrev main_call13_c_0 : Ref sig .tc := ⟨.hbm, 250, rfl⟩
abbrev main_call13_v2 : Ref sig .tc := ⟨.hbm, 251, rfl⟩
abbrev main_call13_v3 : Ref sig .tc := ⟨.hbm, 252, rfl⟩
abbrev main_call13_v4 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_call14_cst : Ref sig .tc := ⟨.hbm, 260, rfl⟩
abbrev main_call14_v0 : Ref sig .tc := ⟨.hbm, 261, rfl⟩
abbrev main_v130 : Ref sig .tc := ⟨.hbm, 262, rfl⟩
abbrev main_cst_41 : Ref sig .tc := ⟨.hbm, 263, rfl⟩
abbrev main_v131 : Ref sig .tc := ⟨.hbm, 264, rfl⟩
abbrev main_cst_42 : Ref sig .tc := ⟨.hbm, 265, rfl⟩
abbrev main_call15_v0 : Ref sig .tc := ⟨.hbm, 266, rfl⟩
abbrev main_call15_v1 : Ref sig .tc := ⟨.hbm, 267, rfl⟩
abbrev main_v132 : Ref sig .tc := ⟨.hbm, 268, rfl⟩
abbrev main_values_43 : Ref sig .tc := ⟨.hbm, 269, rfl⟩
abbrev main_indices_44 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_call16_c : Ref sig .tc := ⟨.hbm, 280, rfl⟩
abbrev main_call16_v0 : Ref sig .tc := ⟨.hbm, 281, rfl⟩
abbrev main_call16_v1 : Ref sig .tc := ⟨.hbm, 282, rfl⟩
abbrev main_call16_c_0 : Ref sig .tc := ⟨.hbm, 283, rfl⟩
abbrev main_call16_v2 : Ref sig .tc := ⟨.hbm, 284, rfl⟩
abbrev main_call16_v3 : Ref sig .tc := ⟨.hbm, 285, rfl⟩
abbrev main_call16_v4 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_v147 : Ref sig .tc := ⟨.hbm, 292, rfl⟩
abbrev main_call17_cst : Ref sig .tc := ⟨.hbm, 293, rfl⟩
abbrev main_call17_v0 : Ref sig .tc := ⟨.hbm, 294, rfl⟩
abbrev main_v148 : Ref sig .tc := ⟨.hbm, 295, rfl⟩
abbrev main_cst_45 : Ref sig .tc := ⟨.hbm, 296, rfl⟩
abbrev main_v149 : Ref sig .tc := ⟨.hbm, 297, rfl⟩
abbrev main_cst_46 : Ref sig .tc := ⟨.hbm, 298, rfl⟩
abbrev main_call18_v0 : Ref sig .tc := ⟨.hbm, 299, rfl⟩
abbrev main_call18_v1 : Ref sig .tc := ⟨.hbm, 300, rfl⟩
abbrev main_v150 : Ref sig .tc := ⟨.hbm, 301, rfl⟩
abbrev main_values_47 : Ref sig .tc := ⟨.hbm, 302, rfl⟩
abbrev main_indices_48 : Ref sig .tc := ⟨.hbm, 303, rfl⟩
abbrev main_v151 : Ref sig .tc := ⟨.hbm, 304, rfl⟩
abbrev main_v152 : Ref sig .tc := ⟨.hbm, 305, rfl⟩
abbrev main_v153 : Ref sig .tc := ⟨.hbm, 306, rfl⟩
abbrev main_v154 : Ref sig .tc := ⟨.hbm, 307, rfl⟩
abbrev main_v155 : Ref sig .tc := ⟨.hbm, 308, rfl⟩
abbrev main_v156 : Ref sig .tc := ⟨.hbm, 309, rfl⟩
abbrev main_v157 : Ref sig .tc := ⟨.hbm, 310, rfl⟩
abbrev main_v158 : Ref sig .tc := ⟨.hbm, 311, rfl⟩
abbrev main_v159 : Ref sig .tc := ⟨.hbm, 312, rfl⟩
abbrev main_call19_c : Ref sig .tc := ⟨.hbm, 313, rfl⟩
abbrev main_call19_v0 : Ref sig .tc := ⟨.hbm, 314, rfl⟩
abbrev main_call19_v1 : Ref sig .tc := ⟨.hbm, 315, rfl⟩
abbrev main_call19_c_0 : Ref sig .tc := ⟨.hbm, 316, rfl⟩
abbrev main_call19_v2 : Ref sig .tc := ⟨.hbm, 317, rfl⟩
abbrev main_call19_v3 : Ref sig .tc := ⟨.hbm, 318, rfl⟩
abbrev main_call19_v4 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_v163 : Ref sig .tc := ⟨.hbm, 323, rfl⟩
abbrev main_v164 : Ref sig .tc := ⟨.hbm, 324, rfl⟩
abbrev main_v165 : Ref sig .tc := ⟨.hbm, 325, rfl⟩
abbrev main_v166 : Ref sig .tc := ⟨.hbm, 326, rfl⟩
abbrev main_v167 : Ref sig .tc := ⟨.hbm, 327, rfl⟩
abbrev main_call20_c : Ref sig .tc := ⟨.hbm, 328, rfl⟩
abbrev main_call20_v0 : Ref sig .tc := ⟨.hbm, 329, rfl⟩
abbrev main_call20_v1 : Ref sig .tc := ⟨.hbm, 330, rfl⟩
abbrev main_call20_c_0 : Ref sig .tc := ⟨.hbm, 331, rfl⟩
abbrev main_call20_v2 : Ref sig .tc := ⟨.hbm, 332, rfl⟩
abbrev main_call20_v3 : Ref sig .tc := ⟨.hbm, 333, rfl⟩
abbrev main_call20_v4 : Ref sig .tc := ⟨.hbm, 334, rfl⟩
abbrev main_call20_v5 : Ref sig .tc := ⟨.hbm, 335, rfl⟩
abbrev main_v168 : Ref sig .tc := ⟨.hbm, 336, rfl⟩
abbrev main_v169 : Ref sig .tc := ⟨.hbm, 337, rfl⟩
abbrev main_call21_c : Ref sig .tc := ⟨.hbm, 338, rfl⟩
abbrev main_call21_v0 : Ref sig .tc := ⟨.hbm, 339, rfl⟩
abbrev main_call21_v1 : Ref sig .tc := ⟨.hbm, 340, rfl⟩
abbrev main_call21_c_0 : Ref sig .tc := ⟨.hbm, 341, rfl⟩
abbrev main_call21_v2 : Ref sig .tc := ⟨.hbm, 342, rfl⟩
abbrev main_call21_v3 : Ref sig .tc := ⟨.hbm, 343, rfl⟩
abbrev main_call21_v4 : Ref sig .tc := ⟨.hbm, 344, rfl⟩
abbrev main_call21_v5 : Ref sig .tc := ⟨.hbm, 345, rfl⟩
abbrev main_v170 : Ref sig .tc := ⟨.hbm, 346, rfl⟩
abbrev main_v171 : Ref sig .tc := ⟨.hbm, 347, rfl⟩
abbrev main_call22_c : Ref sig .tc := ⟨.hbm, 348, rfl⟩
abbrev main_call22_v0 : Ref sig .tc := ⟨.hbm, 349, rfl⟩
abbrev main_call22_v1 : Ref sig .tc := ⟨.hbm, 350, rfl⟩
abbrev main_call22_c_0 : Ref sig .tc := ⟨.hbm, 351, rfl⟩
abbrev main_call22_v2 : Ref sig .tc := ⟨.hbm, 352, rfl⟩
abbrev main_call22_v3 : Ref sig .tc := ⟨.hbm, 353, rfl⟩
abbrev main_call22_v4 : Ref sig .tc := ⟨.hbm, 354, rfl⟩
abbrev main_call22_v5 : Ref sig .tc := ⟨.hbm, 355, rfl⟩
abbrev main_v172 : Ref sig .tc := ⟨.hbm, 356, rfl⟩
abbrev main_v173 : Ref sig .tc := ⟨.hbm, 357, rfl⟩
abbrev main_cst_49 : Ref sig .tc := ⟨.hbm, 358, rfl⟩
abbrev main_v174 : Ref sig .tc := ⟨.hbm, 359, rfl⟩
abbrev main_v175 : Ref sig .tc := ⟨.hbm, 360, rfl⟩
abbrev main_v176 : Ref sig .tc := ⟨.hbm, 361, rfl⟩
abbrev main_cst_50 : Ref sig .tc := ⟨.hbm, 362, rfl⟩
abbrev main_v177 : Ref sig .tc := ⟨.hbm, 363, rfl⟩
abbrev main_cst_51 : Ref sig .tc := ⟨.hbm, 364, rfl⟩
abbrev main_v178 : Ref sig .tc := ⟨.hbm, 365, rfl⟩
abbrev main_v179 : Ref sig .tc := ⟨.hbm, 366, rfl⟩
abbrev main_v180 : Ref sig .tc := ⟨.hbm, 367, rfl⟩
abbrev main_v181 : Ref sig .tc := ⟨.hbm, 368, rfl⟩
abbrev main_v182 : Ref sig .tc := ⟨.hbm, 369, rfl⟩
abbrev main_v183 : Ref sig .tc := ⟨.hbm, 370, rfl⟩
abbrev main_cst_52 : Ref sig .tc := ⟨.hbm, 371, rfl⟩
abbrev main_v184 : Ref sig .tc := ⟨.hbm, 372, rfl⟩
abbrev main_v185 : Ref sig .tc := ⟨.hbm, 373, rfl⟩
abbrev main_v186 : Ref sig .tc := ⟨.hbm, 374, rfl⟩
abbrev main_v187 : Ref sig .tc := ⟨.hbm, 375, rfl⟩
abbrev main_v188 : Ref sig .tc := ⟨.hbm, 376, rfl⟩
abbrev main_v189 : Ref sig .tc := ⟨.hbm, 377, rfl⟩
abbrev main_v190 : Ref sig .tc := ⟨.hbm, 378, rfl⟩
abbrev main_v191 : Ref sig .tc := ⟨.hbm, 379, rfl⟩
abbrev main_v192 : Ref sig .tc := ⟨.hbm, 380, rfl⟩

abbrev nD : Nat := 1
abbrev τ : Topo := Topo.v7x

variable {F : FTy → Type} [FloatOps F]
-- ==== Proof.ScPure.lean ====
/-
  The values one group of sixteen positions computes, as plain definitions over the group's raw dot products, and the group's body
  stated over them: the printed body of the loop over groups is a sequence of named parts, each rewritten here to return these
  definitions, and then the whole body to the dot-product loop, two loads and the output loop.
-/
module

public import proofs.«01_k».proof.Defs
public import proofs.«01_k».proof.Proof.Gen.KernelIdeal
public import proofs.«01_k».proof.Proof.Gen.KernelIdeal.Skeleton

@[expose] public section

set_option synthInstance.maxSize 4096

noncomputable section

namespace Cert.Proof.Sc

open Cert.KernelIdeal Cert.KernelIdeal.Gen
open Idealize.ShloMosaic Idealize.SL.Sem

variable {F : FTy → Type} [FloatOps F]

/-! ## The group's values -/

/-- A loaded row of sixteen elements as a vector. -/
abbrev rowV (l : Vec F S1x16 .f32) : FVec F S16 .f32 := shapeCast S16 l shapeCasts_S1x16_S16
abbrev cst (w : BitVec 32) : FVec F S16 .f32 := broadcast S16 (Scalar.ofBits (F := F) .f32 w)
/-- The scaled score of window key `f`. -/
def scr (A : ℕ → FVec F S16 .f32) (f : ℕ) : FVec F S16 .f32 := mulf (A f) (cst 0x3E000000#32)
/-- The score the choice goes by: the scaled score plus a distance prior. -/
def slr (st tt : IVec S16 32) (A : ℕ → FVec F S16 .f32) (f : ℕ) : FVec F S16 .f32 :=
  addf (scr A f) (mulf (cst 0x3E4CCCCD#32)
    (exp (mulf (sitofp .f32 (absi (subi (addi st (broadcast S16 (BitVec.ofNat 32 f))) tt))) (cst 0xBE000000#32))))
/-- One where `a ≥ b`, zero elsewhere. -/
def geV (a b : FVec F S16 .f32) : FVec F S16 .f32 := select (cmpf .oge a b) (cst 0x3F800000#32) (cst 0x00000000#32)
/-- The number of keys that beat key `f`, after the first `n` comparisons. -/
def rkr (st tt : IVec S16 32) (A : ℕ → FVec F S16 .f32) (f : ℕ) : ℕ → FVec F S16 .f32
  | 0 => cst 0x00000000#32
  | n + 1 => addf (rkr st tt A f n)
      (if n < f then geV (slr st tt A n) (slr st tt A f) else subf (cst 0x3F800000#32) (geV (slr st tt A f) (slr st tt A (n + 1))))
/-- The largest of the scores `0 … n`. -/
def mxr (A : ℕ → FVec F S16 .f32) : ℕ → FVec F S16 .f32
  | 0 => scr A 0
  | n + 1 => maximumf (mxr A n) (scr A (n + 1))
/-- The exponential of key `f`'s score over the largest, zero for a key not among the first six. -/
def esr (st tt : IVec S16 32) (A : ℕ → FVec F S16 .f32) (f : ℕ) : FVec F S16 .f32 :=
  select (cmpf .olt (rkr st tt A f 15) (cst 0x40C00000#32)) (exp (subf (scr A f) (mxr A 15))) (cst 0x00000000#32)
def zr (st tt : IVec S16 32) (A : ℕ → FVec F S16 .f32) : ℕ → FVec F S16 .f32
  | 0 => esr st tt A 0
  | n + 1 => addf (zr st tt A n) (esr st tt A (n + 1))
def clcV (m mg : FVec F S16 .f32) : FVec F S16 .f32 := exp (subf m (maximumf m mg))
def cglV (m mg : FVec F S16 .f32) : FVec F S16 .f32 := exp (subf mg (maximumf m mg))
def invV (m mg z zg : FVec F S16 .f32) : FVec F S16 .f32 :=
  divf (cst 0x3F800000#32) (addf (mulf (clcV m mg) z) (mulf (cglV m mg) zg))
def wsV (e c i : FVec F S16 .f32) : FVec F S16 .f32 := mulf e (mulf c i)
/-- The output row: the globals' part and the first `n + 1` window keys' values, weighted. -/
def outr (bg og : FVec F S16 .f32) (ws g : ℕ → FVec F S16 .f32) : ℕ → FVec F S16 .f32
  | 0 => mulf bg og
  | n + 1 => addf (outr bg og ws g n) (mulf (ws n) (g n))

/-- The group's positions, the window's first key, and its place in the tile's key slab. -/
def ttv (v0 : IVec S16 32) (v5 : BitVec 32) (t2 : Fin k1_t2_loop.trips) : IVec S16 32 :=
  addi (broadcast S16 (Scalar.addi v5 (Scalar.muli (Scf.iv 0#32 1#32 t2) 16#32))) v0
def stv (tt : IVec S16 32) : IVec S16 32 := minsi (broadcast S16 2032#32) (maxsi (broadcast S16 0#32) (subi tt (broadcast S16 8#32)))
def lst (tt : IVec S16 32) (v8 : BitVec 32) : IVec S16 32 := subi (stv tt) (broadcast S16 v8)
def kx (w : IVec S16 32) (f : BitVec 32) : IVec S16 32 := addi w (broadcast S16 f)
/-- Key `f`'s element of slab row `n`. -/
def gx (w : IVec S16 32) (f : BitVec 32) (n : BitVec 32) : IVec S16 32 := addi (kx w f) (broadcast S16 (Scalar.muli n 272#32))

section Body

variable (i : grid1.Coords) (arg2 : Memref sig .scVector .hbm S16x8x64x256 .f32) (harg2 : arg2.IsWhole) (arg3 : Memref sig .scVector .hbm S16x8x17408 .f32) (harg3 : arg3.IsWhole) (arg4 : Memref sig .scVector .hbm S16x8x17408 .f32) (harg4 : arg4.IsWhole) (arg5 : Memref sig .scVector .hbm S16x8x64x256 .f32) (harg5 : arg5.IsWhole) (arg6 : Memref sig .scVector .hbm S16x8x2x256 .f32) (harg6 : arg6.IsWhole) (arg7 : Memref sig .scVector .hbm S16x8x64x256 .f32) (harg7 : arg7.IsWhole) (arg8 : Memref sig .scVector .vmem S64x256 .f32) (harg8 : arg8.IsWhole) (arg9 : Memref sig .scVector .vmem S17408 .f32) (harg9 : arg9.IsWhole) (arg10 : Memref sig .scVector .vmem S17408 .f32) (harg10 : arg10.IsWhole) (arg11 : Memref sig .scVector .vmem S64x256 .f32) (harg11 : arg11.IsWhole) (arg12 : Memref sig .scVector .vmem S2x256 .f32) (harg12 : arg12.IsWhole) (arg13 : Memref sig .scVector .vmem S64x256 .f32) (harg13 : arg13.IsWhole) (v11_r0 v11_r1 v11_r2 v11_r3 v11_r4 v11_r5 : DmaSems sig S_)

/-- An indexed load with its printed check. -/
def ga (base : Memref sig .scVector .vmem S17408 .f32) (v : IVec S16 32) :
    Prog (TpuEff nD τ sig (Elt F) Λ₀ (.scVector ((i 0).castLE hcore1) ((i 1).castLE hsub1))) (Vec F S16 .f32) := do
  have h : k1_chk1 v := (← Prog.lift (TpuEff.assume (k1_chk1 v) (k1_chk1.dec v))).down
  SparseCore.vectorLoadIdx base ![v] (k1_idx1_inb v h) (View.loads_vmem h_S17408)

abbrev Tup (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32
/-- The sixteen accumulators as a function of the key. -/
def tupF (t : Tup F) : ℕ → FVec F S16 .f32
  | 0 => t.1
  | 1 => t.2.1
  | 2 => t.2.2.1
  | 3 => t.2.2.2.1
  | 4 => t.2.2.2.2.1
  | 5 => t.2.2.2.2.2.1
  | 6 => t.2.2.2.2.2.2.1
  | 7 => t.2.2.2.2.2.2.2.1
  | 8 => t.2.2.2.2.2.2.2.2.1
  | 9 => t.2.2.2.2.2.2.2.2.2.1
  | 10 => t.2.2.2.2.2.2.2.2.2.2.1
  | 11 => t.2.2.2.2.2.2.2.2.2.2.2.1
  | 12 => t.2.2.2.2.2.2.2.2.2.2.2.2.1
  | 13 => t.2.2.2.2.2.2.2.2.2.2.2.2.2.1
  | 14 => t.2.2.2.2.2.2.2.2.2.2.2.2.2.2.1
  | _ => t.2.2.2.2.2.2.2.2.2.2.2.2.2.2.2
def tupA (A : ℕ → FVec F S16 .f32) : Tup F := (A 0, A 1, A 2, A 3, A 4, A 5, A 6, A 7, A 8, A 9, A 10, A 11, A 12, A 13, A 14, A 15)

/-- One step of the dot products: a query row, the sixteen keys' rows of the slab, and the accumulators. -/
theorem t3_clean (t2 : Fin k1_t2_loop.trips) (v11 : BitVec 32) (w : IVec S16 32) (t3 : Fin k1_t3_loop.trips) (a : ℕ → FVec F S16 .f32) :
    k1_t3_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 t2 v11 w (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) 14#32 t3 (tupA a) = (do
      let l : Vec F S1x16 .f32 ← Prog.lift (.load arg8 (Rect.unit (s := S64x256) (k1_off4 t2 t3) S1x16.size (k1_off4_inb t2 t3)).toLoadRect (View.loadsAt_vmem h_S1x16))
      let g0 : Vec F S16 .f32 ← ga i arg9 (gx w 0#32 (Scf.iv 0#32 1#32 t3))
      let g1 : Vec F S16 .f32 ← ga i arg9 (gx w 1#32 (Scf.iv 0#32 1#32 t3))
      let g2 : Vec F S16 .f32 ← ga i arg9 (gx w 2#32 (Scf.iv 0#32 1#32 t3))
      let g3 : Vec F S16 .f32 ← ga i arg9 (gx w 3#32 (Scf.iv 0#32 1#32 t3))
      let g4 : Vec F S16 .f32 ← ga i arg9 (gx w 4#32 (Scf.iv 0#32 1#32 t3))
      let g5 : Vec F S16 .f32 ← ga i arg9 (gx w 5#32 (Scf.iv 0#32 1#32 t3))
      let g6 : Vec F S16 .f32 ← ga i arg9 (gx w 6#32 (Scf.iv 0#32 1#32 t3))
      let g7 : Vec F S16 .f32 ← ga i arg9 (gx w 7#32 (Scf.iv 0#32 1#32 t3))
      let g8 : Vec F S16 .f32 ← ga i arg9 (gx w 8#32 (Scf.iv 0#32 1#32 t3))
      let g9 : Vec F S16 .f32 ← ga i arg9 (gx w 9#32 (Scf.iv 0#32 1#32 t3))
      let g10 : Vec F S16 .f32 ← ga i arg9 (gx w 10#32 (Scf.iv 0#32 1#32 t3))
      let g11 : Vec F S16 .f32 ← ga i arg9 (gx w 11#32 (Scf.iv 0#32 1#32 t3))
      let g12 : Vec F S16 .f32 ← ga i arg9 (gx w 12#32 (Scf.iv 0#32 1#32 t3))
      let g13 : Vec F S16 .f32 ← ga i arg9 (gx w 13#32 (Scf.iv 0#32 1#32 t3))
      let g14 : Vec F S16 .f32 ← ga i arg9 (gx w 14#32 (Scf.iv 0#32 1#32 t3))
      let g15 : Vec F S16 .f32 ← ga i arg9 (gx w 15#32 (Scf.iv 0#32 1#32 t3))
      pure (addf (a 0) (mulf (rowV l) g0), addf (a 1) (mulf (rowV l) g1), addf (a 2) (mulf (rowV l) g2), addf (a 3) (mulf (rowV l) g3), addf (a 4) (mulf (rowV l) g4), addf (a 5) (mulf (rowV l) g5), addf (a 6) (mulf (rowV l) g6), addf (a 7) (mulf (rowV l) g7), addf (a 8) (mulf (rowV l) g8), addf (a 9) (mulf (rowV l) g9), addf (a 10) (mulf (rowV l) g10), addf (a 11) (mulf (rowV l) g11), addf (a 12) (mulf (rowV l) g12), addf (a 13) (mulf (rowV l) g13), addf (a 14) (mulf (rowV l) g14), addf (a 15) (mulf (rowV l) g15))) := rfl

/-- One output row: the globals' row, the sixteen values' rows of the slab, and the store. -/
theorem t4_clean (v0 : IVec S16 32) (t1 : Fin k1_t1_loop.trips) (v5 v8 : BitVec 32) (t2 : Fin k1_t2_loop.trips) (v11 : BitVec 32) (w : IVec S16 32)
    (es : ℕ → FVec F S16 .f32) (c1 c2 iv : FVec F S16 .f32) (t4 : Fin k1_t4_loop.trips) (x : BitVec 32) :
    k1_t4_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 v0 t1 v5 v8 t2 v11 (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) (kx w 14#32) (kx w 15#32) (es 7) (es 8) (es 9) (es 10) (es 11) (es 12) (es 13) (es 14) (es 15) c1 c2 iv (wsV (es 0) c1 iv) (wsV (es 1) c1 iv) (wsV (es 2) c1 iv) (wsV (es 3) c1 iv) (wsV (es 4) c1 iv) (wsV (es 5) c1 iv) (wsV (es 6) c1 iv) t4 x = (do
      let l : Vec F S1x16 .f32 ← Prog.lift (.load arg11 (Rect.unit (s := S64x256) (k1_off7 t2 t4) S1x16.size (k1_off7_inb t2 t4)).toLoadRect (View.loadsAt_vmem h_S1x16))
      let g0 : Vec F S16 .f32 ← ga i arg10 (gx w 0#32 (Scf.iv 0#32 1#32 t4))
      let g1 : Vec F S16 .f32 ← ga i arg10 (gx w 1#32 (Scf.iv 0#32 1#32 t4))
      let g2 : Vec F S16 .f32 ← ga i arg10 (gx w 2#32 (Scf.iv 0#32 1#32 t4))
      let g3 : Vec F S16 .f32 ← ga i arg10 (gx w 3#32 (Scf.iv 0#32 1#32 t4))
      let g4 : Vec F S16 .f32 ← ga i arg10 (gx w 4#32 (Scf.iv 0#32 1#32 t4))
      let g5 : Vec F S16 .f32 ← ga i arg10 (gx w 5#32 (Scf.iv 0#32 1#32 t4))
      let g6 : Vec F S16 .f32 ← ga i arg10 (gx w 6#32 (Scf.iv 0#32 1#32 t4))
      let g7 : Vec F S16 .f32 ← ga i arg10 (gx w 7#32 (Scf.iv 0#32 1#32 t4))
      let g8 : Vec F S16 .f32 ← ga i arg10 (gx w 8#32 (Scf.iv 0#32 1#32 t4))
      let g9 : Vec F S16 .f32 ← ga i arg10 (gx w 9#32 (Scf.iv 0#32 1#32 t4))
      let g10 : Vec F S16 .f32 ← ga i arg10 (gx w 10#32 (Scf.iv 0#32 1#32 t4))
      let g11 : Vec F S16 .f32 ← ga i arg10 (gx w 11#32 (Scf.iv 0#32 1#32 t4))
      let g12 : Vec F S16 .f32 ← ga i arg10 (gx w 12#32 (Scf.iv 0#32 1#32 t4))
      let g13 : Vec F S16 .f32 ← ga i arg10 (gx w 13#32 (Scf.iv 0#32 1#32 t4))
      let g14 : Vec F S16 .f32 ← ga i arg10 (gx w 14#32 (Scf.iv 0#32 1#32 t4))
      let g15 : Vec F S16 .f32 ← ga i arg10 (gx w 15#32 (Scf.iv 0#32 1#32 t4))
      let _ : Vec F S1x16 .f32 ← Prog.lift (.load arg13 (Rect.unit (s := S64x256) (k1_off8 t2 t4) S1x16.size (k1_off8_inb t2 t4)).toLoadRect (View.loadsAt_vmem h_S1x16))
      Prog.lift (.store arg13 (Rect.unit (s := S64x256) (k1_off8 t2 t4) S1x16.size (k1_off8_inb t2 t4)) (shapeCast S1x16 (addf (addf (addf (addf (addf (addf (addf (addf (addf (addf (addf (addf (addf (addf (addf (addf (mulf (mulf c2 iv) (rowV l)) (mulf (wsV (es 0) c1 iv) g0)) (mulf (wsV (es 1) c1 iv) g1)) (mulf (wsV (es 2) c1 iv) g2)) (mulf (wsV (es 3) c1 iv) g3)) (mulf (wsV (es 4) c1 iv) g4)) (mulf (wsV (es 5) c1 iv) g5)) (mulf (wsV (es 6) c1 iv) g6)) (mulf (wsV (es 7) c1 iv) g7)) (mulf (wsV (es 8) c1 iv) g8)) (mulf (wsV (es 9) c1 iv) g9)) (mulf (wsV (es 10) c1 iv) g10)) (mulf (wsV (es 11) c1 iv) g11)) (mulf (wsV (es 12) c1 iv) g12)) (mulf (wsV (es 13) c1 iv) g13)) (mulf (wsV (es 14) c1 iv) g14)) (mulf (wsV (es 15) c1 iv) g15)) shapeCasts_S16_S1x16) Finset.univ (View.stores_vmem_bits_univ h_S1x16 rfl) (.inl rfl))
      pure 0#32) := rfl

theorem part5_clean (st tt : IVec S16 32) (A : Nat → FVec F S16 .f32) :
    k1_part5 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 tt st (A 5) (A 6) (A 7) (A 8) (A 9) (A 10) (A 11) (A 12) (A 13) (A 14) (A 15) (scr A 0) (scr A 1) (broadcast S16 (Scalar.ofBits .f32 0x3E000000#32)) = pure ⟨(scr A 5), (scr A 6), (scr A 7), (scr A 8), (scr A 9), (scr A 10), (scr A 11), (scr A 12), (scr A 13), (scr A 14), (scr A 15), (slr st tt A 0), (slr st tt A 1), (2#32)⟩ := rfl

theorem part6_clean (st tt : IVec S16 32) (A : Nat → FVec F S16 .f32) :
    k1_part6 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 tt st (scr A 2) (scr A 3) (scr A 4) (scr A 5) (2#32) = pure ⟨(slr st tt A 2), (slr st tt A 3), (slr st tt A 4), (slr st tt A 5), (absi (subi (addi st (broadcast S16 (6#32))) tt))⟩ := rfl

theorem part7_clean (st tt : IVec S16 32) (A : Nat → FVec F S16 .f32) :
    k1_part7 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 tt st (scr A 6) (scr A 7) (scr A 8) (scr A 9) (absi (subi (addi st (broadcast S16 (6#32))) tt)) = pure ⟨(slr st tt A 6), (slr st tt A 7), (slr st tt A 8), (slr st tt A 9), (mulf (sitofp .f32 (absi (subi (addi st (broadcast S16 (10#32))) tt))) (broadcast S16 (Scalar.ofBits .f32 0xBE000000#32)))⟩ := rfl

theorem part8_clean (st tt : IVec S16 32) (A : Nat → FVec F S16 .f32) :
    k1_part8 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 tt st (scr A 10) (scr A 11) (scr A 12) (scr A 13) (mulf (sitofp .f32 (absi (subi (addi st (broadcast S16 (10#32))) tt))) (broadcast S16 (Scalar.ofBits .f32 0xBE000000#32))) = pure ⟨(slr st tt A 10), (slr st tt A 11), (slr st tt A 12), (slr st tt A 13), (mulf (broadcast S16 (Scalar.ofBits .f32 0x3E4CCCCD#32)) (exp (mulf (sitofp .f32 (absi (subi (addi st (broadcast S16 (14#32))) tt))) (broadcast S16 (Scalar.ofBits .f32 0xBE000000#32)))))⟩ := rfl

theorem part9_clean (st tt : IVec S16 32) (A : Nat → FVec F S16 .f32) :
    k1_part9 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 tt st (scr A 14) (scr A 15) (slr st tt A 0) (slr st tt A 1) (slr st tt A 2) (mulf (broadcast S16 (Scalar.ofBits .f32 0x3E4CCCCD#32)) (exp (mulf (sitofp .f32 (absi (subi (addi st (broadcast S16 (14#32))) tt))) (broadcast S16 (Scalar.ofBits .f32 0xBE000000#32))))) = pure ⟨(slr st tt A 14), (slr st tt A 15), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (broadcast S16 (Scalar.ofBits .f32 0x00000000#32)), (rkr st tt A 1 1), (rkr st tt A 0 1), (cmpf .oge (slr st tt A 0) (slr st tt A 2)), (Scalar.ofBits .f32 0x3F800000#32)⟩ := rfl

theorem part10_clean (st tt : IVec S16 32) (A : Nat → FVec F S16 .f32) :
    k1_part10 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 0) (slr st tt A 3) (slr st tt A 4) (slr st tt A 5) (slr st tt A 6) (slr st tt A 7) (broadcast S16 (Scalar.ofBits .f32 0x00000000#32)) (broadcast S16 (Scalar.ofBits .f32 0x00000000#32)) (broadcast S16 (Scalar.ofBits .f32 0x00000000#32)) (broadcast S16 (Scalar.ofBits .f32 0x00000000#32)) (broadcast S16 (Scalar.ofBits .f32 0x00000000#32)) (broadcast S16 (Scalar.ofBits .f32 0x00000000#32)) (rkr st tt A 0 1) (cmpf .oge (slr st tt A 0) (slr st tt A 2)) (Scalar.ofBits .f32 0x3F800000#32) = pure ⟨(rkr st tt A 2 1), (rkr st tt A 3 1), (rkr st tt A 4 1), (rkr st tt A 5 1), (rkr st tt A 6 1), (rkr st tt A 0 6), (geV (slr st tt A 0) (slr st tt A 7)), (rkr st tt A 7 1)⟩ := rfl

theorem part11_clean (st tt : IVec S16 32) (A : Nat → FVec F S16 .f32) :
    k1_part11 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 0) (slr st tt A 8) (slr st tt A 9) (slr st tt A 10) (slr st tt A 11) (slr st tt A 12) (slr st tt A 13) (broadcast S16 (Scalar.ofBits .f32 0x00000000#32)) (broadcast S16 (Scalar.ofBits .f32 0x00000000#32)) (broadcast S16 (Scalar.ofBits .f32 0x00000000#32)) (broadcast S16 (Scalar.ofBits .f32 0x00000000#32)) (broadcast S16 (Scalar.ofBits .f32 0x00000000#32)) (rkr st tt A 0 6) (geV (slr st tt A 0) (slr st tt A 7)) = pure ⟨(rkr st tt A 8 1), (rkr st tt A 9 1), (rkr st tt A 10 1), (rkr st tt A 11 1), (rkr st tt A 12 1), (rkr st tt A 0 12), (cmpf .oge (slr st tt A 0) (slr st tt A 13))⟩ := rfl

theorem part12_clean (st tt : IVec S16 32) (A : Nat → FVec F S16 .f32) :
    k1_part12 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 0) (slr st tt A 1) (slr st tt A 2) (slr st tt A 3) (slr st tt A 4) (slr st tt A 14) (slr st tt A 15) (broadcast S16 (Scalar.ofBits .f32 0x00000000#32)) (broadcast S16 (Scalar.ofBits .f32 0x00000000#32)) (broadcast S16 (Scalar.ofBits .f32 0x00000000#32)) (rkr st tt A 1 1) (rkr st tt A 2 1) (rkr st tt A 3 1) (rkr st tt A 0 12) (cmpf .oge (slr st tt A 0) (slr st tt A 13)) = pure ⟨(rkr st tt A 13 1), (rkr st tt A 14 1), (rkr st tt A 15 1), (rkr st tt A 0 15), (rkr st tt A 2 2), (rkr st tt A 3 2), (rkr st tt A 1 3), (geV (slr st tt A 1) (slr st tt A 4))⟩ := rfl

theorem part13_clean (st tt : IVec S16 32) (A : Nat → FVec F S16 .f32) :
    k1_part13 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 1) (slr st tt A 5) (slr st tt A 6) (slr st tt A 7) (slr st tt A 8) (slr st tt A 9) (rkr st tt A 4 1) (rkr st tt A 5 1) (rkr st tt A 6 1) (rkr st tt A 7 1) (rkr st tt A 8 1) (rkr st tt A 9 1) (rkr st tt A 1 3) (geV (slr st tt A 1) (slr st tt A 4)) = pure ⟨(rkr st tt A 4 2), (rkr st tt A 5 2), (rkr st tt A 6 2), (rkr st tt A 7 2), (rkr st tt A 8 2), (rkr st tt A 9 2), (rkr st tt A 1 9)⟩ := rfl

theorem part14_clean (st tt : IVec S16 32) (A : Nat → FVec F S16 .f32) :
    k1_part14 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 1) (slr st tt A 10) (slr st tt A 11) (slr st tt A 12) (slr st tt A 13) (slr st tt A 14) (slr st tt A 15) (rkr st tt A 10 1) (rkr st tt A 11 1) (rkr st tt A 12 1) (rkr st tt A 13 1) (rkr st tt A 14 1) (rkr st tt A 1 9) = pure ⟨(rkr st tt A 10 2), (rkr st tt A 11 2), (rkr st tt A 12 2), (rkr st tt A 13 2), (rkr st tt A 14 2), (rkr st tt A 1 14), (cmpf .oge (slr st tt A 1) (slr st tt A 15)), (broadcast S16 (Scalar.ofBits .f32 0x3F800000#32)), (broadcast S16 (Scalar.ofBits .f32 0x00000000#32))⟩ := rfl

theorem part15_clean (st tt : IVec S16 32) (A : Nat → FVec F S16 .f32) :
    k1_part15 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 2) (slr st tt A 3) (slr st tt A 4) (slr st tt A 5) (slr st tt A 6) (slr st tt A 7) (rkr st tt A 15 1) (rkr st tt A 2 2) (rkr st tt A 3 2) (rkr st tt A 4 2) (rkr st tt A 5 2) (rkr st tt A 6 2) (rkr st tt A 7 2) (rkr st tt A 1 14) (cmpf .oge (slr st tt A 1) (slr st tt A 15)) (broadcast S16 (Scalar.ofBits .f32 0x3F800000#32)) (broadcast S16 (Scalar.ofBits .f32 0x00000000#32)) = pure ⟨(rkr st tt A 15 2), (rkr st tt A 1 15), (rkr st tt A 3 3), (rkr st tt A 4 3), (rkr st tt A 5 3), (rkr st tt A 6 3), (rkr st tt A 2 6), (rkr st tt A 7 3), (subf (broadcast S16 (Scalar.ofBits .f32 0x3F800000#32)) (geV (slr st tt A 2) (slr st tt A 7)))⟩ := rfl

theorem part16_clean (st tt : IVec S16 32) (A : Nat → FVec F S16 .f32) :
    k1_part16 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 2) (slr st tt A 8) (slr st tt A 9) (slr st tt A 10) (slr st tt A 11) (slr st tt A 12) (slr st tt A 13) (rkr st tt A 8 2) (rkr st tt A 9 2) (rkr st tt A 10 2) (rkr st tt A 11 2) (rkr st tt A 12 2) (rkr st tt A 2 6) (subf (broadcast S16 (Scalar.ofBits .f32 0x3F800000#32)) (geV (slr st tt A 2) (slr st tt A 7))) = pure ⟨(rkr st tt A 8 3), (rkr st tt A 9 3), (rkr st tt A 10 3), (rkr st tt A 11 3), (rkr st tt A 12 3), (rkr st tt A 2 12), (cmpf .oge (slr st tt A 2) (slr st tt A 13)), (Scalar.ofBits .f32 0x00000000#32), (broadcast S16 (Scalar.ofBits .f32 0x3F800000#32))⟩ := rfl

theorem part17_clean (st tt : IVec S16 32) (A : Nat → FVec F S16 .f32) :
    k1_part17 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 2) (slr st tt A 3) (slr st tt A 4) (slr st tt A 5) (slr st tt A 6) (slr st tt A 14) (slr st tt A 15) (rkr st tt A 13 2) (rkr st tt A 14 2) (rkr st tt A 15 2) (rkr st tt A 3 3) (rkr st tt A 4 3) (rkr st tt A 5 3) (rkr st tt A 6 3) (rkr st tt A 2 12) (cmpf .oge (slr st tt A 2) (slr st tt A 13)) (Scalar.ofBits .f32 0x00000000#32) (broadcast S16 (Scalar.ofBits .f32 0x3F800000#32)) = pure ⟨(rkr st tt A 13 3), (rkr st tt A 14 3), (rkr st tt A 15 3), (rkr st tt A 2 15), (rkr st tt A 4 4), (rkr st tt A 5 4), (rkr st tt A 3 5), (geV (slr st tt A 3) (slr st tt A 6)), (rkr st tt A 6 4), (broadcast S16 (Scalar.ofBits .f32 0x3F800000#32))⟩ := rfl

theorem part18_clean (st tt : IVec S16 32) (A : Nat → FVec F S16 .f32) :
    k1_part18 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 3) (slr st tt A 7) (slr st tt A 8) (slr st tt A 9) (slr st tt A 10) (slr st tt A 11) (slr st tt A 12) (rkr st tt A 7 3) (rkr st tt A 8 3) (rkr st tt A 9 3) (rkr st tt A 10 3) (rkr st tt A 11 3) (rkr st tt A 3 5) (geV (slr st tt A 3) (slr st tt A 6)) (broadcast S16 (Scalar.ofBits .f32 0x3F800000#32)) = pure ⟨(rkr st tt A 7 4), (rkr st tt A 8 4), (rkr st tt A 9 4), (rkr st tt A 10 4), (rkr st tt A 11 4), (rkr st tt A 3 11), (cmpf .oge (slr st tt A 3) (slr st tt A 12)), (Scalar.ofBits .f32 0x3F800000#32), (Scalar.ofBits .f32 0x00000000#32)⟩ := rfl

theorem part19_clean (st tt : IVec S16 32) (A : Nat → FVec F S16 .f32) :
    k1_part19 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 3) (slr st tt A 4) (slr st tt A 5) (slr st tt A 6) (slr st tt A 13) (slr st tt A 14) (slr st tt A 15) (rkr st tt A 12 3) (rkr st tt A 13 3) (rkr st tt A 14 3) (rkr st tt A 15 3) (rkr st tt A 4 4) (rkr st tt A 5 4) (rkr st tt A 6 4) (rkr st tt A 3 11) (cmpf .oge (slr st tt A 3) (slr st tt A 12)) (Scalar.ofBits .f32 0x3F800000#32) (Scalar.ofBits .f32 0x00000000#32) = pure ⟨(rkr st tt A 12 4), (rkr st tt A 13 4), (rkr st tt A 14 4), (rkr st tt A 15 4), (rkr st tt A 3 15), (rkr st tt A 5 5), (rkr st tt A 4 5), (geV (slr st tt A 4) (slr st tt A 6)), (rkr st tt A 6 5), (Scalar.ofBits .f32 0x3F800000#32)⟩ := rfl

theorem part20_clean (st tt : IVec S16 32) (A : Nat → FVec F S16 .f32) :
    k1_part20 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 4) (slr st tt A 7) (slr st tt A 8) (slr st tt A 9) (slr st tt A 10) (slr st tt A 11) (slr st tt A 12) (rkr st tt A 7 4) (rkr st tt A 8 4) (rkr st tt A 9 4) (rkr st tt A 10 4) (rkr st tt A 11 4) (rkr st tt A 4 5) (geV (slr st tt A 4) (slr st tt A 6)) (Scalar.ofBits .f32 0x3F800000#32) = pure ⟨(rkr st tt A 7 5), (rkr st tt A 8 5), (rkr st tt A 9 5), (rkr st tt A 10 5), (rkr st tt A 11 5), (rkr st tt A 4 11), (cmpf .oge (slr st tt A 4) (slr st tt A 12)), (Scalar.ofBits .f32 0x3F800000#32)⟩ := rfl

theorem part21_clean (st tt : IVec S16 32) (A : Nat → FVec F S16 .f32) :
    k1_part21 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 4) (slr st tt A 5) (slr st tt A 6) (slr st tt A 7) (slr st tt A 13) (slr st tt A 14) (slr st tt A 15) (rkr st tt A 12 4) (rkr st tt A 13 4) (rkr st tt A 14 4) (rkr st tt A 15 4) (rkr st tt A 5 5) (rkr st tt A 6 5) (rkr st tt A 7 5) (rkr st tt A 4 11) (cmpf .oge (slr st tt A 4) (slr st tt A 12)) (Scalar.ofBits .f32 0x3F800000#32) = pure ⟨(rkr st tt A 12 5), (rkr st tt A 13 5), (rkr st tt A 14 5), (rkr st tt A 15 5), (rkr st tt A 4 15), (rkr st tt A 6 6), (rkr st tt A 5 6), (geV (slr st tt A 5) (slr st tt A 7)), (rkr st tt A 7 6)⟩ := rfl

theorem part22_clean (st tt : IVec S16 32) (A : Nat → FVec F S16 .f32) :
    k1_part22 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 5) (slr st tt A 8) (slr st tt A 9) (slr st tt A 10) (slr st tt A 11) (slr st tt A 12) (slr st tt A 13) (rkr st tt A 8 5) (rkr st tt A 9 5) (rkr st tt A 10 5) (rkr st tt A 11 5) (rkr st tt A 12 5) (rkr st tt A 5 6) (geV (slr st tt A 5) (slr st tt A 7)) = pure ⟨(rkr st tt A 8 6), (rkr st tt A 9 6), (rkr st tt A 10 6), (rkr st tt A 11 6), (rkr st tt A 12 6), (rkr st tt A 5 12), (cmpf .oge (slr st tt A 5) (slr st tt A 13))⟩ := rfl

theorem part23_clean (st tt : IVec S16 32) (A : Nat → FVec F S16 .f32) :
    k1_part23 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 5) (slr st tt A 6) (slr st tt A 7) (slr st tt A 8) (slr st tt A 9) (slr st tt A 14) (slr st tt A 15) (rkr st tt A 13 5) (rkr st tt A 14 5) (rkr st tt A 15 5) (rkr st tt A 6 6) (rkr st tt A 7 6) (rkr st tt A 8 6) (rkr st tt A 5 12) (cmpf .oge (slr st tt A 5) (slr st tt A 13)) = pure ⟨(rkr st tt A 13 6), (rkr st tt A 14 6), (rkr st tt A 15 6), (rkr st tt A 5 15), (rkr st tt A 7 7), (rkr st tt A 8 7), (rkr st tt A 6 8), (geV (slr st tt A 6) (slr st tt A 9))⟩ := rfl

theorem part24_clean (st tt : IVec S16 32) (A : Nat → FVec F S16 .f32) :
    k1_part24 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 6) (slr st tt A 10) (slr st tt A 11) (slr st tt A 12) (slr st tt A 13) (slr st tt A 14) (rkr st tt A 9 6) (rkr st tt A 10 6) (rkr st tt A 11 6) (rkr st tt A 12 6) (rkr st tt A 13 6) (rkr st tt A 14 6) (rkr st tt A 6 8) (geV (slr st tt A 6) (slr st tt A 9)) = pure ⟨(rkr st tt A 9 7), (rkr st tt A 10 7), (rkr st tt A 11 7), (rkr st tt A 12 7), (rkr st tt A 13 7), (rkr st tt A 14 7), (rkr st tt A 6 14)⟩ := rfl

theorem part25_clean (st tt : IVec S16 32) (A : Nat → FVec F S16 .f32) :
    k1_part25 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 6) (slr st tt A 7) (slr st tt A 8) (slr st tt A 9) (slr st tt A 10) (slr st tt A 11) (slr st tt A 12) (slr st tt A 15) (rkr st tt A 15 6) (rkr st tt A 7 7) (rkr st tt A 8 7) (rkr st tt A 9 7) (rkr st tt A 10 7) (rkr st tt A 11 7) (rkr st tt A 6 14) = pure ⟨(rkr st tt A 15 7), (rkr st tt A 6 15), (rkr st tt A 8 8), (rkr st tt A 9 8), (rkr st tt A 10 8), (rkr st tt A 11 8), (rkr st tt A 7 11), (cmpf .oge (slr st tt A 7) (slr st tt A 12)), (broadcast S16 (Scalar.ofBits .f32 0x3F800000#32)), (broadcast S16 (Scalar.ofBits .f32 0x00000000#32))⟩ := rfl

theorem part26_clean (st tt : IVec S16 32) (A : Nat → FVec F S16 .f32) :
    k1_part26 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 7) (slr st tt A 8) (slr st tt A 9) (slr st tt A 10) (slr st tt A 13) (slr st tt A 14) (slr st tt A 15) (rkr st tt A 12 7) (rkr st tt A 13 7) (rkr st tt A 14 7) (rkr st tt A 15 7) (rkr st tt A 8 8) (rkr st tt A 9 8) (rkr st tt A 10 8) (rkr st tt A 7 11) (cmpf .oge (slr st tt A 7) (slr st tt A 12)) (broadcast S16 (Scalar.ofBits .f32 0x3F800000#32)) (broadcast S16 (Scalar.ofBits .f32 0x00000000#32)) = pure ⟨(rkr st tt A 12 8), (rkr st tt A 13 8), (rkr st tt A 14 8), (rkr st tt A 15 8), (rkr st tt A 7 15), (rkr st tt A 9 9), (rkr st tt A 8 9), (rkr st tt A 10 9), (subf (broadcast S16 (Scalar.ofBits .f32 0x3F800000#32)) (geV (slr st tt A 8) (slr st tt A 10)))⟩ := rfl

theorem part27_clean (st tt : IVec S16 32) (A : Nat → FVec F S16 .f32) :
    k1_part27 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 8) (slr st tt A 9) (slr st tt A 10) (slr st tt A 11) (slr st tt A 12) (slr st tt A 13) (slr st tt A 14) (slr st tt A 15) (rkr st tt A 11 8) (rkr st tt A 12 8) (rkr st tt A 13 8) (rkr st tt A 14 8) (rkr st tt A 15 8) (rkr st tt A 8 9) (subf (broadcast S16 (Scalar.ofBits .f32 0x3F800000#32)) (geV (slr st tt A 8) (slr st tt A 10))) = pure ⟨(rkr st tt A 11 9), (rkr st tt A 12 9), (rkr st tt A 13 9), (rkr st tt A 14 9), (rkr st tt A 15 9), (rkr st tt A 8 15), (cmpf .oge (slr st tt A 9) (slr st tt A 10)), (Scalar.ofBits .f32 0x00000000#32), (broadcast S16 (Scalar.ofBits .f32 0x3F800000#32))⟩ := rfl

theorem part28_clean (st tt : IVec S16 32) (A : Nat → FVec F S16 .f32) :
    k1_part28 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 9) (slr st tt A 11) (slr st tt A 12) (slr st tt A 13) (slr st tt A 14) (slr st tt A 15) (rkr st tt A 9 9) (rkr st tt A 10 9) (rkr st tt A 11 9) (rkr st tt A 12 9) (rkr st tt A 13 9) (rkr st tt A 14 9) (rkr st tt A 15 9) (cmpf .oge (slr st tt A 9) (slr st tt A 10)) (Scalar.ofBits .f32 0x00000000#32) (broadcast S16 (Scalar.ofBits .f32 0x3F800000#32)) = pure ⟨(rkr st tt A 10 10), (rkr st tt A 11 10), (rkr st tt A 12 10), (rkr st tt A 13 10), (rkr st tt A 14 10), (rkr st tt A 9 14), (geV (slr st tt A 9) (slr st tt A 15)), (rkr st tt A 15 10), (broadcast S16 (Scalar.ofBits .f32 0x3F800000#32))⟩ := rfl

theorem part29_clean (st tt : IVec S16 32) (A : Nat → FVec F S16 .f32) :
    k1_part29 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 10) (slr st tt A 11) (slr st tt A 12) (slr st tt A 13) (slr st tt A 14) (slr st tt A 15) (rkr st tt A 10 10) (rkr st tt A 11 10) (rkr st tt A 12 10) (rkr st tt A 13 10) (rkr st tt A 14 10) (rkr st tt A 9 14) (geV (slr st tt A 9) (slr st tt A 15)) (rkr st tt A 15 10) (broadcast S16 (Scalar.ofBits .f32 0x3F800000#32)) = pure ⟨(rkr st tt A 9 15), (rkr st tt A 11 11), (rkr st tt A 12 11), (rkr st tt A 13 11), (rkr st tt A 14 11), (rkr st tt A 15 11), (rkr st tt A 10 15), (cmpf .oge (slr st tt A 11) (slr st tt A 12)), (Scalar.ofBits .f32 0x3F800000#32), (Scalar.ofBits .f32 0x00000000#32)⟩ := rfl

theorem part30_clean (st tt : IVec S16 32) (A : Nat → FVec F S16 .f32) :
    k1_part30 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (slr st tt A 11) (slr st tt A 12) (slr st tt A 13) (slr st tt A 14) (slr st tt A 15) (rkr st tt A 11 11) (rkr st tt A 12 11) (rkr st tt A 13 11) (rkr st tt A 14 11) (rkr st tt A 15 11) (cmpf .oge (slr st tt A 11) (slr st tt A 12)) (Scalar.ofBits .f32 0x3F800000#32) (Scalar.ofBits .f32 0x00000000#32) = pure ⟨(rkr st tt A 15 12), (rkr st tt A 11 15), (rkr st tt A 13 13), (rkr st tt A 12 13), (geV (slr st tt A 12) (slr st tt A 14)), (rkr st tt A 14 13), (Scalar.ofBits .f32 0x3F800000#32)⟩ := rfl

theorem part31_clean (st tt : IVec S16 32) (A : Nat → FVec F S16 .f32) :
    k1_part31 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (scr A 0) (scr A 1) (scr A 2) (scr A 3) (scr A 4) (scr A 5) (scr A 6) (scr A 7) (scr A 8) (scr A 9) (scr A 10) (scr A 11) (scr A 12) (scr A 13) (slr st tt A 12) (slr st tt A 13) (slr st tt A 14) (slr st tt A 15) (rkr st tt A 15 12) (rkr st tt A 13 13) (rkr st tt A 12 13) (geV (slr st tt A 12) (slr st tt A 14)) (rkr st tt A 14 13) (Scalar.ofBits .f32 0x3F800000#32) = pure ⟨(rkr st tt A 12 15), (rkr st tt A 13 15), (rkr st tt A 15 15), (rkr st tt A 14 15), (mxr A 13)⟩ := rfl

theorem part32_clean (st tt : IVec S16 32) (A : Nat → FVec F S16 .f32) :
    k1_part32 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (scr A 0) (scr A 1) (scr A 2) (scr A 3) (scr A 4) (scr A 5) (scr A 6) (scr A 14) (scr A 15) (rkr st tt A 0 15) (rkr st tt A 1 15) (rkr st tt A 2 15) (rkr st tt A 3 15) (rkr st tt A 4 15) (rkr st tt A 5 15) (rkr st tt A 6 15) (mxr A 13) = pure ⟨(mxr A 15), (esr st tt A 0), (esr st tt A 1), (esr st tt A 2), (esr st tt A 3), (esr st tt A 4), (esr st tt A 5), (esr st tt A 6), (broadcast S16 (Scalar.ofBits .f32 0x40C00000#32))⟩ := rfl

theorem part33_clean (st tt : IVec S16 32) (A : Nat → FVec F S16 .f32) :
    k1_part33 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 (scr A 7) (scr A 8) (scr A 9) (scr A 10) (scr A 11) (scr A 12) (scr A 13) (scr A 14) (rkr st tt A 7 15) (rkr st tt A 8 15) (rkr st tt A 9 15) (rkr st tt A 10 15) (rkr st tt A 11 15) (rkr st tt A 12 15) (rkr st tt A 13 15) (rkr st tt A 14 15) (mxr A 15) (broadcast S16 (Scalar.ofBits .f32 0x40C00000#32)) = pure ⟨(esr st tt A 7), (esr st tt A 8), (esr st tt A 9), (esr st tt A 10), (esr st tt A 11), (esr st tt A 12), (esr st tt A 13), (cmpf .olt (rkr st tt A 14 15) (broadcast S16 (Scalar.ofBits .f32 0x40C00000#32))), (exp (subf (scr A 14) (mxr A 15))), (Scalar.ofBits .f32 0x00000000#32)⟩ := rfl

theorem part34_clean (st tt : IVec S16 32) (A : Nat → FVec F S16 .f32) (t2 : Fin k1_t2_loop.trips) (v11 : BitVec 32) :
    k1_part34 i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 t2 v11 (scr A 15) (rkr st tt A 15 15) (mxr A 15) (esr st tt A 0) (esr st tt A 1) (esr st tt A 2) (esr st tt A 3) (esr st tt A 4) (esr st tt A 5) (esr st tt A 6) (esr st tt A 7) (esr st tt A 8) (esr st tt A 9) (esr st tt A 10) (esr st tt A 11) (esr st tt A 12) (esr st tt A 13) (cmpf .olt (rkr st tt A 14 15) (broadcast S16 (Scalar.ofBits .f32 0x40C00000#32))) (exp (subf (scr A 14) (mxr A 15))) (Scalar.ofBits .f32 0x00000000#32) = (do
      let l5 : Vec F S1x16 .f32 ← Prog.lift (.load arg12 (Rect.unit (s := S2x256) (k1_off5 t2) S1x16.size (k1_off5_inb t2)).toLoadRect (View.loadsAt_vmem h_S1x16))
      let l6 : Vec F S1x16 .f32 ← Prog.lift (.load arg12 (Rect.unit (s := S2x256) (k1_off6 t2) S1x16.size (k1_off6_inb t2)).toLoadRect (View.loadsAt_vmem h_S1x16))
      pure ⟨(esr st tt A 14), (esr st tt A 15), (clcV (mxr A 15) (rowV l5)), (cglV (mxr A 15) (rowV l5)), (invV (mxr A 15) (rowV l5) (zr st tt A 15) (rowV l6)), (wsV (esr st tt A 0) (clcV (mxr A 15) (rowV l5)) (invV (mxr A 15) (rowV l5) (zr st tt A 15) (rowV l6))), (wsV (esr st tt A 1) (clcV (mxr A 15) (rowV l5)) (invV (mxr A 15) (rowV l5) (zr st tt A 15) (rowV l6))), (wsV (esr st tt A 2) (clcV (mxr A 15) (rowV l5)) (invV (mxr A 15) (rowV l5) (zr st tt A 15) (rowV l6))), (wsV (esr st tt A 3) (clcV (mxr A 15) (rowV l5)) (invV (mxr A 15) (rowV l5) (zr st tt A 15) (rowV l6))), (wsV (esr st tt A 4) (clcV (mxr A 15) (rowV l5)) (invV (mxr A 15) (rowV l5) (zr st tt A 15) (rowV l6))), (wsV (esr st tt A 5) (clcV (mxr A 15) (rowV l5)) (invV (mxr A 15) (rowV l5) (zr st tt A 15) (rowV l6))), (wsV (esr st tt A 6) (clcV (mxr A 15) (rowV l5)) (invV (mxr A 15) (rowV l5) (zr st tt A 15) (rowV l6)))⟩) := rfl

theorem part3_clean (v0 : IVec S16 32) (v5 v8 : BitVec 32) (t2 : Fin k1_t2_loop.trips) :
    k1_part3 (F := F) i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 v0 v5 v8 0#32 1#32 t2 = pure ⟨Scalar.muli (Scf.iv 0#32 1#32 t2) 16#32, ttv v0 v5 t2, stv (ttv v0 v5 t2), lst (ttv v0 v5 t2) v8, kx (lst (ttv v0 v5 t2) v8) 0#32, kx (lst (ttv v0 v5 t2) v8) 1#32, kx (lst (ttv v0 v5 t2) v8) 2#32, kx (lst (ttv v0 v5 t2) v8) 3#32, kx (lst (ttv v0 v5 t2) v8) 4#32, kx (lst (ttv v0 v5 t2) v8) 5#32, kx (lst (ttv v0 v5 t2) v8) 6#32, kx (lst (ttv v0 v5 t2) v8) 7#32, kx (lst (ttv v0 v5 t2) v8) 8#32, kx (lst (ttv v0 v5 t2) v8) 9#32, kx (lst (ttv v0 v5 t2) v8) 10#32, kx (lst (ttv v0 v5 t2) v8) 11#32, kx (lst (ttv v0 v5 t2) v8) 12#32, kx (lst (ttv v0 v5 t2) v8) 13#32, 14#32⟩ := rfl

theorem part4_clean (t2 : Fin k1_t2_loop.trips) (v11 : BitVec 32) (w : IVec S16 32) :
    k1_part4 (F := F) i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 t2 v11 w (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) 14#32 = (do
      let r : Tup F ← Scf.Loop.for k1_t3_loop k1_t3_ok (tupA fun _ => cst 0x00000000#32) (k1_t3_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 t2 v11 w (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) 14#32)
      pure ⟨kx w 14#32, kx w 15#32, tupF r 5, tupF r 6, tupF r 7, tupF r 8, tupF r 9, tupF r 10, tupF r 11, tupF r 12, tupF r 13, tupF r 14, tupF r 15, scr (tupF r) 0, scr (tupF r) 1, scr (tupF r) 2, scr (tupF r) 3, scr (tupF r) 4, cst 0x3E000000#32⟩) := rfl

/-- The body of the loop over groups: the dot products, the two loads of the globals' rows, and the output rows. -/
theorem t2_clean (v0 : IVec S16 32) (t1 : Fin k1_t1_loop.trips) (v5 v8 : BitVec 32) (t2 : Fin k1_t2_loop.trips) (x : BitVec 32) :
    k1_t2_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 v0 t1 v5 v8 t2 x = (do
      let r : Tup F ← Scf.Loop.for k1_t3_loop k1_t3_ok (tupA fun _ => cst 0x00000000#32)
        (k1_t3_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 t2 (Scalar.muli (Scf.iv 0#32 1#32 t2) 16#32) (lst (ttv v0 v5 t2) v8) (kx (lst (ttv v0 v5 t2) v8) 0#32) (kx (lst (ttv v0 v5 t2) v8) 1#32) (kx (lst (ttv v0 v5 t2) v8) 2#32) (kx (lst (ttv v0 v5 t2) v8) 3#32) (kx (lst (ttv v0 v5 t2) v8) 4#32) (kx (lst (ttv v0 v5 t2) v8) 5#32) (kx (lst (ttv v0 v5 t2) v8) 6#32) (kx (lst (ttv v0 v5 t2) v8) 7#32) (kx (lst (ttv v0 v5 t2) v8) 8#32) (kx (lst (ttv v0 v5 t2) v8) 9#32) (kx (lst (ttv v0 v5 t2) v8) 10#32) (kx (lst (ttv v0 v5 t2) v8) 11#32) (kx (lst (ttv v0 v5 t2) v8) 12#32) (kx (lst (ttv v0 v5 t2) v8) 13#32) 14#32)
      let l5 : Vec F S1x16 .f32 ← Prog.lift (.load arg12 (Rect.unit (s := S2x256) (k1_off5 t2) S1x16.size (k1_off5_inb t2)).toLoadRect (View.loadsAt_vmem h_S1x16))
      let l6 : Vec F S1x16 .f32 ← Prog.lift (.load arg12 (Rect.unit (s := S2x256) (k1_off6 t2) S1x16.size (k1_off6_inb t2)).toLoadRect (View.loadsAt_vmem h_S1x16))
      let _ : BitVec 32 ← Scf.Loop.for k1_t4_loop k1_t4_ok 0#32 (k1_t4_body i arg2 harg2 arg3 harg3 arg4 harg4 arg5 harg5 arg6 harg6 arg7 harg7 arg8 harg8 arg9 harg9 arg10 harg10 arg11 harg11 arg12 harg12 arg13 harg13 v11_r0 v11_r1 v11_r2 v11_r3 v11_r4 v11_r5 v0 t1 v5 v8 t2 (Scalar.muli (Scf.iv 0#32 1#32 t2) 16#32) (kx (lst (ttv v0 v5 t2) v8) 0#32) (kx (lst (ttv v0 v5 t2) v8) 1#32) (kx (lst (ttv v0 v5 t2) v8) 2#32) (kx (lst (ttv v0 v5 t2) v8) 3#32) (kx (lst (ttv v0 v5 t2) v8) 4#32) (kx (lst (ttv v0 v5 t2) v8) 5#32) (kx (lst (ttv v0 v5 t2) v8) 6#32) (kx (lst (ttv v0 v5 t2) v8) 7#32) (kx (lst (ttv v0 v5 t2) v8) 8#32) (kx (lst (ttv v0 v5 t2) v8) 9#32) (kx (lst (ttv v0 v5 t2) v8) 10#32) (kx (lst (ttv v0 v5 t2) v8) 11#32) (kx (lst (ttv v0 v5 t2) v8) 12#32) (kx (lst (ttv v0 v5 t2) v8) 13#32) (kx (lst (ttv v0 v5 t2) v8) 14#32) (kx (lst (ttv v0 v5 t2) v8) 15#32)
        (esr (stv (ttv v0 v5 t2)) (ttv v0 v5 t2) (tupF r) 7) (esr (stv (ttv v0 v5 t2)) (ttv v0 v5 t2) (tupF r) 8) (esr (stv (ttv v0 v5 t2)) (ttv v0 v5 t2) (tupF r) 9) (esr (stv (ttv v0 v5 t2)) (ttv v0 v5 t2) (tupF r) 10) (esr (stv (ttv v0 v5 t2)) (ttv v0 v5 t2) (tupF r) 11) (esr (stv (ttv v0 v5 t2)) (ttv v0 v5 t2) (tupF r) 12) (esr (stv (ttv v0 v5 t2)) (ttv v0 v5 t2) (tupF r) 13) (esr (stv (ttv v0 v5 t2)) (ttv v0 v5 t2) (tupF r) 14) (esr (stv (ttv v0 v5 t2)) (ttv v0 v5 t2) (tupF r) 15) (clcV (mxr (tupF r) 15) (rowV l5)) (cglV (mxr (tupF r) 15) (rowV l5)) (invV (mxr (tupF r) 15) (rowV l5) (zr (stv (ttv v0 v5 t2)) (ttv v0 v5 t2) (tupF r) 15) (rowV l6))
        (wsV (esr (stv (ttv v0 v5 t2)) (ttv v0 v5 t2) (tupF r) 0) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 1) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 2) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 3) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 4) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 5) (clcV (mxr (tupF r) 15) (rowV l5)) (invV (mxr (tupF r) 15) (rowV l5) (zr (stv (ttv v0 v5 t2)) (ttv v0 v5 t2) (tupF r) 15) (rowV l6))) (wsV (esr (stv (ttv v0 v5 t2)) (ttv v0 v5 t2) (tupF r) 6) (clcV (mxr (tupF r) 15) (rowV l5)) (invV (mxr (tupF r) 15) (rowV l5) (zr (stv (ttv v0 v5 t2)) (ttv v0 v5 t2) (tupF r) 15) (rowV l6))))
      pure 0#32) := by
  unfold k1_t2_body
  simp only [part3_clean, part4_clean, bind_assoc, pure_bind]
  simp only [part5_clean, part6_clean, part7_clean, part8_clean, part9_clean, part10_clean, part11_clean, part12_clean, part13_clean, part14_clean, part15_clean, part16_clean, part17_clean, part18_clean, part19_clean, part20_clean, part21_clean, part22_clean, part23_clean, part24_clean, part25_clean, part26_clean, part27_clean, part28_clean, part29_clean, part30_clean, part31_clean, part32_clean, part33_clean, part34_clean, bind_assoc, pure_bind]

end Body

end Cert.Proof.Sc

end
-- ==== Proof.ScLoops.lean ====
module

public import proofs.«01_k».proof.Defs
public import proofs.«01_k».proof.Proof.ScPure
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueLayout

@[expose] public section

set_option synthInstance.maxSize 4096

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelined region's rounds library: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

variable [FloatOps F]

abbrev cV (L : grid1.Coords) : Fin τ.nSC := (L 0).castLE hcore1
abbrev jV (L : grid1.Coords) : Fin τ.nSub := (L 1).castLE hsub1

local notation "sQ" => (Memref.whole Cert.KernelIdeal.cc1_scratch0 : Memref Cert.KernelIdeal.sig Kind.scVector Space.vmem Cert.KernelIdeal.S64x256 EltTy.f32)
local notation "sK" => (Memref.whole Cert.KernelIdeal.cc1_scratch1 : Memref Cert.KernelIdeal.sig Kind.scVector Space.vmem Cert.KernelIdeal.S17408 EltTy.f32)
local notation "sV" => (Memref.whole Cert.KernelIdeal.cc1_scratch2 : Memref Cert.KernelIdeal.sig Kind.scVector Space.vmem Cert.KernelIdeal.S17408 EltTy.f32)
local notation "sG" => (Memref.whole Cert.KernelIdeal.cc1_scratch3 : Memref Cert.KernelIdeal.sig Kind.scVector Space.vmem Cert.KernelIdeal.S64x256 EltTy.f32)
local notation "sM" => (Memref.whole Cert.KernelIdeal.cc1_scratch4 : Memref Cert.KernelIdeal.sig Kind.scVector Space.vmem Cert.KernelIdeal.S2x256 EltTy.f32)
local notation "sO" => (Memref.whole Cert.KernelIdeal.cc1_scratch5 : Memref Cert.KernelIdeal.sig Kind.scVector Space.vmem Cert.KernelIdeal.S64x256 EltTy.f32)

/-! ## What the loops compute, over the tile's slabs -/

/-- Sixteen elements of row `n` of a slab, from column `c` on. -/
def row16 {h : ℕ} [NeZero h] (f : (⟨2, ![h, 256]⟩ : Shape).Idx → Elt F .f32) (n c : ℕ) : Vec F S1x16 .f32 :=
  fun x => f (fun a => match a with | 0 => ⟨n % h, Nat.mod_lt _ (Nat.pos_of_ne_zero (NeZero.ne h))⟩ | 1 => ⟨(c + (x 1).val) % 256, Nat.mod_lt _ (by decide)⟩)
/-- An indexed load from a flat slab. -/
def gat (f : S17408.Idx → Elt F .f32) (v : IVec S16 32) : Vec F S16 .f32 :=
  fun x => f (fun a => match a with | 0 => ⟨(v x).toNat % 17408, Nat.mod_lt _ (by decide)⟩)
/-- The dot product with key `f` after `n` of the dimensions. -/
def AA (fq : S64x256.Idx → Elt F .f32) (fk : S17408.Idx → Elt F .f32) (w : IVec S16 32) (c : ℕ) : ℕ → ℕ → FVec F S16 .f32
  | 0, _ => cst 0x00000000#32
  | n + 1, f => addf (AA fq fk w c n f) (mulf (rowV (row16 (h := 64) fq n c)) (gat fk (gx w (BitVec.ofNat 32 f) (BitVec.ofNat 32 n))))

/-- The positions of group `g`. -/
def ttN (v0 : IVec S16 32) (v5 : BitVec 32) (g : ℕ) : IVec S16 32 :=
  addi (broadcast S16 (Scalar.addi v5 (Scalar.muli (BitVec.ofNat 32 g) 16#32))) v0

/-- A group's row: dimension `n` of its sixteen outputs. -/
def ORow (fq : S64x256.Idx → Elt F .f32) (fk fv : S17408.Idx → Elt F .f32) (fg : S64x256.Idx → Elt F .f32) (fm : S2x256.Idx → Elt F .f32)
    (tt w : IVec S16 32) (c n : ℕ) : FVec F S16 .f32 :=
  outr (mulf (cglV (mxr (tupF (tupA (AA fq fk w c 64))) 15) (rowV (row16 (h := 2) fm 0 c)))
      (invV (mxr (tupF (tupA (AA fq fk w c 64))) 15) (rowV (row16 (h := 2) fm 0 c)) (zr (stv tt) tt (tupF (tupA (AA fq fk w c 64))) 15) (rowV (row16 (h := 2) fm 1 c))))
    (rowV (row16 (h := 64) fg n c))
    (fun f => wsV (esr (stv tt) tt (tupF (tupA (AA fq fk w c 64))) f) (clcV (mxr (tupF (tupA (AA fq fk w c 64))) 15) (rowV (row16 (h := 2) fm 0 c)))
      (invV (mxr (tupF (tupA (AA fq fk w c 64))) 15) (rowV (row16 (h := 2) fm 0 c)) (zr (stv tt) tt (tupF (tupA (AA fq fk w c 64))) 15) (rowV (row16 (h := 2) fm 1 c))))
    (fun f => gat fv (gx w (BitVec.ofNat 32 f) (BitVec.ofNat 32 n))) 16

/-- The tile's output slab, from its five input slabs. -/
def OUTB (fq : S64x256.Idx → Elt F .f32) (fk fv : S17408.Idx → Elt F .f32) (fg : S64x256.Idx → Elt F .f32) (fm : S2x256.Idx → Elt F .f32)
    (v0 : IVec S16 32) (v5 v8 : BitVec 32) : S64x256.Idx → Elt F .f32 :=
  fun y => ORow fq fk fv fg fm (ttN v0 v5 ((y 1).val / 16)) (lst (ttN v0 v5 ((y 1).val / 16)) v8) (16 * ((y 1).val / 16)) (y 0).val
    (fun a => match a with | 0 => ⟨(y 1).val % 16, Nat.mod_lt _ (by decide)⟩)

/-! ## Reading and writing the slabs -/

theorem iv_nat (n : ℕ) : Scf.iv 0#32 1#32 n = BitVec.ofNat 32 n := by
  simp [Scf.iv]

theorem ttv_eq (v0 : IVec S16 32) (v5 : BitVec 32) (t2 : Fin k1_t2_loop.trips) : ttv v0 v5 t2 = ttN v0 v5 t2.val := by
  unfold ttv ttN
  rw [iv_nat]

theorem gx_toNat (w : IVec S16 32) (x : S16.Idx) (f n : ℕ) (hw : (w x).toNat ≤ 256) (hf : f < 16) (hn : n < 64) :
    (gx w (BitVec.ofNat 32 f) (BitVec.ofNat 32 n) x).toNat = (w x).toNat + f + 272 * n := by
  show (w x + BitVec.ofNat 32 f + BitVec.ofNat 32 n * 272#32).toNat = _
  simp only [BitVec.toNat_add, BitVec.toNat_mul, BitVec.toNat_ofNat]
  omega

theorem gx_chk (w : IVec S16 32) (hw : ∀ x, (w x).toNat ≤ 256) (f : ℕ) (hf : f < 16) (n : ℕ) (hn : n < 64) :
    k1_chk1 (gx w (BitVec.ofNat 32 f) (Scf.iv 0#32 1#32 n)) := by
  intro a x
  rw [iv_nat]
  match a with
  | 0 =>
    show (gx w (BitVec.ofNat 32 f) (BitVec.ofNat 32 n) x).toNat < 17408
    rw [gx_toNat w x f n (hw x) hf hn]
    have := hw x
    omega

theorem read_q (d : Dev nD) (L : grid1.Coords) (n c : ℕ) (off : Fin 2 → ℕ) (h0 : off 0 = n) (h1 : off 1 = c)
    (hin : ∀ a, off a + S1x16.size a ≤ S64x256.size a) (f : Buf (Elt F) ((V d (cV L) (jV L)).loc cc1_scratch0)) :
    (Memref.whole cc1_scratch0).view.readAt (Elt F) (Rect.unit (s := S64x256) off S1x16.size hin).toLoadRect f = row16 (h := 64) f n c := by
  funext x
  have hx : (x 0).val = 0 := by
    have := (x 0).isLt
    have : (x 0).val < 1 := this
    omega
  have hx1 : (x 1).val < 16 := (x 1).isLt
  have b0 : off 0 + 1 ≤ 64 := hin 0
  have b1 : off 1 + 16 ≤ 256 := hin 1
  refine congrArg f (funext fun a => ?_)
  match a with
  | 0 => exact Fin.ext (by show off 0 + 1 * (x 0).val = n % 64; rw [hx, h0, Nat.mod_eq_of_lt (by omega)]; omega)
  | 1 => exact Fin.ext (by show off 1 + 1 * (x 1).val = (c + (x 1).val) % 256; rw [h1, Nat.mod_eq_of_lt (by omega)]; omega)

theorem read_g (d : Dev nD) (L : grid1.Coords) (n c : ℕ) (off : Fin 2 → ℕ) (h0 : off 0 = n) (h1 : off 1 = c)
    (hin : ∀ a, off a + S1x16.size a ≤ S64x256.size a) (f : Buf (Elt F) ((V d (cV L) (jV L)).loc cc1_scratch3)) :
    (Memref.whole cc1_scratch3).view.readAt (Elt F) (Rect.unit (s := S64x256) off S1x16.size hin).toLoadRect f = row16 (h := 64) f n c := by
  funext x
  have hx : (x 0).val = 0 := by
    have := (x 0).isLt
    have : (x 0).val < 1 := this
    omega
  have hx1 : (x 1).val < 16 := (x 1).isLt
  have b0 : off 0 + 1 ≤ 64 := hin 0
  have b1 : off 1 + 16 ≤ 256 := hin 1
  refine congrArg f (funext fun a => ?_)
  match a with
  | 0 => exact Fin.ext (by show off 0 + 1 * (x 0).val = n % 64; rw [hx, h0, Nat.mod_eq_of_lt (by omega)]; omega)
  | 1 => exact Fin.ext (by show off 1 + 1 * (x 1).val = (c + (x 1).val) % 256; rw [h1, Nat.mod_eq_of_lt (by omega)]; omega)

theorem read_m (d : Dev nD) (L : grid1.Coords) (n c : ℕ) (off : Fin 2 → ℕ) (h0 : off 0 = n) (h1 : off 1 = c)
    (hin : ∀ a, off a + S1x16.size a ≤ S2x256.size a) (f : Buf (Elt F) ((V d (cV L) (jV L)).loc cc1_scratch4)) :
    (Memref.whole cc1_scratch4).view.readAt (Elt F) (Rect.unit (s := S2x256) off S1x16.size hin).toLoadRect f = row16 (h := 2) f n c := by
  funext x
  have hx : (x 0).val = 0 := by
    have := (x 0).isLt
    have : (x 0).val < 1 := this
    omega
  have hx1 : (x 1).val < 16 := (x 1).isLt
  have b0 : off 0 + 1 ≤ 2 := hin 0
  have b1 : off 1 + 16 ≤ 256 := hin 1
  refine congrArg f (funext fun a => ?_)
  match a with
  | 0 => exact Fin.ext (by show off 0 + 1 * (x 0).val = n % 2; rw [hx, h0, Nat.mod_eq_of_lt (by omega)]; omega)
  | 1 => exact Fin.ext (by show off 1 + 1 * (x 1).val = (c + (x 1).val) % 256; rw [h1, Nat.mod_eq_of_lt (by omega)]; omega)

theorem gather_k (d : Dev nD) (L : grid1.Coords) (f : Buf (Elt F) ((V d (cV L) (jV L)).loc cc1_scratch1)) (v : IVec S16 32) (h : k1_chk1 v) :
    loadIdx (((sK).access (.whole S17408)).read (Elt F) f) ![v] h = gat f v := by
  funext x
  refine congrArg f (funext fun a => ?_)
  match a with
  | 0 => exact Fin.ext (by
      have := h 0 x
      have h' : (v x).toNat < 17408 := this
      show 0 + 1 * (v x).toNat = (v x).toNat % 17408
      omega)

theorem gather_v (d : Dev nD) (L : grid1.Coords) (f : Buf (Elt F) ((V d (cV L) (jV L)).loc cc1_scratch2)) (v : IVec S16 32) (h : k1_chk1 v) :
    loadIdx (((sV).access (.whole S17408)).read (Elt F) f) ![v] h = gat f v := by
  funext x
  refine congrArg f (funext fun a => ?_)
  match a with
  | 0 => exact Fin.ext (by
      have := h 0 x
      have h' : (v x).toNat < 17408 := this
      show 0 + 1 * (v x).toNat = (v x).toNat % 17408
      omega)

theorem write_o (d : Dev nD) (L : grid1.Coords) (n c : ℕ) (off : Fin 2 → ℕ) (h0 : off 0 = n) (h1 : off 1 = c)
    (hin : ∀ a, off a + S1x16.size a ≤ S64x256.size a) (f : Buf (Elt F) ((V d (cV L) (jV L)).loc cc1_scratch5)) (v : FVec F S16 .f32) (o : S64x256.Idx → Elt F .f32)
    (ho : ∀ y : S64x256.Idx, (y 0).val = n → ∀ h : (y 1).val - c < 16, c ≤ (y 1).val → o y = v (fun a => match a with | 0 => ⟨(y 1).val - c, h⟩)) :
    (((sO).access (Rect.unit (s := S64x256) off S1x16.size hin)).write (Elt F) f (shapeCast S1x16 v shapeCasts_S16_S1x16) Finset.univ : S64x256.Idx → Elt F .f32)
      = fun y => if (y 0).val = n ∧ c ≤ (y 1).val ∧ (y 1).val < c + 16 then o y else f y := by
  have b0 : off 0 + 1 ≤ 64 := hin 0
  have b1 : off 1 + 16 ≤ 256 := hin 1
  funext y
  by_cases hy : (y 0).val = n ∧ c ≤ (y 1).val ∧ (y 1).val < c + 16
  · rw [if_pos hy]
    let x : S1x16.Idx := fun a => match a with | 0 => ⟨0, by decide⟩ | 1 => ⟨(y 1).val - c, by show (y 1).val - c < 16; omega⟩
    have e : ((sO).access (Rect.unit (s := S64x256) off S1x16.size hin)).emb x = y := by
      funext a
      match a with
      | 0 => exact Fin.ext (by show off 0 + 1 * 0 = (y 0).val; omega)
      | 1 => exact Fin.ext (by show off 1 + 1 * ((y 1).val - c) = (y 1).val; omega)
    refine (congrArg _ e.symm).trans ((View.write_emb_of_mem (Val := Elt F) (v := (sO).access (Rect.unit (s := S64x256) off S1x16.size hin)) f _ (Finset.mem_univ x)).trans ?_)
    rw [ho y hy.1 (by omega) hy.2.1]
    show shapeCast S1x16 v _ x = _
    exact shapeCast_apply v _ x _ (by
      rw [Shape.rowMajor_val_two, Shape.rowMajor_val_one]
      show (y 1).val - c = 0 * 16 + ((y 1).val - c)
      omega)
  · rw [if_neg hy]
    refine View.write_of_not_mem (Val := Elt F) (v := (sO).access (Rect.unit (s := S64x256) off S1x16.size hin)) f _ _ fun hm => hy ?_
    obtain ⟨x, -, rfl⟩ := Finset.mem_map.mp hm
    have hx : (x 0).val < 1 := (x 0).isLt
    have hx1 : (x 1).val < 16 := (x 1).isLt
    refine ⟨?_, ?_, ?_⟩
    · show off 0 + 1 * (x 0).val = n; omega
    · show c ≤ off 1 + 1 * (x 1).val; omega
    · show off 1 + 1 * (x 1).val < c + 16; omega

variable (d : Dev nD) (L : grid1.Coords)

theorem wp_ga1 {α : Type} (v : IVec S16 32) (h : k1_chk1 v) (f : Buf (Elt F) ((V d (cV L) (jV L)).loc cc1_scratch1))
    (kk : Vec F S16 .f32 → Prog (TpuEff nD τ sig (Elt F) Λ₀ (.scVector (cV L) (jV L))) α) (Q : α → sProp 𝕄) :
    ((V d (cV L) (jV L)).loc cc1_scratch1 ↦{fullShare} f)
      ⊢ iprop((((V d (cV L) (jV L)).loc cc1_scratch1 ↦{fullShare} f) -∗ wp frame (wpE (defs₀ (F := F)) 𝒱₀ (V d (cV L) (jV L)) none) Set.univ (kk (gat f v)) Q)
        -∗ wp frame (wpE (defs₀ (F := F)) 𝒱₀ (V d (cV L) (jV L)) none) Set.univ (ga L (sK) v >>= kk) Q) := by
  unfold ga
  simp only [Prog.lift, Prog.bind_op, Prog.bind_ret, Prog.pure_eq_ret]
  rw [wp_assume_of _ _ _ _ h]
  rw [← gather_k d L f v h]
  exact SparseCore.wp_vectorLoadIdx 𝒱₀ (V d (cV L) (jV L)) none Set.univ (base := sK) (S := Finset.univ) (q := fullShare) (Finset.subset_univ _)

theorem wp_ga2 {α : Type} (v : IVec S16 32) (h : k1_chk1 v) (f : Buf (Elt F) ((V d (cV L) (jV L)).loc cc1_scratch2))
    (kk : Vec F S16 .f32 → Prog (TpuEff nD τ sig (Elt F) Λ₀ (.scVector (cV L) (jV L))) α) (Q : α → sProp 𝕄) :
    ((V d (cV L) (jV L)).loc cc1_scratch2 ↦{fullShare} f)
      ⊢ iprop((((V d (cV L) (jV L)).loc cc1_scratch2 ↦{fullShare} f) -∗ wp frame (wpE (defs₀ (F := F)) 𝒱₀ (V d (cV L) (jV L)) none) Set.univ (kk (gat f v)) Q)
        -∗ wp frame (wpE (defs₀ (F := F)) 𝒱₀ (V d (cV L) (jV L)) none) Set.univ (ga L (sV) v >>= kk) Q) := by
  unfold ga
  simp only [Prog.lift, Prog.bind_op, Prog.bind_ret, Prog.pure_eq_ret]
  rw [wp_assume_of _ _ _ _ h]
  rw [← gather_v d L f v h]
  exact SparseCore.wp_vectorLoadIdx 𝒱₀ (V d (cV L) (jV L)) none Set.univ (base := sV) (S := Finset.univ) (q := fullShare) (Finset.subset_univ _)

/-- One step of the dot products. -/
theorem wp_t3_step (t2 : Fin k1_t2_loop.trips) (v11 : BitVec 32) (w : IVec S16 32) (hw : ∀ x, (w x).toNat ≤ 256) (t3 : Fin k1_t3_loop.trips)
    (fq : S64x256.Idx → Elt F .f32) (fk : S17408.Idx → Elt F .f32) (x : Tup F) (Q : Tup F → sProp 𝕄)
    (hx : x = tupA (AA fq fk w (16 * t2.val) t3.val)) :
    iprop(((V d (cV L) (jV L)).loc cc1_scratch0 ↦{fullShare} fq) ∗ ((V d (cV L) (jV L)).loc cc1_scratch1 ↦{fullShare} fk)
      ∗ (((V d (cV L) (jV L)).loc cc1_scratch0 ↦{fullShare} fq) -∗ ((V d (cV L) (jV L)).loc cc1_scratch1 ↦{fullShare} fk)
        -∗ Q (tupA (AA fq fk w (16 * t2.val) (t3.val + 1)))))
      ⊢ wp frame (wpE (defs₀ (F := F)) 𝒱₀ (V d (cV L) (jV L)) none) Set.univ
        (k1_t3_body L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 t2 v11 w (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) 14#32 t3 x) Q := by
  subst hx
  rw [t3_clean]
  iintro H
  icases H with ⟨Hq, Hk, HQ⟩
  simp only [Prog.lift, Prog.bind_op, Prog.bind_ret, Prog.pure_eq_ret]
  iapply (wp_load 𝒱₀ (V d (cV L) (jV L)) none Set.univ (m := sQ) (S := Finset.univ) (Finset.subset_univ _)) $$ Hq
  iintro Hq
  rw [read_q d L t3.val (16 * t2.val) _ (by rw [k1_off4_eq]; rfl) (by rw [k1_off4_eq]; rfl)]
  iapply (wp_ga1 d L _ (gx_chk w hw 0 (by decide) t3.val t3.isLt) fk _ _) $$ Hk
  iintro Hk
  iapply (wp_ga1 d L _ (gx_chk w hw 1 (by decide) t3.val t3.isLt) fk _ _) $$ Hk
  iintro Hk
  iapply (wp_ga1 d L _ (gx_chk w hw 2 (by decide) t3.val t3.isLt) fk _ _) $$ Hk
  iintro Hk
  iapply (wp_ga1 d L _ (gx_chk w hw 3 (by decide) t3.val t3.isLt) fk _ _) $$ Hk
  iintro Hk
  iapply (wp_ga1 d L _ (gx_chk w hw 4 (by decide) t3.val t3.isLt) fk _ _) $$ Hk
  iintro Hk
  iapply (wp_ga1 d L _ (gx_chk w hw 5 (by decide) t3.val t3.isLt) fk _ _) $$ Hk
  iintro Hk
  iapply (wp_ga1 d L _ (gx_chk w hw 6 (by decide) t3.val t3.isLt) fk _ _) $$ Hk
  iintro Hk
  iapply (wp_ga1 d L _ (gx_chk w hw 7 (by decide) t3.val t3.isLt) fk _ _) $$ Hk
  iintro Hk
  iapply (wp_ga1 d L _ (gx_chk w hw 8 (by decide) t3.val t3.isLt) fk _ _) $$ Hk
  iintro Hk
  iapply (wp_ga1 d L _ (gx_chk w hw 9 (by decide) t3.val t3.isLt) fk _ _) $$ Hk
  iintro Hk
  iapply (wp_ga1 d L _ (gx_chk w hw 10 (by decide) t3.val t3.isLt) fk _ _) $$ Hk
  iintro Hk
  iapply (wp_ga1 d L _ (gx_chk w hw 11 (by decide) t3.val t3.isLt) fk _ _) $$ Hk
  iintro Hk
  iapply (wp_ga1 d L _ (gx_chk w hw 12 (by decide) t3.val t3.isLt) fk _ _) $$ Hk
  iintro Hk
  iapply (wp_ga1 d L _ (gx_chk w hw 13 (by decide) t3.val t3.isLt) fk _ _) $$ Hk
  iintro Hk
  iapply (wp_ga1 d L _ (gx_chk w hw 14 (by decide) t3.val t3.isLt) fk _ _) $$ Hk
  iintro Hk
  iapply (wp_ga1 d L _ (gx_chk w hw 15 (by decide) t3.val t3.isLt) fk _ _) $$ Hk
  iintro Hk
  rw [wp_ret]
  imodintro
  simp only [tupA, AA, iv_nat]
  iapply HQ $$ Hq Hk

/-- One output row. -/
theorem wp_t4_step (v0 : IVec S16 32) (t1 : Fin k1_t1_loop.trips) (v5 v8 : BitVec 32) (t2 : Fin k1_t2_loop.trips) (v11 : BitVec 32) (w : IVec S16 32) (hw : ∀ x, (w x).toNat ≤ 256)
    (es : ℕ → FVec F S16 .f32) (c1 c2 iv : FVec F S16 .f32) (t4 : Fin k1_t4_loop.trips) (x : BitVec 32)
    (fv : S17408.Idx → Elt F .f32) (fg f o : S64x256.Idx → Elt F .f32) (Q : BitVec 32 → sProp 𝕄)
    (ho : ∀ y : S64x256.Idx, (y 0).val = t4.val → ∀ h : (y 1).val - 16 * t2.val < 16, 16 * t2.val ≤ (y 1).val → o y
      = outr (mulf c2 iv) (rowV (row16 (h := 64) fg t4.val (16 * t2.val))) (fun f => wsV (es f) c1 iv)
          (fun f => gat fv (gx w (BitVec.ofNat 32 f) (BitVec.ofNat 32 t4.val))) 16 (fun a => match a with | 0 => ⟨(y 1).val - 16 * t2.val, h⟩)) :
    iprop(((V d (cV L) (jV L)).loc cc1_scratch3 ↦{fullShare} fg) ∗ ((V d (cV L) (jV L)).loc cc1_scratch2 ↦{fullShare} fv)
      ∗ ((V d (cV L) (jV L)).loc cc1_scratch5 ↦{fullShare} f)
      ∗ (((V d (cV L) (jV L)).loc cc1_scratch3 ↦{fullShare} fg) -∗ ((V d (cV L) (jV L)).loc cc1_scratch2 ↦{fullShare} fv)
        -∗ ((V d (cV L) (jV L)).loc cc1_scratch5 ↦{fullShare}
          (fun y : S64x256.Idx => if (y 0).val = t4.val ∧ 16 * t2.val ≤ (y 1).val ∧ (y 1).val < 16 * t2.val + 16 then o y else f y)) -∗ Q 0#32))
      ⊢ wp frame (wpE (defs₀ (F := F)) 𝒱₀ (V d (cV L) (jV L)) none) Set.univ
        (k1_t4_body L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 v0 t1 v5 v8 t2 v11 (kx w 0#32) (kx w 1#32) (kx w 2#32) (kx w 3#32) (kx w 4#32) (kx w 5#32) (kx w 6#32) (kx w 7#32) (kx w 8#32) (kx w 9#32) (kx w 10#32) (kx w 11#32) (kx w 12#32) (kx w 13#32) (kx w 14#32) (kx w 15#32) (es 7) (es 8) (es 9) (es 10) (es 11) (es 12) (es 13) (es 14) (es 15) c1 c2 iv (wsV (es 0) c1 iv) (wsV (es 1) c1 iv) (wsV (es 2) c1 iv) (wsV (es 3) c1 iv) (wsV (es 4) c1 iv) (wsV (es 5) c1 iv) (wsV (es 6) c1 iv) t4 x) Q := by
  rw [t4_clean]
  iintro H
  icases H with ⟨Hg, Hv, Ho, HQ⟩
  simp only [Prog.lift, Prog.bind_op, Prog.bind_ret, Prog.pure_eq_ret]
  iapply (wp_load 𝒱₀ (V d (cV L) (jV L)) none Set.univ (m := sG) (S := Finset.univ) (Finset.subset_univ _)) $$ Hg
  iintro Hg
  rw [read_g d L t4.val (16 * t2.val) _ (by rw [k1_off7_eq]; rfl) (by rw [k1_off7_eq]; rfl)]
  iapply (wp_ga2 d L _ (gx_chk w hw 0 (by decide) t4.val t4.isLt) fv _ _) $$ Hv
  iintro Hv
  iapply (wp_ga2 d L _ (gx_chk w hw 1 (by decide) t4.val t4.isLt) fv _ _) $$ Hv
  iintro Hv
  iapply (wp_ga2 d L _ (gx_chk w hw 2 (by decide) t4.val t4.isLt) fv _ _) $$ Hv
  iintro Hv
  iapply (wp_ga2 d L _ (gx_chk w hw 3 (by decide) t4.val t4.isLt) fv _ _) $$ Hv
  iintro Hv
  iapply (wp_ga2 d L _ (gx_chk w hw 4 (by decide) t4.val t4.isLt) fv _ _) $$ Hv
  iintro Hv
  iapply (wp_ga2 d L _ (gx_chk w hw 5 (by decide) t4.val t4.isLt) fv _ _) $$ Hv
  iintro Hv
  iapply (wp_ga2 d L _ (gx_chk w hw 6 (by decide) t4.val t4.isLt) fv _ _) $$ Hv
  iintro Hv
  iapply (wp_ga2 d L _ (gx_chk w hw 7 (by decide) t4.val t4.isLt) fv _ _) $$ Hv
  iintro Hv
  iapply (wp_ga2 d L _ (gx_chk w hw 8 (by decide) t4.val t4.isLt) fv _ _) $$ Hv
  iintro Hv
  iapply (wp_ga2 d L _ (gx_chk w hw 9 (by decide) t4.val t4.isLt) fv _ _) $$ Hv
  iintro Hv
  iapply (wp_ga2 d L _ (gx_chk w hw 10 (by decide) t4.val t4.isLt) fv _ _) $$ Hv
  iintro Hv
  iapply (wp_ga2 d L _ (gx_chk w hw 11 (by decide) t4.val t4.isLt) fv _ _) $$ Hv
  iintro Hv
  iapply (wp_ga2 d L _ (gx_chk w hw 12 (by decide) t4.val t4.isLt) fv _ _) $$ Hv
  iintro Hv
  iapply (wp_ga2 d L _ (gx_chk w hw 13 (by decide) t4.val t4.isLt) fv _ _) $$ Hv
  iintro Hv
  iapply (wp_ga2 d L _ (gx_chk w hw 14 (by decide) t4.val t4.isLt) fv _ _) $$ Hv
  iintro Hv
  iapply (wp_ga2 d L _ (gx_chk w hw 15 (by decide) t4.val t4.isLt) fv _ _) $$ Hv
  iintro Hv
  iapply (wp_load 𝒱₀ (V d (cV L) (jV L)) none Set.univ (m := sO) (S := Finset.univ) (Finset.subset_univ _)) $$ Ho
  iintro Ho
  iapply (wp_store 𝒱₀ (V d (cV L) (jV L)) none Set.univ (m := sO) (r := Rect.unit (s := S64x256) (k1_off8 t2 t4) S1x16.size (k1_off8_inb t2 t4)) (f := f) (S := Finset.univ) (Finset.subset_univ _)) $$ Ho
  iintro Ho
  rw [write_o d L t4.val (16 * t2.val) _ (by rw [k1_off8_eq]; rfl) (by rw [k1_off8_eq]; rfl) _ f _ o (by simp only [iv_nat]; exact ho)]
  rw [wp_ret]
  imodintro
  iapply HQ $$ Hg Hv Ho

theorem trips2 : k1_t2_loop.trips = 16 := by decide
theorem trips3 : k1_t3_loop.trips = 64 := by decide
theorem trips4 : k1_t4_loop.trips = 64 := by decide

/-- The six slabs a tile computes with. -/
def Slabs (fq : S64x256.Idx → Elt F .f32) (fk fv : S17408.Idx → Elt F .f32) (fg : S64x256.Idx → Elt F .f32) (fm : S2x256.Idx → Elt F .f32) (fo : S64x256.Idx → Elt F .f32) : sProp 𝕄 :=
  iprop(((V d (cV L) (jV L)).loc cc1_scratch0 ↦{fullShare} fq) ∗ ((V d (cV L) (jV L)).loc cc1_scratch1 ↦{fullShare} fk)
      ∗ ((V d (cV L) (jV L)).loc cc1_scratch2 ↦{fullShare} fv) ∗ ((V d (cV L) (jV L)).loc cc1_scratch3 ↦{fullShare} fg)
      ∗ ((V d (cV L) (jV L)).loc cc1_scratch4 ↦{fullShare} fm) ∗ ((V d (cV L) (jV L)).loc cc1_scratch5 ↦{fullShare} fo))

/-- The output slab after `n` groups. -/
def upto (n : ℕ) (o f0 : S64x256.Idx → Elt F .f32) : S64x256.Idx → Elt F .f32 := fun y => if (y 1).val < 16 * n then o y else f0 y

/-- The output slab after `n` rows of group `g`. -/
def uptoRow (g n : ℕ) (o f0 : S64x256.Idx → Elt F .f32) : S64x256.Idx → Elt F .f32 :=
  fun y => if (y 1).val < 16 * g ∨ ((y 1).val < 16 * g + 16 ∧ (y 0).val < n) then o y else f0 y

/-- One group of sixteen positions. -/
theorem wp_t2_step (v0 : IVec S16 32) (t1 : Fin k1_t1_loop.trips) (v5 v8 : BitVec 32) (t2 : Fin k1_t2_loop.trips) (x : BitVec 32)
    (hw : ∀ z : S16.Idx, (lst (ttN v0 v5 t2.val) v8 z).toNat ≤ 256)
    (fq : S64x256.Idx → Elt F .f32) (fk fv : S17408.Idx → Elt F .f32) (fg : S64x256.Idx → Elt F .f32) (fm : S2x256.Idx → Elt F .f32) (f0 : S64x256.Idx → Elt F .f32) :
    Slabs d L fq fk fv fg fm (upto t2.val (OUTB fq fk fv fg fm v0 v5 v8) f0)
      ⊢ wp frame (wpE (defs₀ (F := F)) 𝒱₀ (V d (cV L) (jV L)) none) Set.univ
        (k1_t2_body L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 v0 t1 v5 v8 t2 x)
        (fun _ => Slabs d L fq fk fv fg fm (upto (t2.val + 1) (OUTB fq fk fv fg fm v0 v5 v8) f0)) := by
  unfold Slabs
  rw [t2_clean, ttv_eq]
  have hwe : ∃ w, lst (ttN v0 v5 t2.val) v8 = w := ⟨_, rfl⟩
  obtain ⟨w, hwd⟩ := hwe
  rw [hwd] at hw ⊢
  iintro H
  icases H with ⟨Hq, Hk, Hv, Hg, Hm, Ho⟩
  ihave HI : iprop(⌜tupA (fun _ => cst 0x00000000#32) = tupA (AA fq fk w (16 * t2.val) 0)⌝ ∗ ((V d (cV L) (jV L)).loc cc1_scratch0 ↦{fullShare} fq) ∗ ((V d (cV L) (jV L)).loc cc1_scratch1 ↦{fullShare} fk)) $$ [Hq Hk]
  · isplitr; · ipureintro; rfl
    isplitl [Hq] <;> iassumption
  iapply (Scf.wp_for_bind frame (wpE (defs₀ (F := F)) 𝒱₀ (V d (cV L) (jV L)) none) Set.univ k1_t3_loop.lb k1_t3_loop.ub k1_t3_loop.st k1_t3_ok _ _
    (fun n acc => iprop(⌜acc = tupA (AA fq fk w (16 * t2.val) n)⌝ ∗ ((V d (cV L) (jV L)).loc cc1_scratch0 ↦{fullShare} fq) ∗ ((V d (cV L) (jV L)).loc cc1_scratch1 ↦{fullShare} fk))) ?_) $$ HI
  · intro t3 acc
    iintro HI
    icases HI with ⟨%hacc, Hq, Hk⟩
    iapply (wp_t3_step d L t2 _ w hw t3 fq fk acc _ hacc)
    isplitl [Hq]; · iassumption
    isplitl [Hk]; · iassumption
    iintro Hq Hk
    isplitr; · ipureintro; rfl
    isplitl [Hq] <;> iassumption
  iintro %r HI
  icases HI with ⟨%hr, Hq, Hk⟩
  rw [show Scf.trips k1_t3_loop.lb k1_t3_loop.ub k1_t3_loop.st = 64 from trips3] at hr
  subst hr
  simp only [Prog.lift, Prog.bind_op, Prog.bind_ret, Prog.pure_eq_ret]
  iapply (wp_load 𝒱₀ (V d (cV L) (jV L)) none Set.univ (m := sM) (S := Finset.univ) (Finset.subset_univ _)) $$ Hm
  iintro Hm
  rw [read_m d L 0 (16 * t2.val) _ (by rw [k1_off5_eq]; rfl) (by rw [k1_off5_eq]; rfl)]
  iapply (wp_load 𝒱₀ (V d (cV L) (jV L)) none Set.univ (m := sM) (S := Finset.univ) (Finset.subset_univ _)) $$ Hm
  iintro Hm
  rw [read_m d L 1 (16 * t2.val) _ (by rw [k1_off6_eq]; rfl) (by rw [k1_off6_eq]; rfl)]
  have ho : ∀ t4 : Fin k1_t4_loop.trips, ∀ y : S64x256.Idx, (y 0).val = t4.val → ∀ h : (y 1).val - 16 * t2.val < 16, 16 * t2.val ≤ (y 1).val →
      OUTB fq fk fv fg fm v0 v5 v8 y = ORow fq fk fv fg fm (ttN v0 v5 t2.val) w (16 * t2.val) t4.val (fun a => match a with | 0 => ⟨(y 1).val - 16 * t2.val, h⟩) := by
    intro t4 y h0 h h1
    have e : (y 1).val / 16 = t2.val := by omega
    show ORow fq fk fv fg fm (ttN v0 v5 ((y 1).val / 16)) (lst (ttN v0 v5 ((y 1).val / 16)) v8) (16 * ((y 1).val / 16)) (y 0).val _ = _
    rw [e, h0, hwd]
    refine congrArg _ (funext fun a => ?_)
    match a with
    | 0 => exact Fin.ext (by show (y 1).val % 16 = (y 1).val - 16 * t2.val; omega)
  ihave HI : iprop(((V d (cV L) (jV L)).loc cc1_scratch3 ↦{fullShare} fg) ∗ ((V d (cV L) (jV L)).loc cc1_scratch2 ↦{fullShare} fv) ∗ ((V d (cV L) (jV L)).loc cc1_scratch5 ↦{fullShare} (uptoRow t2.val 0 (OUTB fq fk fv fg fm v0 v5 v8) f0))) $$ [Hg Hv Ho]
  · isplitl [Hg]; · iassumption
    isplitl [Hv]; · iassumption
    rw [show uptoRow t2.val 0 (OUTB fq fk fv fg fm v0 v5 v8) f0 = upto t2.val (OUTB fq fk fv fg fm v0 v5 v8) f0 from
      funext fun y => by simp only [uptoRow, upto, Nat.not_lt_zero, and_false, or_false]]
    iassumption
  iapply (Scf.wp_for_bind frame (wpE (defs₀ (F := F)) 𝒱₀ (V d (cV L) (jV L)) none) Set.univ k1_t4_loop.lb k1_t4_loop.ub k1_t4_loop.st k1_t4_ok _ _
    (fun n _ => iprop(((V d (cV L) (jV L)).loc cc1_scratch3 ↦{fullShare} fg) ∗ ((V d (cV L) (jV L)).loc cc1_scratch2 ↦{fullShare} fv)
      ∗ ((V d (cV L) (jV L)).loc cc1_scratch5 ↦{fullShare} (uptoRow t2.val n (OUTB fq fk fv fg fm v0 v5 v8) f0)))) ?_) $$ HI
  · intro t4 acc
    iintro HI
    icases HI with ⟨Hg, Hv, Ho⟩
    iapply (wp_t4_step d L v0 t1 v5 v8 t2 _ w hw (esr (stv (ttN v0 v5 t2.val)) (ttN v0 v5 t2.val) (tupF (tupA (AA fq fk w (16 * t2.val) 64)))) _ _ _ t4 acc fv fg _ (OUTB fq fk fv fg fm v0 v5 v8) _ (ho t4))
    isplitl [Hg]; · iassumption
    isplitl [Hv]; · iassumption
    isplitl [Ho]; · iassumption
    iintro Hg Hv Ho
    isplitl [Hg]; · iassumption
    isplitl [Hv]; · iassumption
    rw [show uptoRow t2.val (t4.val + 1) (OUTB fq fk fv fg fm v0 v5 v8) f0 = _ from
      funext fun y => (show _ = (fun y : S64x256.Idx => if (y 0).val = t4.val ∧ 16 * t2.val ≤ (y 1).val ∧ (y 1).val < 16 * t2.val + 16 then OUTB fq fk fv fg fm v0 v5 v8 y
        else uptoRow t2.val t4.val (OUTB fq fk fv fg fm v0 v5 v8) f0 y) y by
          simp only [uptoRow]
          by_cases c1 : (y 1).val < 16 * t2.val ∨ ((y 1).val < 16 * t2.val + 16 ∧ (y 0).val < t4.val)
          · rw [if_pos (by omega), if_pos c1, ite_self]
          · by_cases c2 : (y 0).val = t4.val ∧ 16 * t2.val ≤ (y 1).val ∧ (y 1).val < 16 * t2.val + 16
            · rw [if_pos (by omega), if_pos c2]
            · rw [if_neg (by omega), if_neg c2, if_neg c1])]
    iassumption
  iintro %r HI
  icases HI with ⟨Hg, Hv, Ho⟩
  rw [wp_ret]
  imodintro
  isplitl [Hq]; · iassumption
  isplitl [Hk]; · iassumption
  isplitl [Hv]; · iassumption
  isplitl [Hg]; · iassumption
  isplitl [Hm]; · iassumption
  rw [show Scf.trips k1_t4_loop.lb k1_t4_loop.ub k1_t4_loop.st = 64 from trips4,
    show upto (t2.val + 1) (OUTB fq fk fv fg fm v0 v5 v8) f0 = uptoRow t2.val 64 (OUTB fq fk fv fg fm v0 v5 v8) f0 from
      funext fun y => by
        have h0 : (y 0).val < 64 := (y 0).isLt
        simp only [uptoRow, upto]
        exact if_congr (by omega) rfl rfl]
  iassumption

end Cert.Proof.Sc

end
-- ==== Proof.ScTile.lean ====
module

public import proofs.«01_k».proof.Defs
public import proofs.«01_k».proof.Proof.ScLoops

@[expose] public section

set_option synthInstance.maxSize 4096

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "qM" => (Memref.whole Cert.KernelIdeal.main_v5_scv : Memref Cert.KernelIdeal.sig Kind.scVector Space.hbm Cert.KernelIdeal.S16x8x64x256 EltTy.f32)
local notation "kM" => (Memref.whole Cert.KernelIdeal.main_v23_scv : Memref Cert.KernelIdeal.sig Kind.scVector Space.hbm Cert.KernelIdeal.S16x8x17408 EltTy.f32)
local notation "vM" => (Memref.whole Cert.KernelIdeal.main_v41_scv : Memref Cert.KernelIdeal.sig Kind.scVector Space.hbm Cert.KernelIdeal.S16x8x17408 EltTy.f32)
local notation "gM" => (Memref.whole Cert.KernelIdeal.main_v43_scv : Memref Cert.KernelIdeal.sig Kind.scVector Space.hbm Cert.KernelIdeal.S16x8x64x256 EltTy.f32)
local notation "mM" => (Memref.whole Cert.KernelIdeal.main_v45_scv : Memref Cert.KernelIdeal.sig Kind.scVector Space.hbm Cert.KernelIdeal.S16x8x2x256 EltTy.f32)
local notation "oM" => (Memref.whole Cert.KernelIdeal.main_v46_scv : Memref Cert.KernelIdeal.sig Kind.scVector Space.hbm Cert.KernelIdeal.S16x8x64x256 EltTy.f32)
local notation "sQ" => (Memref.whole Cert.KernelIdeal.cc1_scratch0 : Memref Cert.KernelIdeal.sig Kind.scVector Space.vmem Cert.KernelIdeal.S64x256 EltTy.f32)
local notation "sK" => (Memref.whole Cert.KernelIdeal.cc1_scratch1 : Memref Cert.KernelIdeal.sig Kind.scVector Space.vmem Cert.KernelIdeal.S17408 EltTy.f32)
local notation "sV" => (Memref.whole Cert.KernelIdeal.cc1_scratch2 : Memref Cert.KernelIdeal.sig Kind.scVector Space.vmem Cert.KernelIdeal.S17408 EltTy.f32)
local notation "sG" => (Memref.whole Cert.KernelIdeal.cc1_scratch3 : Memref Cert.KernelIdeal.sig Kind.scVector Space.vmem Cert.KernelIdeal.S64x256 EltTy.f32)
local notation "sM" => (Memref.whole Cert.KernelIdeal.cc1_scratch4 : Memref Cert.KernelIdeal.sig Kind.scVector Space.vmem Cert.KernelIdeal.S2x256 EltTy.f32)
local notation "sO" => (Memref.whole Cert.KernelIdeal.cc1_scratch5 : Memref Cert.KernelIdeal.sig Kind.scVector Space.vmem Cert.KernelIdeal.S64x256 EltTy.f32)

variable (d : Dev nD) (L : grid1.Coords)

/-! ## The pieces of the operands one trip of the outer loop moves, as the body slices them -/

abbrev qP (t1 : Fin k1_t1_loop.trips) : Memref sig .scVector .hbm S64x256 .f32 :=
  ((qM).slice (Rect.unit (s := S16x8x64x256) (k1_off1 L t1) S1x1x64x256.size (k1_off1_inb L t1)) (fun _ => rfl)).squeeze S64x256 squeezes_S1x1x64x256_S64x256
abbrev kP (t1 : Fin k1_t1_loop.trips) : Memref sig .scVector .hbm S17408 .f32 :=
  ((kM).slice (Rect.unit (s := S16x8x17408) (k1_off2 L t1) S1x1x17408.size (k1_off2_inb L t1)) (fun _ => rfl)).squeeze S17408 squeezes_S1x1x17408_S17408
abbrev vP (t1 : Fin k1_t1_loop.trips) : Memref sig .scVector .hbm S17408 .f32 :=
  ((vM).slice (Rect.unit (s := S16x8x17408) (k1_off2 L t1) S1x1x17408.size (k1_off2_inb L t1)) (fun _ => rfl)).squeeze S17408 squeezes_S1x1x17408_S17408
abbrev gP (t1 : Fin k1_t1_loop.trips) : Memref sig .scVector .hbm S64x256 .f32 :=
  ((gM).slice (Rect.unit (s := S16x8x64x256) (k1_off1 L t1) S1x1x64x256.size (k1_off1_inb L t1)) (fun _ => rfl)).squeeze S64x256 squeezes_S1x1x64x256_S64x256
abbrev mP (t1 : Fin k1_t1_loop.trips) : Memref sig .scVector .hbm S2x256 .f32 :=
  ((mM).slice (Rect.unit (s := S16x8x2x256) (k1_off3 L t1) S1x1x2x256.size (k1_off3_inb L t1)) (fun _ => rfl)).squeeze S2x256 squeezes_S1x1x2x256_S2x256
abbrev oP (t1 : Fin k1_t1_loop.trips) : Memref sig .scVector .hbm S64x256 .f32 :=
  ((oM).slice (Rect.unit (s := S16x8x64x256) (k1_off1 L t1) S1x1x64x256.size (k1_off1_inb L t1)) (fun _ => rfl)).squeeze S64x256 squeezes_S1x1x64x256_S64x256

abbrev thr (d : Dev nD) (L : grid1.Coords) : Thread nD τ := V d (cV L) (jV L)

/-- A tile's head, and the chunk of trip `t1`. -/
abbrev hOf (L : grid1.Coords) : Fin 16 := ⟨(L 1).val, (L 1).isLt⟩
theorem nOf_lt (L : grid1.Coords) (t1 : Fin k1_t1_loop.trips) : 4 * (L 0).val + t1.val < 8 := by
  have h1 : t1.val < 4 := t1.isLt
  have h2 : (L 0).val < 2 := (L 0).isLt
  omega
abbrev nOf (L : grid1.Coords) (t1 : Fin k1_t1_loop.trips) : Fin 8 := ⟨4 * (L 0).val + t1.val, nOf_lt L t1⟩

def ix4 {a b : ℕ} (h : Fin 16) (n : Fin 8) (y : Fin a) (z : Fin b) : (⟨4, ![16, 8, a, b]⟩ : Shape).Idx := fun i => match i with | 0 => h | 1 => n | 2 => y | 3 => z
def ix3 {a : ℕ} (h : Fin 16) (n : Fin 8) (y : Fin a) : (⟨3, ![16, 8, a]⟩ : Shape).Idx := fun i => match i with | 0 => h | 1 => n | 2 => y
/-- One head's chunk of an array. -/
def slab4 {a b : ℕ} (q : (⟨4, ![16, 8, a, b]⟩ : Shape).Idx → Elt F .f32) (h : Fin 16) (n : Fin 8) : (⟨2, ![a, b]⟩ : Shape).Idx → Elt F .f32 := fun y => q (ix4 h n (y 0) (y 1))
def slab3 {a : ℕ} (q : (⟨3, ![16, 8, a]⟩ : Shape).Idx → Elt F .f32) (h : Fin 16) (n : Fin 8) : (⟨1, ![a]⟩ : Shape).Idx → Elt F .f32 := fun y => q (ix3 h n (y 0))

def lanes : IVec S16 32 := iota .scVector S16 32 [0] iota_S16_d0_w32_scVector
/-- A chunk's first position, and the first key of its slab. -/
def v5N (n : ℕ) : BitVec 32 := BitVec.ofNat 32 (256 * n)
def v8N (n : ℕ) : BitVec 32 := Scalar.minsi 1776#32 (Scalar.maxsi 0#32 (Scalar.subi (v5N n) 8#32))

/-- The array the call writes. -/
def OUTA (q : S16x8x64x256.Idx → Elt F .f32) (k v : S16x8x17408.Idx → Elt F .f32) (g : S16x8x64x256.Idx → Elt F .f32) (mz : S16x8x2x256.Idx → Elt F .f32) :
    S16x8x64x256.Idx → Elt F .f32 :=
  fun x => OUTB (slab4 (a := 64) (b := 256) q (x 0) (x 1)) (slab3 (a := 17408) k (x 0) (x 1)) (slab3 (a := 17408) v (x 0) (x 1)) (slab4 (a := 64) (b := 256) g (x 0) (x 1)) (slab4 (a := 2) (b := 256) mz (x 0) (x 1))
    lanes (v5N (x 1).val) (v8N (x 1).val) (fun a => match a with | 0 => x 2 | 1 => x 3)

/-! ## The index of every key lies in the slab -/

/-- Position, window start and place in the slab, as 32-bit words. -/
def posW (n t2 z : ℕ) : BitVec 32 := Scalar.addi (v5N n) (Scalar.muli (BitVec.ofNat 32 t2) 16#32) + BitVec.ofNat 32 z

theorem lst_bound (n : Fin 8) (t2 : ℕ) (ht2 : t2 < 16) (z : S16.Idx) : (lst (ttN lanes (v5N n.val) t2) (v8N n.val) z).toNat ≤ 256 := by
  have key : ∀ n : Fin 8, ∀ t2 : Fin 16, ∀ z : Fin 16,
      (Scalar.minsi 2032#32 (Scalar.maxsi 0#32 (posW n.val t2.val z.val - 8#32)) - v8N n.val).toNat ≤ 256 := by decide +kernel
  have e : lanes z = BitVec.ofNat 32 (z 0).val := by
    show BitVec.ofNat 32 (0 * 16 + (z 0).val) = _
    rw [Nat.zero_mul, Nat.zero_add]
  show (Scalar.minsi 2032#32 (Scalar.maxsi 0#32 (Scalar.addi (v5N n.val) (Scalar.muli (BitVec.ofNat 32 t2) 16#32) + lanes z - 8#32)) - v8N n.val).toNat ≤ 256
  rw [e]
  exact key n ⟨t2, ht2⟩ (z 0)

/-! ## What a copy brings -/

theorem sq_4 {a b : ℕ} (h : (⟨2, ![a, b]⟩ : Shape).numel = (⟨4, ![1, 1, a, b]⟩ : Shape).numel) (y : (⟨2, ![a, b]⟩ : Shape).Idx) :
    Shape.reshapeEquiv h y = (fun i => match i with | 0 => (0 : Fin 1) | 1 => (0 : Fin 1) | 2 => y 0 | 3 => y 1 : (⟨4, ![1, 1, a, b]⟩ : Shape).Idx) :=
  Shape.reshapeEquiv_eq_of_rowMajor h (by
    rw [Shape.rowMajor_val_four, Shape.rowMajor_val_two]
    show ((0 * 1 + 0) * a + (y 0).val) * b + (y 1).val = (y 0).val * b + (y 1).val
    ring)
theorem sq_3 {a : ℕ} (h : (⟨1, ![a]⟩ : Shape).numel = (⟨3, ![1, 1, a]⟩ : Shape).numel) (y : (⟨1, ![a]⟩ : Shape).Idx) :
    Shape.reshapeEquiv h y = (fun i => match i with | 0 => (0 : Fin 1) | 1 => (0 : Fin 1) | 2 => y 0 : (⟨3, ![1, 1, a]⟩ : Shape).Idx) :=
  Shape.reshapeEquiv_eq_of_rowMajor h (by
    rw [Shape.rowMajor_val_three, Shape.rowMajor_val_one]
    show (0 * 1 + 0) * a + (y 0).val = (y 0).val
    ring)

theorem emb_q (t1 : Fin k1_t1_loop.trips) (y : S64x256.Idx) : (qP L t1).view.emb y = ix4 (a := 64) (b := 256) (hOf L) (nOf L t1) (y 0) (y 1) := by
  have e := sq_4 (a := 64) (b := 256) squeezes_S1x1x64x256_S64x256.numel_eq y
  have e0 := congrFun (k1_off1_eq L t1) 0
  have e1 := congrFun (k1_off1_eq L t1) 1
  have e2 := congrFun (k1_off1_eq L t1) 2
  have e3 := congrFun (k1_off1_eq L t1) 3
  have hh : ∀ i : Fin 4, ((qP L t1).view.emb y i).val = k1_off1 L t1 i + 1 * (Shape.reshapeEquiv squeezes_S1x1x64x256_S64x256.numel_eq y i).val := fun i => rfl
  funext i
  refine Fin.ext ((hh i).trans ?_)
  rw [e]
  match i with
  | 0 => show k1_off1 L t1 0 + 1 * 0 = (L 1).val; rw [e0]; rfl
  | 1 => show k1_off1 L t1 1 + 1 * 0 = 4 * (L 0).val + t1.val; rw [e1]; rfl
  | 2 => show k1_off1 L t1 2 + 1 * (y 0).val = (y 0).val; rw [e2]; show 0 + 1 * (y 0).val = (y 0).val; omega
  | 3 => show k1_off1 L t1 3 + 1 * (y 1).val = (y 1).val; rw [e3]; show 0 + 1 * (y 1).val = (y 1).val; omega
theorem emb_k (t1 : Fin k1_t1_loop.trips) (y : S17408.Idx) : (kP L t1).view.emb y = ix3 (a := 17408) (hOf L) (nOf L t1) (y 0) := by
  have e := sq_3 (a := 17408) squeezes_S1x1x17408_S17408.numel_eq y
  have e0 := congrFun (k1_off2_eq L t1) 0
  have e1 := congrFun (k1_off2_eq L t1) 1
  have e2 := congrFun (k1_off2_eq L t1) 2
  have hh : ∀ i : Fin 3, ((kP L t1).view.emb y i).val = k1_off2 L t1 i + 1 * (Shape.reshapeEquiv squeezes_S1x1x17408_S17408.numel_eq y i).val := fun i => rfl
  funext i
  refine Fin.ext ((hh i).trans ?_)
  rw [e]
  match i with
  | 0 => show k1_off2 L t1 0 + 1 * 0 = (L 1).val; rw [e0]; rfl
  | 1 => show k1_off2 L t1 1 + 1 * 0 = 4 * (L 0).val + t1.val; rw [e1]; rfl
  | 2 => show k1_off2 L t1 2 + 1 * (y 0).val = (y 0).val; rw [e2]; show 0 + 1 * (y 0).val = (y 0).val; omega
theorem emb_v (t1 : Fin k1_t1_loop.trips) (y : S17408.Idx) : (vP L t1).view.emb y = ix3 (a := 17408) (hOf L) (nOf L t1) (y 0) := by
  have e := sq_3 (a := 17408) squeezes_S1x1x17408_S17408.numel_eq y
  have e0 := congrFun (k1_off2_eq L t1) 0
  have e1 := congrFun (k1_off2_eq L t1) 1
  have e2 := congrFun (k1_off2_eq L t1) 2
  have hh : ∀ i : Fin 3, ((vP L t1).view.emb y i).val = k1_off2 L t1 i + 1 * (Shape.reshapeEquiv squeezes_S1x1x17408_S17408.numel_eq y i).val := fun i => rfl
  funext i
  refine Fin.ext ((hh i).trans ?_)
  rw [e]
  match i with
  | 0 => show k1_off2 L t1 0 + 1 * 0 = (L 1).val; rw [e0]; rfl
  | 1 => show k1_off2 L t1 1 + 1 * 0 = 4 * (L 0).val + t1.val; rw [e1]; rfl
  | 2 => show k1_off2 L t1 2 + 1 * (y 0).val = (y 0).val; rw [e2]; show 0 + 1 * (y 0).val = (y 0).val; omega
theorem emb_g (t1 : Fin k1_t1_loop.trips) (y : S64x256.Idx) : (gP L t1).view.emb y = ix4 (a := 64) (b := 256) (hOf L) (nOf L t1) (y 0) (y 1) := by
  have e := sq_4 (a := 64) (b := 256) squeezes_S1x1x64x256_S64x256.numel_eq y
  have e0 := congrFun (k1_off1_eq L t1) 0
  have e1 := congrFun (k1_off1_eq L t1) 1
  have e2 := congrFun (k1_off1_eq L t1) 2
  have e3 := congrFun (k1_off1_eq L t1) 3
  have hh : ∀ i : Fin 4, ((gP L t1).view.emb y i).val = k1_off1 L t1 i + 1 * (Shape.reshapeEquiv squeezes_S1x1x64x256_S64x256.numel_eq y i).val := fun i => rfl
  funext i
  refine Fin.ext ((hh i).trans ?_)
  rw [e]
  match i with
  | 0 => show k1_off1 L t1 0 + 1 * 0 = (L 1).val; rw [e0]; rfl
  | 1 => show k1_off1 L t1 1 + 1 * 0 = 4 * (L 0).val + t1.val; rw [e1]; rfl
  | 2 => show k1_off1 L t1 2 + 1 * (y 0).val = (y 0).val; rw [e2]; show 0 + 1 * (y 0).val = (y 0).val; omega
  | 3 => show k1_off1 L t1 3 + 1 * (y 1).val = (y 1).val; rw [e3]; show 0 + 1 * (y 1).val = (y 1).val; omega
theorem emb_m (t1 : Fin k1_t1_loop.trips) (y : S2x256.Idx) : (mP L t1).view.emb y = ix4 (a := 2) (b := 256) (hOf L) (nOf L t1) (y 0) (y 1) := by
  have e := sq_4 (a := 2) (b := 256) squeezes_S1x1x2x256_S2x256.numel_eq y
  have e0 := congrFun (k1_off3_eq L t1) 0
  have e1 := congrFun (k1_off3_eq L t1) 1
  have e2 := congrFun (k1_off3_eq L t1) 2
  have e3 := congrFun (k1_off3_eq L t1) 3
  have hh : ∀ i : Fin 4, ((mP L t1).view.emb y i).val = k1_off3 L t1 i + 1 * (Shape.reshapeEquiv squeezes_S1x1x2x256_S2x256.numel_eq y i).val := fun i => rfl
  funext i
  refine Fin.ext ((hh i).trans ?_)
  rw [e]
  match i with
  | 0 => show k1_off3 L t1 0 + 1 * 0 = (L 1).val; rw [e0]; rfl
  | 1 => show k1_off3 L t1 1 + 1 * 0 = 4 * (L 0).val + t1.val; rw [e1]; rfl
  | 2 => show k1_off3 L t1 2 + 1 * (y 0).val = (y 0).val; rw [e2]; show 0 + 1 * (y 0).val = (y 0).val; omega
  | 3 => show k1_off3 L t1 3 + 1 * (y 1).val = (y 1).val; rw [e3]; show 0 + 1 * (y 1).val = (y 1).val; omega
theorem emb_o (t1 : Fin k1_t1_loop.trips) (y : S64x256.Idx) : (oP L t1).view.emb y = ix4 (a := 64) (b := 256) (hOf L) (nOf L t1) (y 0) (y 1) := by
  have e := sq_4 (a := 64) (b := 256) squeezes_S1x1x64x256_S64x256.numel_eq y
  have e0 := congrFun (k1_off1_eq L t1) 0
  have e1 := congrFun (k1_off1_eq L t1) 1
  have e2 := congrFun (k1_off1_eq L t1) 2
  have e3 := congrFun (k1_off1_eq L t1) 3
  have hh : ∀ i : Fin 4, ((oP L t1).view.emb y i).val = k1_off1 L t1 i + 1 * (Shape.reshapeEquiv squeezes_S1x1x64x256_S64x256.numel_eq y i).val := fun i => rfl
  funext i
  refine Fin.ext ((hh i).trans ?_)
  rw [e]
  match i with
  | 0 => show k1_off1 L t1 0 + 1 * 0 = (L 1).val; rw [e0]; rfl
  | 1 => show k1_off1 L t1 1 + 1 * 0 = 4 * (L 0).val + t1.val; rw [e1]; rfl
  | 2 => show k1_off1 L t1 2 + 1 * (y 0).val = (y 0).val; rw [e2]; show 0 + 1 * (y 0).val = (y 0).val; omega
  | 3 => show k1_off1 L t1 3 + 1 * (y 1).val = (y 1).val; rw [e3]; show 0 + 1 * (y 1).val = (y 1).val; omega

variable (q : Buf (Elt F) ((T d : Thread nD τ).loc main_v5)) (k : Buf (Elt F) ((T d : Thread nD τ).loc main_v23)) (v : Buf (Elt F) ((T d : Thread nD τ).loc main_v41))
  (g : Buf (Elt F) ((T d : Thread nD τ).loc main_v43)) (mz : Buf (Elt F) ((T d : Thread nD τ).loc main_v45))

/-- The five pieces a trip reads. -/
def Pin (t1 : Fin k1_t1_loop.trips) : sProp 𝕄 :=
  iprop(((qP L t1).view.loc (thr d L) ↦[(qP L t1).view.set]{fullShare} q) ∗ ((kP L t1).view.loc (thr d L) ↦[(kP L t1).view.set]{fullShare} k)
    ∗ ((vP L t1).view.loc (thr d L) ↦[(vP L t1).view.set]{fullShare} v) ∗ ((gP L t1).view.loc (thr d L) ↦[(gP L t1).view.set]{fullShare} g)
    ∗ ((mP L t1).view.loc (thr d L) ↦[(mP L t1).view.set]{fullShare} mz))
/-- The piece it writes. -/
def Pout (o : Buf (Elt F) ((T d : Thread nD τ).loc main_v46)) (t1 : Fin k1_t1_loop.trips) : sProp 𝕄 :=
  ((oP L t1).view.loc (thr d L) ↦[(oP L t1).view.set]{fullShare} o)

/-- The six counters the body's copies use, at zero. -/
def Sems0 : sProp 𝕄 :=
  iprop(semVal ((thr d L, .dma cc1_scoped0.sem) : GSem nD τ sig) 0 ∗ semVal ((thr d L, .dma cc1_scoped1.sem) : GSem nD τ sig) 0
    ∗ semVal ((thr d L, .dma cc1_scoped2.sem) : GSem nD τ sig) 0 ∗ semVal ((thr d L, .dma cc1_scoped3.sem) : GSem nD τ sig) 0
    ∗ semVal ((thr d L, .dma cc1_scoped4.sem) : GSem nD τ sig) 0 ∗ semVal ((thr d L, .dma cc1_scoped5.sem) : GSem nD τ sig) 0)

theorem read_qP (t1 : Fin k1_t1_loop.trips) : (qP L t1).view.read (Elt F) q = slab4 (a := 64) (b := 256) q (hOf L) (nOf L t1) := funext fun y => congrArg q (emb_q L t1 y)
theorem read_kP (t1 : Fin k1_t1_loop.trips) : (kP L t1).view.read (Elt F) k = slab3 (a := 17408) k (hOf L) (nOf L t1) := funext fun y => congrArg k (emb_k L t1 y)
theorem read_vP (t1 : Fin k1_t1_loop.trips) : (vP L t1).view.read (Elt F) v = slab3 (a := 17408) v (hOf L) (nOf L t1) := funext fun y => congrArg v (emb_v L t1 y)
theorem read_gP (t1 : Fin k1_t1_loop.trips) : (gP L t1).view.read (Elt F) g = slab4 (a := 64) (b := 256) g (hOf L) (nOf L t1) := funext fun y => congrArg g (emb_g L t1 y)
theorem read_mP (t1 : Fin k1_t1_loop.trips) : (mP L t1).view.read (Elt F) mz = slab4 (a := 2) (b := 256) mz (hOf L) (nOf L t1) := funext fun y => congrArg mz (emb_m L t1 y)

/-- The tile's output slab at trip `t1`. -/
def OUTS (t1 : Fin k1_t1_loop.trips) : S64x256.Idx → Elt F .f32 :=
  OUTB (slab4 (a := 64) (b := 256) q (hOf L) (nOf L t1)) (slab3 (a := 17408) k (hOf L) (nOf L t1)) (slab3 (a := 17408) v (hOf L) (nOf L t1))
    (slab4 (a := 64) (b := 256) g (hOf L) (nOf L t1)) (slab4 (a := 2) (b := 256) mz (hOf L) (nOf L t1)) lanes (v5N (nOf L t1).val) (v8N (nOf L t1).val)

theorem fill_q (t1 : Fin k1_t1_loop.trips) (fq : Buf (Elt F) ((thr d L).loc cc1_scratch0)) :
    View.write (Elt F) (sQ).view fq (ReadAs.same.apply (View.read (Elt F) (qP L t1).view q)) Finset.univ = slab4 (a := 64) (b := 256) q (hOf L) (nOf L t1) :=
  (View.write_whole_univ (Val := Elt F) cc1_scratch0 fq _).trans (read_qP d L q t1)
theorem fill_k (t1 : Fin k1_t1_loop.trips) (fk : Buf (Elt F) ((thr d L).loc cc1_scratch1)) :
    View.write (Elt F) (sK).view fk (ReadAs.same.apply (View.read (Elt F) (kP L t1).view k)) Finset.univ = slab3 (a := 17408) k (hOf L) (nOf L t1) :=
  (View.write_whole_univ (Val := Elt F) cc1_scratch1 fk _).trans (read_kP d L k t1)
theorem fill_v (t1 : Fin k1_t1_loop.trips) (fv : Buf (Elt F) ((thr d L).loc cc1_scratch2)) :
    View.write (Elt F) (sV).view fv (ReadAs.same.apply (View.read (Elt F) (vP L t1).view v)) Finset.univ = slab3 (a := 17408) v (hOf L) (nOf L t1) :=
  (View.write_whole_univ (Val := Elt F) cc1_scratch2 fv _).trans (read_vP d L v t1)
theorem fill_g (t1 : Fin k1_t1_loop.trips) (fg : Buf (Elt F) ((thr d L).loc cc1_scratch3)) :
    View.write (Elt F) (sG).view fg (ReadAs.same.apply (View.read (Elt F) (gP L t1).view g)) Finset.univ = slab4 (a := 64) (b := 256) g (hOf L) (nOf L t1) :=
  (View.write_whole_univ (Val := Elt F) cc1_scratch3 fg _).trans (read_gP d L g t1)
theorem fill_mz (t1 : Fin k1_t1_loop.trips) (fm : Buf (Elt F) ((thr d L).loc cc1_scratch4)) :
    View.write (Elt F) (sM).view fm (ReadAs.same.apply (View.read (Elt F) (mP L t1).view mz)) Finset.univ = slab4 (a := 2) (b := 256) mz (hOf L) (nOf L t1) :=
  (View.write_whole_univ (Val := Elt F) cc1_scratch4 fm _).trans (read_mP d L mz t1)

set_option maxHeartbeats 4000000 in
theorem write_oP (t1 : Fin k1_t1_loop.trips) (o : Buf (Elt F) ((T d : Thread nD τ).loc main_v46)) :
    ((oP L t1).view.loc (thr d L) ↦[(oP L t1).view.set]{fullShare} ((oP L t1).view.writes (Elt F) o [⟨Rect.whole S64x256, OUTS d L q k v g mz t1⟩]) : sProp 𝕄)
      = Pout d L (OUTA q k v g mz) t1 := by
  unfold Pout
  refine pointsTo_congr fun i hi => ?_
  obtain ⟨y, -, rfl⟩ := Finset.mem_map.mp hi
  have h := View.read_writes_cons_hit (Val := Elt F) (v := (oP L t1).view) (f := o) (Rect.whole S64x256) (OUTS d L q k v g mz t1) [] y y (by
    funext a; exact Fin.ext (by show 0 + 1 * (y a).val = (y a).val; omega))
  refine Eq.trans (show _ = (oP L t1).view.read (Elt F) ((oP L t1).view.writes (Elt F) o [⟨Rect.whole S64x256, OUTS d L q k v g mz t1⟩]) y from rfl) (h.trans ?_)
  rw [emb_o]
  refine congrArg (OUTS d L q k v g mz t1) (funext fun a => ?_)
  match a with
  | 0 => rfl
  | 1 => rfl

theorem v5_eq (L : grid1.Coords) (t1 : Fin k1_t1_loop.trips) :
    Scalar.muli (Scalar.addi (Scalar.muli (BitVec.ofNat 32 (L 0).val) 4#32) (Scf.iv 0#32 1#32 t1)) 256#32 = v5N (nOf L t1).val := by
  have key : ∀ c : Fin 2, ∀ t : Fin 4, Scalar.muli (Scalar.addi (Scalar.muli (BitVec.ofNat 32 c.val) 4#32) (Scf.iv 0#32 1#32 t.val)) 256#32 = v5N (4 * c.val + t.val) := by decide +kernel
  exact key (L 0) t1

set_option maxHeartbeats 2000000 in
/-- One trip of the outer loop: five slabs in, the groups, one slab out. -/
theorem wp_t1_step (O : CellTallies nD τ sig (HIx 1)) (W : Waits sig (HIx 1)) (t1 : Fin k1_t1_loop.trips) (x : BitVec 32)
    (fq : S64x256.Idx → Elt F .f32) (fk fv : S17408.Idx → Elt F .f32) (fg : S64x256.Idx → Elt F .f32) (fm : S2x256.Idx → Elt F .f32) (fo : S64x256.Idx → Elt F .f32)
    (o : Buf (Elt F) ((T d : Thread nD τ).loc main_v46)) :
    iprop(Transfers.MayWaits (thr d L) (default : HIx 1) O ∗ Pin d L q k v g mz t1 ∗ Pout d L o t1 ∗ Slabs d L fq fk fv fg fm fo ∗ Sems0 d L ∗ owes (thr d L) O W)
      ⊢ wp frame (wpE (defs₀ (F := F)) 𝒱₀ (thr d L) none) Set.univ
        (k1_t1_body L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 (BitVec.ofNat 32 (L 0).val) lanes t1 x)
        (fun _ => iprop(Pin d L q k v g mz t1 ∗ Pout d L (OUTA q k v g mz) t1 ∗ (∃ fq fk fv fg fm fo, Slabs d L fq fk fv fg fm fo) ∗ Sems0 d L
          ∗ ∃ W', ⌜∀ p ∈ W', p ∈ W ∨ p.2 = none ∨ p.2 = some (0 : Fin 1)⌝ ∗ owes (thr d L) O W')) := by
  unfold Pin Pout Slabs Sems0
  iintro ⟨Hmw, ⟨Hq, Hk, Hv, Hg, Hm⟩, Ho, ⟨Sq, Sk, Sv, Sg, Sm, So⟩, ⟨S0, S1, S2, S3, S4, S5⟩, HO⟩
  ihave Sq' := (show ((V d (cV L) (jV L)).loc cc1_scratch0 ↦{fullShare} fq : sProp 𝕄) ⊢ ((sQ).view.loc (thr d L) ↦{fullShare} fq) from .rfl) $$ Sq
  ihave Sk' := (show ((V d (cV L) (jV L)).loc cc1_scratch1 ↦{fullShare} fk : sProp 𝕄) ⊢ ((sK).view.loc (thr d L) ↦{fullShare} fk) from .rfl) $$ Sk
  ihave Sv' := (show ((V d (cV L) (jV L)).loc cc1_scratch2 ↦{fullShare} fv : sProp 𝕄) ⊢ ((sV).view.loc (thr d L) ↦{fullShare} fv) from .rfl) $$ Sv
  ihave Sg' := (show ((V d (cV L) (jV L)).loc cc1_scratch3 ↦{fullShare} fg : sProp 𝕄) ⊢ ((sG).view.loc (thr d L) ↦{fullShare} fg) from .rfl) $$ Sg
  ihave Sm' := (show ((V d (cV L) (jV L)).loc cc1_scratch4 ↦{fullShare} fm : sProp 𝕄) ⊢ ((sM).view.loc (thr d L) ↦{fullShare} fm) from .rfl) $$ Sm
  ihave So' := (show ((V d (cV L) (jV L)).loc cc1_scratch5 ↦{fullShare} fo : sProp 𝕄) ⊢ ((sO).view.loc (thr d L) ↦{fullShare} fo) from .rfl) $$ So
  unfold k1_t1_body
  rw [k1_part35_eq_skeleton, k1_part36_eq_skeleton]
  unfold k1_part35_skel k1_part36_skel
  sl_exec (disch := exact View.amount_pos _ _ (show 0 < S64x256.numel by decide))
  rw [show wp_t1_step.sl.v5 L t1 = v5N (nOf L t1).val from v5_eq L t1,
    show wp_t1_step.sl.v8 L t1 = v8N (nOf L t1).val from congrArg (fun w => Scalar.minsi 1776#32 (Scalar.maxsi 0#32 (Scalar.subi w 8#32))) (v5_eq L t1)]
  ihave HI : Slabs d L (slab4 (a := 64) (b := 256) q (hOf L) (nOf L t1)) (slab3 (a := 17408) k (hOf L) (nOf L t1)) (slab3 (a := 17408) v (hOf L) (nOf L t1))
    (slab4 (a := 64) (b := 256) g (hOf L) (nOf L t1)) (slab4 (a := 2) (b := 256) mz (hOf L) (nOf L t1)) (upto 0 (OUTS d L q k v g mz t1) fo) $$ [Sq' Sk' Sv' Sg' Sm' So']
  · unfold Slabs
    isplitl [Sq']; · rw [show View.write (Elt F) (sQ).view fq (wp_t1_step.sl.dma0 d L q t1) Finset.univ = slab4 (a := 64) (b := 256) q (hOf L) (nOf L t1) from fill_q d L q t1 fq]; iassumption
    isplitl [Sk']; · rw [show View.write (Elt F) (sK).view fk (wp_t1_step.sl.dma0_1 d L k t1) Finset.univ = slab3 (a := 17408) k (hOf L) (nOf L t1) from fill_k d L k t1 fk]; iassumption
    isplitl [Sv']; · rw [show View.write (Elt F) (sV).view fv (wp_t1_step.sl.dma0_2 d L v t1) Finset.univ = slab3 (a := 17408) v (hOf L) (nOf L t1) from fill_v d L v t1 fv]; iassumption
    isplitl [Sg']; · rw [show View.write (Elt F) (sG).view fg (wp_t1_step.sl.dma0_3 d L g t1) Finset.univ = slab4 (a := 64) (b := 256) g (hOf L) (nOf L t1) from fill_g d L g t1 fg]; iassumption
    isplitl [Sm']; · rw [show View.write (Elt F) (sM).view fm (wp_t1_step.sl.dma0_4 d L mz t1) Finset.univ = slab4 (a := 2) (b := 256) mz (hOf L) (nOf L t1) from fill_mz d L mz t1 fm]; iassumption
    rw [show upto 0 (OUTS d L q k v g mz t1) fo = fo from funext fun y => if_neg (by omega)]
    iassumption
  iapply (Scf.wp_for_bind frame (wpE (defs₀ (F := F)) 𝒱₀ (V d (cV L) (jV L)) none) Set.univ k1_t2_loop.lb k1_t2_loop.ub k1_t2_loop.st k1_t2_ok _ _
    (fun n _ => Slabs d L (slab4 (a := 64) (b := 256) q (hOf L) (nOf L t1)) (slab3 (a := 17408) k (hOf L) (nOf L t1)) (slab3 (a := 17408) v (hOf L) (nOf L t1))
    (slab4 (a := 64) (b := 256) g (hOf L) (nOf L t1)) (slab4 (a := 2) (b := 256) mz (hOf L) (nOf L t1)) (upto n (OUTS d L q k v g mz t1) fo)) ?_) $$ HI
  · intro t2 acc
    exact wp_t2_step d L lanes t1 (v5N (nOf L t1).val) (v8N (nOf L t1).val) t2 acc (lst_bound (nOf L t1) t2.val t2.isLt) (slab4 (a := 64) (b := 256) q (hOf L) (nOf L t1)) (slab3 (a := 17408) k (hOf L) (nOf L t1)) (slab3 (a := 17408) v (hOf L) (nOf L t1))
      (slab4 (a := 64) (b := 256) g (hOf L) (nOf L t1)) (slab4 (a := 2) (b := 256) mz (hOf L) (nOf L t1)) fo
  iintro %r HI
  rw [show Scf.trips k1_t2_loop.lb k1_t2_loop.ub k1_t2_loop.st = 16 from trips2,
    show upto 16 (OUTS d L q k v g mz t1) fo = OUTS d L q k v g mz t1 from funext fun y => if_pos (by have : (y 1).val < 256 := (y 1).isLt; omega)]
  unfold Slabs
  icases HI with ⟨Sq, Sk, Sv, Sg, Sm, So⟩
  ihave So' := (show ((V d (cV L) (jV L)).loc cc1_scratch5 ↦{fullShare} (OUTS d L q k v g mz t1) : sProp 𝕄) ⊢ ((sO).view.loc (thr d L) ↦{fullShare} (OUTS d L q k v g mz t1)) from .rfl) $$ So
  sl_exec (disch := exact View.amount_pos _ _ (show 0 < S64x256.numel by decide))
  sl_step
  isplitl [Hq Hk Hv Hg Hm]
  · isplitl [Hq]; · iassumption
    isplitl [Hk]; · iassumption
    isplitl [Hv]; · iassumption
    isplitl [Hg]; · iassumption
    iassumption
  isplitl [Ho]
  · rw [show wp_t1_step.sl.dma0_5 d L q k v g mz t1 = OUTS d L q k v g mz t1 from rfl]
    ihave Ho' := (show _ ⊢ ((oP L t1).view.loc (thr d L) ↦[(oP L t1).view.set]{fullShare} (OUTA q k v g mz) : sProp 𝕄) from Entails.of_eq (write_oP d L q k v g mz t1 o)) $$ Ho
    iexact Ho'
  isplitl [Sq Sk Sv Sg Sm So']
  · iexists _, _, _, _, _, _
    isplitl [Sq]; · iassumption
    isplitl [Sk]; · iassumption
    isplitl [Sv]; · iassumption
    isplitl [Sg]; · iassumption
    isplitl [Sm]; · iassumption
    iassumption
  isplitl [S0 S1 S2 S3 S4 S5]
  · isplitl [S0]; · iexact S0
    isplitl [S1]; · iexact S1
    isplitl [S2]; · iexact S2
    isplitl [S3]; · iexact S3
    isplitl [S4]; · iexact S4
    iexact S5
  iexists _; isplitr
  swap; · iexact HO
  ipureintro; intro p _
  rcases p.2 with _ | q
  · exact .inr (.inl rfl)
  · exact .inr (.inr (congrArg some (Subsingleton.elim q 0)))

end Cert.Proof.Sc

end
-- ==== Proof.ScRun.lean ====
module

public import proofs.«01_k».proof.Defs
public import proofs.«01_k».proof.Proof.ScTile

@[expose] public section

set_option synthInstance.maxSize 4096

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem sep_assoc_eq' {M : Type} [URA M] (A B C : sProp M) : iprop((A ∗ B) ∗ C) = iprop(A ∗ B ∗ C) :=
  (Idealize.SL.BI.sep_assoc (P := A) (Q := B) (R := C)).antisymm Idealize.SL.BI.sep_assoc'

variable (d : Dev nD) (L : grid1.Coords)

/-! ## A tile's own counters and scratches -/

abbrev cel0 (d : Dev nD) (L : grid1.Coords) : GSem nD τ sig := (thr d L, .dma cc1_scoped0.sem)
abbrev cel1 (d : Dev nD) (L : grid1.Coords) : GSem nD τ sig := (thr d L, .dma cc1_scoped1.sem)
abbrev cel2 (d : Dev nD) (L : grid1.Coords) : GSem nD τ sig := (thr d L, .dma cc1_scoped2.sem)
abbrev cel3 (d : Dev nD) (L : grid1.Coords) : GSem nD τ sig := (thr d L, .dma cc1_scoped3.sem)
abbrev cel4 (d : Dev nD) (L : grid1.Coords) : GSem nD τ sig := (thr d L, .dma cc1_scoped4.sem)
abbrev cel5 (d : Dev nD) (L : grid1.Coords) : GSem nD τ sig := (thr d L, .dma cc1_scoped5.sem)
def CelRest : sProp 𝕄 := bigSep (((((((ownCells (thr d L)).erase (cel0 d L)).erase (cel1 d L)).erase (cel2 d L)).erase (cel3 d L)).erase (cel4 d L)).erase (cel5 d L)) fun g => semVal g 0
theorem ownSems0_thr : (ownSems0 (thr d L) : sProp 𝕄) = iprop(Sems0 d L ∗ CelRest d L) := by
  unfold SparseCore.Cfg.ownSems0 CelRest Sems0
  rw [SparseCore.bigSep_erase' ((mem_ownCells (g := cel0 d L)).mpr ⟨rfl, by show (SemLoc.dma cc1_scoped0.sem : SemLoc sig).isScoped .scVector = true; decide⟩),
    SparseCore.bigSep_erase' (Finset.mem_erase.mpr ⟨fun e => absurd (congrArg Prod.snd e) (show (SemLoc.dma cc1_scoped1.sem : SemLoc sig) ≠ SemLoc.dma cc1_scoped0.sem by decide), (mem_ownCells (g := cel1 d L)).mpr ⟨rfl, by show (SemLoc.dma cc1_scoped1.sem : SemLoc sig).isScoped .scVector = true; decide⟩⟩),
    SparseCore.bigSep_erase' (Finset.mem_erase.mpr ⟨fun e => absurd (congrArg Prod.snd e) (show (SemLoc.dma cc1_scoped2.sem : SemLoc sig) ≠ SemLoc.dma cc1_scoped1.sem by decide), Finset.mem_erase.mpr ⟨fun e => absurd (congrArg Prod.snd e) (show (SemLoc.dma cc1_scoped2.sem : SemLoc sig) ≠ SemLoc.dma cc1_scoped0.sem by decide), (mem_ownCells (g := cel2 d L)).mpr ⟨rfl, by show (SemLoc.dma cc1_scoped2.sem : SemLoc sig).isScoped .scVector = true; decide⟩⟩⟩),
    SparseCore.bigSep_erase' (Finset.mem_erase.mpr ⟨fun e => absurd (congrArg Prod.snd e) (show (SemLoc.dma cc1_scoped3.sem : SemLoc sig) ≠ SemLoc.dma cc1_scoped2.sem by decide), Finset.mem_erase.mpr ⟨fun e => absurd (congrArg Prod.snd e) (show (SemLoc.dma cc1_scoped3.sem : SemLoc sig) ≠ SemLoc.dma cc1_scoped1.sem by decide), Finset.mem_erase.mpr ⟨fun e => absurd (congrArg Prod.snd e) (show (SemLoc.dma cc1_scoped3.sem : SemLoc sig) ≠ SemLoc.dma cc1_scoped0.sem by decide), (mem_ownCells (g := cel3 d L)).mpr ⟨rfl, by show (SemLoc.dma cc1_scoped3.sem : SemLoc sig).isScoped .scVector = true; decide⟩⟩⟩⟩),
    SparseCore.bigSep_erase' (Finset.mem_erase.mpr ⟨fun e => absurd (congrArg Prod.snd e) (show (SemLoc.dma cc1_scoped4.sem : SemLoc sig) ≠ SemLoc.dma cc1_scoped3.sem by decide), Finset.mem_erase.mpr ⟨fun e => absurd (congrArg Prod.snd e) (show (SemLoc.dma cc1_scoped4.sem : SemLoc sig) ≠ SemLoc.dma cc1_scoped2.sem by decide), Finset.mem_erase.mpr ⟨fun e => absurd (congrArg Prod.snd e) (show (SemLoc.dma cc1_scoped4.sem : SemLoc sig) ≠ SemLoc.dma cc1_scoped1.sem by decide), Finset.mem_erase.mpr ⟨fun e => absurd (congrArg Prod.snd e) (show (SemLoc.dma cc1_scoped4.sem : SemLoc sig) ≠ SemLoc.dma cc1_scoped0.sem by decide), (mem_ownCells (g := cel4 d L)).mpr ⟨rfl, by show (SemLoc.dma cc1_scoped4.sem : SemLoc sig).isScoped .scVector = true; decide⟩⟩⟩⟩⟩),
    SparseCore.bigSep_erase' (Finset.mem_erase.mpr ⟨fun e => absurd (congrArg Prod.snd e) (show (SemLoc.dma cc1_scoped5.sem : SemLoc sig) ≠ SemLoc.dma cc1_scoped4.sem by decide), Finset.mem_erase.mpr ⟨fun e => absurd (congrArg Prod.snd e) (show (SemLoc.dma cc1_scoped5.sem : SemLoc sig) ≠ SemLoc.dma cc1_scoped3.sem by decide), Finset.mem_erase.mpr ⟨fun e => absurd (congrArg Prod.snd e) (show (SemLoc.dma cc1_scoped5.sem : SemLoc sig) ≠ SemLoc.dma cc1_scoped2.sem by decide), Finset.mem_erase.mpr ⟨fun e => absurd (congrArg Prod.snd e) (show (SemLoc.dma cc1_scoped5.sem : SemLoc sig) ≠ SemLoc.dma cc1_scoped1.sem by decide), Finset.mem_erase.mpr ⟨fun e => absurd (congrArg Prod.snd e) (show (SemLoc.dma cc1_scoped5.sem : SemLoc sig) ≠ SemLoc.dma cc1_scoped0.sem by decide), (mem_ownCells (g := cel5 d L)).mpr ⟨rfl, by show (SemLoc.dma cc1_scoped5.sem : SemLoc sig).isScoped .scVector = true; decide⟩⟩⟩⟩⟩⟩)]
  simp only [sep_assoc_eq']

def BufRest : sProp 𝕄 := bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)) fun b => iprop(∃ f, ((d, b) : Loc nD τ sig) ↦{fullShare} f)
theorem ownBufs_thr : (ownBufs (thr d L) : sProp 𝕄) = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ BufRest d L) := by
  unfold SparseCore.Cfg.ownBufs BufRest
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩)]

variable (q : Buf (Elt F) ((T d : Thread nD τ).loc main_v5)) (k : Buf (Elt F) ((T d : Thread nD τ).loc main_v23)) (v : Buf (Elt F) ((T d : Thread nD τ).loc main_v41))
  (g : Buf (Elt F) ((T d : Thread nD τ).loc main_v43)) (mz : Buf (Elt F) ((T d : Thread nD τ).loc main_v45)) (o : Buf (Elt F) ((T d : Thread nD τ).loc main_v46))

/-! ## The outer loop and the task -/

/-- What the first `n` trips of the outer loop leave of the operands' pieces. -/
def PS (n : ℕ) : sProp 𝕄 :=
  bigSep Finset.univ fun t : Fin k1_t1_loop.trips => iprop(Pin d L q k v g mz t ∗ Pout d L (if t.val < n then OUTA q k v g mz else o) t)
def PR (t1 : Fin k1_t1_loop.trips) : sProp 𝕄 :=
  bigSep (Finset.univ.erase t1) fun t : Fin k1_t1_loop.trips => iprop(Pin d L q k v g mz t ∗ Pout d L (if t.val < t1.val then OUTA q k v g mz else o) t)

theorem PS_take (t1 : Fin k1_t1_loop.trips) : PS d L q k v g mz o t1.val = iprop((Pin d L q k v g mz t1 ∗ Pout d L o t1) ∗ PR d L q k v g mz o t1) := by
  unfold PS PR
  rw [SparseCore.bigSep_erase' (Finset.mem_univ t1), if_neg (lt_irrefl _)]
theorem PS_put (t1 : Fin k1_t1_loop.trips) :
    PS d L q k v g mz o (t1.val + 1) = iprop((Pin d L q k v g mz t1 ∗ Pout d L (OUTA q k v g mz) t1) ∗ PR d L q k v g mz o t1) := by
  unfold PS PR
  rw [SparseCore.bigSep_erase' (Finset.mem_univ t1), if_pos (Nat.lt_succ_self _)]
  refine congrArg (fun X : sProp 𝕄 => iprop((Pin d L q k v g mz t1 ∗ Pout d L (OUTA q k v g mz) t1) ∗ X)) (bigSep_congr fun t ht => ?_)
  have hne : t.val ≠ t1.val := fun e => (Finset.mem_erase.mp ht).1 (Fin.ext e)
  have hiff : (t.val < t1.val + 1) = (t.val < t1.val) := propext ⟨fun h => by omega, fun h => by omega⟩
  simp only [hiff]

def goT : sProp 𝕄 := bigSep Finset.univ fun t : Fin k1_t1_loop.trips => iprop(Pin d L q k v g mz t ∗ Pout d L o t)
theorem PS_zero : PS d L q k v g mz o 0 = goT d L q k v g mz o := by
  unfold PS goT
  exact bigSep_congr fun t _ => by rw [if_neg (Nat.not_lt_zero _)]
theorem PS_all (n : ℕ) (h : k1_t1_loop.trips ≤ n) : PS d L q k v g mz o n = goT d L q k v g mz (OUTA q k v g mz) := by
  unfold PS goT
  exact bigSep_congr fun t _ => by rw [if_pos (lt_of_lt_of_le t.isLt h)]

/-- The outer loop's invariant. -/
def Inv (O : CellTallies nD τ sig (HIx 1)) (W : Waits sig (HIx 1)) (n : ℕ) : sProp 𝕄 :=
  iprop(Transfers.MayWaits (thr d L) (default : HIx 1) O ∗ PS d L q k v g mz o n ∗ (∃ fq fk fv fg fm fo, Slabs d L fq fk fv fg fm fo) ∗ Sems0 d L
    ∗ ∃ W', ⌜∀ p ∈ W', p ∈ W ∨ p.2 = none ∨ p.2 = some (0 : Fin 1)⌝ ∗ owes (thr d L) O W')

theorem wp_t1_inv (O : CellTallies nD τ sig (HIx 1)) (W : Waits sig (HIx 1)) (t1 : Fin k1_t1_loop.trips) (x : BitVec 32) :
    Inv d L q k v g mz o O W t1.val
      ⊢ wp frame (wpE (defs₀ (F := F)) 𝒱₀ (thr d L) none) Set.univ
        (k1_t1_body L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 (BitVec.ofNat 32 (L 0).val) lanes t1 x)
        (fun _ => Inv d L q k v g mz o O W (t1.val + 1)) := by
  unfold Inv
  rw [PS_take, PS_put]
  iintro ⟨#Hmw, ⟨⟨Hin, Hout⟩, HR⟩, ⟨%fq, %fk, %fv, %fg, %fm, %fo, HS⟩, Hsem, %W', %hW, HO⟩
  ihave HW := (wp_t1_step d L q k v g mz O W' t1 x fq fk fv fg fm fo o) $$ [Hin Hout HS Hsem HO]
  · isplitr; · iexact Hmw
    isplitl [Hin]; · iexact Hin
    isplitl [Hout]; · iexact Hout
    isplitl [HS]; · iexact HS
    isplitl [Hsem]; · iexact Hsem
    iexact HO
  iapply (wp_wand frame (wpE (defs₀ (F := F)) 𝒱₀ (thr d L) none)) $$ HW
  iintro %a ⟨Hin, Hout, HS, Hsem, %W'', %hW', HO⟩
  isplitr; · iexact Hmw
  isplitl [Hin Hout HR]
  · isplitl [Hin Hout]
    · isplitl [Hin]; · iexact Hin
      iexact Hout
    iexact HR
  isplitl [HS]; · iexact HS
  isplitl [Hsem]; · iexact Hsem
  iexists W''; isplitr
  swap; · iexact HO
  ipureintro; intro p hp
  rcases hW' p hp with h | h
  · exact hW p h
  · exact .inr h

theorem tile_body (hF : (K (F := F)).Facts) (O : CellTallies nD τ sig (HIx 1)) (W : Waits sig (HIx 1)) (hO : ∀ g, O g none = 0) :
    iprop(levAts (K (F := F)).L (K (F := F)).lev ∗ emp ∗ goT d L q k v g mz o
        ∗ scopedBufs (thr d L) ∗ scopedSems0 (thr d L) ∗ owes (thr d L) O W)
      ⊢ wp frame (wpE (defs₀ (F := F)) 𝒱₀ (thr d L) none) Set.univ
          (cc1__local_sc L (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5)
          fun _ => iprop(goT d L q k v g mz (OUTA q k v g mz)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr, ownBufs_thr]
  iintro ⟨#Hlv, -, HP, ⟨⟨%fq, Hq⟩, ⟨%fk, Hk⟩, ⟨%fv, Hv⟩, ⟨%fg, Hg⟩, ⟨%fm, Hm⟩, ⟨%fo, Ho⟩, Hbufs⟩, ⟨Hsem, Hsems⟩, HO⟩
  ihave Hmw := (show levAts (K (F := F)).L (K (F := F)).lev ⊢ Transfers.MayWaits (thr d L) (default : HIx 1) O from
    (K (F := F)).mayWaits_none (thr := thr d L) hO) $$ Hlv
  rw [cc1__local_sc_eq_skeleton]
  unfold cc1__local_sc_skel
  ihave HI : Inv d L q k v g mz o O W 0 $$ [Hmw HP Hq Hk Hv Hg Hm Ho Hsem HO]
  · unfold Inv
    rw [PS_zero]
    isplitl [Hmw]; · iexact Hmw
    isplitl [HP]; · iexact HP
    isplitl [Hq Hk Hv Hg Hm Ho]
    · iexists fq, fk, fv, fg, fm, fo
      unfold Slabs
      isplitl [Hq]; · iexact Hq
      isplitl [Hk]; · iexact Hk
      isplitl [Hv]; · iexact Hv
      isplitl [Hg]; · iexact Hg
      isplitl [Hm]; · iexact Hm
      iexact Ho
    isplitl [Hsem]; · iexact Hsem
    iexists W; isplitr
    swap; · iexact HO
    ipureintro; exact fun p hp => .inl hp
  iapply (Scf.wp_for_bind frame (wpE (defs₀ (F := F)) 𝒱₀ (V d (cV L) (jV L)) none) Set.univ k1_t1_loop.lb k1_t1_loop.ub k1_t1_loop.st k1_t1_ok _ _
    (fun n _ => Inv d L q k v g mz o O W n) ?_) $$ HI
  · intro t1 acc
    exact wp_t1_inv d L q k v g mz o O W t1 acc
  iintro %r HI
  unfold Inv
  rw [PS_all d L q k v g mz o _ (le_refl k1_t1_loop.trips)]
  icases HI with ⟨-, HP, ⟨%fq, %fk, %fv, %fg, %fm, %fo, HS⟩, Hsem, HO⟩
  unfold Slabs
  icases HS with ⟨Hq, Hk, Hv, Hg, Hm, Ho⟩
  rw [wp_pure]; imodintro
  isplitl [HP]; · iexact HP
  isplitl [Hq Hk Hv Hg Hm Ho Hbufs]
  · isplitl [Hq]; · iexists _; iexact Hq
    isplitl [Hk]; · iexists _; iexact Hk
    isplitl [Hv]; · iexists _; iexact Hv
    isplitl [Hg]; · iexists _; iexact Hg
    isplitl [Hm]; · iexists _; iexact Hm
    isplitl [Ho]; · iexists _; iexact Ho
    iexact Hbufs
  isplitl [Hsem Hsems]
  · isplitl [Hsem]; · iexact Hsem
    iexact Hsems
  iexact HO

end Cert.Proof.Sc

end
-- ==== Proof.ScMain.lean ====
module

public import proofs.«01_k».proof.Defs
public import proofs.«01_k».proof.Proof.ScRun
public import proofs.«01_k».proof.Proof.Gen.KernelIdeal.Launch

@[expose] public section

set_option synthInstance.maxSize 4096

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Idealize.ShloMosaic.StableHlo (held held_sub_split held_congr seq wp_seq after launchContents tcRefs devRef_mem_tcRefs after_nil after_cons)

/-! ## The operands' pieces over cores, heads and trips -/

/-- Arrays partitioned by a key (head, chunk) split over cores, subcores and trips. -/
theorem split_gen {ℓ : Loc nD τ sig} {nT : ℕ} (hT : nT = 4) (S : Fin 2 → Fin 16 → Fin nT → Finset (Idx ℓ)) (key : Idx ℓ → Fin 16 × Fin 8)
    (hS : ∀ c i t x, x ∈ S c i t ↔ (key x).1 = i ∧ ((key x).2).val = 4 * c.val + t.val) (f : Buf (Elt F) ℓ) :
    (ℓ ↦{fullShare} f : sProp 𝕄) = bigSep Finset.univ fun c : Fin 2 => bigSep Finset.univ fun i : Fin 16 => bigSep Finset.univ fun t : Fin nT => ℓ ↦[S c i t]{fullShare} f := by
  have hd : ∀ x ∈ (Finset.univ : Finset (Fin 2 × Fin 16 × Fin nT)), ∀ y ∈ (Finset.univ : Finset (Fin 2 × Fin 16 × Fin nT)), x ≠ y →
      Disjoint (S x.1 x.2.1 x.2.2) (S y.1 y.2.1 y.2.2) := by
    rintro ⟨c, i, t⟩ - ⟨c', i', t'⟩ - hne
    refine Finset.disjoint_left.mpr fun x hx hx' => hne ?_
    obtain ⟨h1, h2⟩ := (hS c i t x).mp hx
    obtain ⟨h1', h2'⟩ := (hS c' i' t' x).mp hx'
    have ht := t.isLt.trans_eq hT
    have ht' := t'.isLt.trans_eq hT
    refine Prod.ext (Fin.ext ?_) (Prod.ext (h1.symm.trans h1') (Fin.ext ?_)) <;> show _ = _ <;> dsimp only at * <;> omega
  have hc : (Finset.univ : Finset (Fin 2 × Fin 16 × Fin nT)).biUnion (fun x => S x.1 x.2.1 x.2.2) = Finset.univ := by
    refine Finset.eq_univ_iff_forall.mpr fun x => Finset.mem_biUnion.mpr
      ⟨(⟨((key x).2).val / 4, by have := ((key x).2).isLt; omega⟩, (key x).1, ⟨((key x).2).val % 4, (Nat.mod_lt _ (by norm_num)).trans_eq hT.symm⟩), Finset.mem_univ _, ?_⟩
    exact (hS _ _ _ x).mpr ⟨rfl, (Nat.div_add_mod _ 4).symm⟩
  have h : (ℓ ↦[(Finset.univ : Finset (Fin 2 × Fin 16 × Fin nT)).biUnion (fun x => S x.1 x.2.1 x.2.2)]{fullShare} f : sProp 𝕄)
      = bigSep Finset.univ fun x : Fin 2 × Fin 16 × Fin nT => ℓ ↦[S x.1 x.2.1 x.2.2]{fullShare} f := pointsTo_biUnion _ _ hd
  rw [hc] at h
  refine h.trans ?_
  rw [bigSep_univ_prod]
  exact bigSep_congr fun c _ => bigSep_univ_prod _

def LV (c : Fin ((K (F := F)).nCore 0)) (i : Fin ((K (F := F)).nSub 0)) : grid1.Coords :=
  fun | 0 => (⟨c.val, c.isLt⟩ : Fin 2) | 1 => (⟨i.val, i.isLt⟩ : Fin 16) | ⟨_ + 2, h⟩ => absurd h (Nat.not_lt.2 (Nat.le_add_left _ _))

theorem mem_slab4 {a b : ℕ} (e : (⟨2, ![a, b]⟩ : Shape).Idx ↪ (⟨4, ![16, 8, a, b]⟩ : Shape).Idx) (h : Fin 16) (n : Fin 8)
    (he : ∀ y, e y = ix4 (a := a) (b := b) h n (y 0) (y 1)) (x : (⟨4, ![16, 8, a, b]⟩ : Shape).Idx) :
    x ∈ Finset.univ.map e ↔ x 0 = h ∧ ((x 1 : Fin 8)).val = n.val := by
  refine ⟨fun hx => ?_, fun hx => ?_⟩
  · obtain ⟨y, -, rfl⟩ := Finset.mem_map.mp hx
    rw [he]
    exact ⟨rfl, rfl⟩
  · refine Finset.mem_map.mpr ⟨(fun i => match i with | 0 => x 2 | 1 => x 3), Finset.mem_univ _, ?_⟩
    rw [he]
    funext i
    match i with
    | 0 => exact hx.1.symm
    | 1 => exact (Fin.ext hx.2).symm
    | 2 => rfl
    | 3 => rfl
theorem mem_slab3 {a : ℕ} (e : (⟨1, ![a]⟩ : Shape).Idx ↪ (⟨3, ![16, 8, a]⟩ : Shape).Idx) (h : Fin 16) (n : Fin 8)
    (he : ∀ y, e y = ix3 (a := a) h n (y 0)) (x : (⟨3, ![16, 8, a]⟩ : Shape).Idx) :
    x ∈ Finset.univ.map e ↔ x 0 = h ∧ ((x 1 : Fin 8)).val = n.val := by
  refine ⟨fun hx => ?_, fun hx => ?_⟩
  · obtain ⟨y, -, rfl⟩ := Finset.mem_map.mp hx
    rw [he]
    exact ⟨rfl, rfl⟩
  · refine Finset.mem_map.mpr ⟨(fun i => match i with | 0 => x 2), Finset.mem_univ _, ?_⟩
    rw [he]
    funext i
    match i with
    | 0 => exact hx.1.symm
    | 1 => exact (Fin.ext hx.2).symm
    | 2 => rfl

theorem t1_trips : k1_t1_loop.trips = 4 := by decide
section Split
variable (d : Dev nD)
theorem split_q (f : Buf (Elt F) ((T d : Thread nD τ).loc main_v5)) :
    ((T d : Thread nD τ).loc main_v5 ↦{fullShare} f : sProp 𝕄) = bigSep Finset.univ fun c : Fin ((K (F := F)).nCore 0) => bigSep Finset.univ fun i : Fin ((K (F := F)).nSub 0) =>
      bigSep Finset.univ fun t : Fin k1_t1_loop.trips => ((qP (LV (F := F) c i) t).view.loc (thr d (LV (F := F) c i)) ↦[(qP (LV (F := F) c i) t).view.set]{fullShare} f) :=
  split_gen (hT := t1_trips) (ℓ := (T d : Thread nD τ).loc main_v5) (fun c i t => (qP (LV (F := F) c i) t).view.set) (fun x => (x 0, x 1))
    (fun c i t x => mem_slab4 (a := 64) (b := 256) (qP (LV (F := F) c i) t).view.emb (hOf (LV (F := F) c i)) (nOf (LV (F := F) c i) t) (emb_q (LV (F := F) c i) t) x) f
theorem split_k (f : Buf (Elt F) ((T d : Thread nD τ).loc main_v23)) :
    ((T d : Thread nD τ).loc main_v23 ↦{fullShare} f : sProp 𝕄) = bigSep Finset.univ fun c : Fin ((K (F := F)).nCore 0) => bigSep Finset.univ fun i : Fin ((K (F := F)).nSub 0) =>
      bigSep Finset.univ fun t : Fin k1_t1_loop.trips => ((kP (LV (F := F) c i) t).view.loc (thr d (LV (F := F) c i)) ↦[(kP (LV (F := F) c i) t).view.set]{fullShare} f) :=
  split_gen (hT := t1_trips) (ℓ := (T d : Thread nD τ).loc main_v23) (fun c i t => (kP (LV (F := F) c i) t).view.set) (fun x => (x 0, x 1))
    (fun c i t x => mem_slab3 (a := 17408) (kP (LV (F := F) c i) t).view.emb (hOf (LV (F := F) c i)) (nOf (LV (F := F) c i) t) (emb_k (LV (F := F) c i) t) x) f
theorem split_v (f : Buf (Elt F) ((T d : Thread nD τ).loc main_v41)) :
    ((T d : Thread nD τ).loc main_v41 ↦{fullShare} f : sProp 𝕄) = bigSep Finset.univ fun c : Fin ((K (F := F)).nCore 0) => bigSep Finset.univ fun i : Fin ((K (F := F)).nSub 0) =>
      bigSep Finset.univ fun t : Fin k1_t1_loop.trips => ((vP (LV (F := F) c i) t).view.loc (thr d (LV (F := F) c i)) ↦[(vP (LV (F := F) c i) t).view.set]{fullShare} f) :=
  split_gen (hT := t1_trips) (ℓ := (T d : Thread nD τ).loc main_v41) (fun c i t => (vP (LV (F := F) c i) t).view.set) (fun x => (x 0, x 1))
    (fun c i t x => mem_slab3 (a := 17408) (vP (LV (F := F) c i) t).view.emb (hOf (LV (F := F) c i)) (nOf (LV (F := F) c i) t) (emb_v (LV (F := F) c i) t) x) f
theorem split_g (f : Buf (Elt F) ((T d : Thread nD τ).loc main_v43)) :
    ((T d : Thread nD τ).loc main_v43 ↦{fullShare} f : sProp 𝕄) = bigSep Finset.univ fun c : Fin ((K (F := F)).nCore 0) => bigSep Finset.univ fun i : Fin ((K (F := F)).nSub 0) =>
      bigSep Finset.univ fun t : Fin k1_t1_loop.trips => ((gP (LV (F := F) c i) t).view.loc (thr d (LV (F := F) c i)) ↦[(gP (LV (F := F) c i) t).view.set]{fullShare} f) :=
  split_gen (hT := t1_trips) (ℓ := (T d : Thread nD τ).loc main_v43) (fun c i t => (gP (LV (F := F) c i) t).view.set) (fun x => (x 0, x 1))
    (fun c i t x => mem_slab4 (a := 64) (b := 256) (gP (LV (F := F) c i) t).view.emb (hOf (LV (F := F) c i)) (nOf (LV (F := F) c i) t) (emb_g (LV (F := F) c i) t) x) f
theorem split_m (f : Buf (Elt F) ((T d : Thread nD τ).loc main_v45)) :
    ((T d : Thread nD τ).loc main_v45 ↦{fullShare} f : sProp 𝕄) = bigSep Finset.univ fun c : Fin ((K (F := F)).nCore 0) => bigSep Finset.univ fun i : Fin ((K (F := F)).nSub 0) =>
      bigSep Finset.univ fun t : Fin k1_t1_loop.trips => ((mP (LV (F := F) c i) t).view.loc (thr d (LV (F := F) c i)) ↦[(mP (LV (F := F) c i) t).view.set]{fullShare} f) :=
  split_gen (hT := t1_trips) (ℓ := (T d : Thread nD τ).loc main_v45) (fun c i t => (mP (LV (F := F) c i) t).view.set) (fun x => (x 0, x 1))
    (fun c i t x => mem_slab4 (a := 2) (b := 256) (mP (LV (F := F) c i) t).view.emb (hOf (LV (F := F) c i)) (nOf (LV (F := F) c i) t) (emb_m (LV (F := F) c i) t) x) f
theorem split_o (f : Buf (Elt F) ((T d : Thread nD τ).loc main_v46)) :
    ((T d : Thread nD τ).loc main_v46 ↦{fullShare} f : sProp 𝕄) = bigSep Finset.univ fun c : Fin ((K (F := F)).nCore 0) => bigSep Finset.univ fun i : Fin ((K (F := F)).nSub 0) =>
      bigSep Finset.univ fun t : Fin k1_t1_loop.trips => ((oP (LV (F := F) c i) t).view.loc (thr d (LV (F := F) c i)) ↦[(oP (LV (F := F) c i) t).view.set]{fullShare} f) :=
  split_gen (hT := t1_trips) (ℓ := (T d : Thread nD τ).loc main_v46) (fun c i t => (oP (LV (F := F) c i) t).view.set) (fun x => (x 0, x 1))
    (fun c i t x => mem_slab4 (a := 64) (b := 256) (oP (LV (F := F) c i) t).view.emb (hOf (LV (F := F) c i)) (nOf (LV (F := F) c i) t) (emb_o (LV (F := F) c i) t) x) f

set_option maxHeartbeats 4000000 in
/-- The six arrays whole are every task's pieces. -/
theorem deal (q : Buf (Elt F) ((T d : Thread nD τ).loc main_v5)) (k : Buf (Elt F) ((T d : Thread nD τ).loc main_v23)) (v : Buf (Elt F) ((T d : Thread nD τ).loc main_v41))
    (g : Buf (Elt F) ((T d : Thread nD τ).loc main_v43)) (mz : Buf (Elt F) ((T d : Thread nD τ).loc main_v45)) (o : Buf (Elt F) ((T d : Thread nD τ).loc main_v46)) :
    (bigSep Finset.univ fun c : Fin ((K (F := F)).nCore 0) => bigSep Finset.univ fun i : Fin ((K (F := F)).nSub 0) => (goT d (LV (F := F) c i) q k v g mz o : sProp 𝕄))
      = iprop(((T d : Thread nD τ).loc main_v5 ↦{fullShare} q) ∗ ((T d : Thread nD τ).loc main_v23 ↦{fullShare} k) ∗ ((T d : Thread nD τ).loc main_v41 ↦{fullShare} v)
        ∗ ((T d : Thread nD τ).loc main_v43 ↦{fullShare} g) ∗ ((T d : Thread nD τ).loc main_v45 ↦{fullShare} mz) ∗ ((T d : Thread nD τ).loc main_v46 ↦{fullShare} o)) := by
  unfold goT Pin Pout
  rw [split_q, split_k, split_v, split_g, split_m, split_o]
  simp only [bigSep_sep', sep_assoc_eq']

end Split

/-! ## What the handshakes carry -/

section Launch

variable (q : (d : Dev nD) → Buf (Elt F) ((T d : Thread nD τ).loc main_v5)) (k : (d : Dev nD) → Buf (Elt F) ((T d : Thread nD τ).loc main_v23))
  (v : (d : Dev nD) → Buf (Elt F) ((T d : Thread nD τ).loc main_v41)) (g : (d : Dev nD) → Buf (Elt F) ((T d : Thread nD τ).loc main_v43))
  (mz : (d : Dev nD) → Buf (Elt F) ((T d : Thread nD τ).loc main_v45)) (o : (d : Dev nD) → Buf (Elt F) ((T d : Thread nD τ).loc main_v46))

abbrev oA (d : Dev nD) : Buf (Elt F) ((T d : Thread nD τ).loc main_v46) := OUTA (q d) (k d) (v d) (g d) (mz d)

/-- One task's pieces, the output's at `o`. -/
def goP (o : (d : Dev nD) → Buf (Elt F) ((T d : Thread nD τ).loc main_v46)) (r : Fin 1) (d : Dev nD) (c : Fin ((K (F := F)).nCore r)) (i : Fin ((K (F := F)).nSub r)) : sProp 𝕄 :=
  match r, c, i with | 0, c, i => goT d (LV (F := F) c i) (q d) (k d) (v d) (g d) (mz d) (o d)

def P : (K (F := F)).Pay (nD := nD) (Val := Elt F) (Name := ℕ) (U := UU) where
  st := fun r d c => bigSep Finset.univ fun i : Fin ((K (F := F)).nSub r) => goP q k v g mz o r d c i
  dn := fun r d c => bigSep Finset.univ fun i : Fin ((K (F := F)).nSub r) => goP q k v g mz (oA q k v g mz) r d c i
  go := fun r d c i => goP q k v g mz o r d c i
  td := fun r d c i => goP q k v g mz (oA q k v g mz) r d c i
  x := fun _ _ => iprop(emp)

set_option maxHeartbeats 2000000 in
set_option synthInstance.maxHeartbeats 1000000 in
instance goT_storable (d : Dev nD) (L : grid1.Coords) (q : Buf (Elt F) ((T d : Thread nD τ).loc main_v5)) (k : Buf (Elt F) ((T d : Thread nD τ).loc main_v23)) (v : Buf (Elt F) ((T d : Thread nD τ).loc main_v41))
    (g : Buf (Elt F) ((T d : Thread nD τ).loc main_v43)) (mz : Buf (Elt F) ((T d : Thread nD τ).loc main_v45)) (o : Buf (Elt F) ((T d : Thread nD τ).loc main_v46)) :
    BI.Storable (upEmb : UEmb _ 𝕄) (goT d L q k v g mz o) := by
  unfold goT Pin Pout
  infer_instance

instance goP_storable (o : (d : Dev nD) → Buf (Elt F) ((T d : Thread nD τ).loc main_v46)) (r : Fin 1) (d : Dev nD) (c : Fin ((K (F := F)).nCore r)) (i : Fin ((K (F := F)).nSub r)) :
    BI.Storable (upEmb : UEmb _ 𝕄) (goP q k v g mz o r d c i) :=
  match r, c, i with | 0, c, i => goT_storable d (LV (F := F) c i) (q d) (k d) (v d) (g d) (mz d) (o d)

instance P_storable : (P (F := F) q k v g mz o).IsStorable where
  st r d c := (inferInstance : BI.Storable (upEmb : UEmb _ 𝕄) (bigSep Finset.univ fun i : Fin ((K (F := F)).nSub r) => goP q k v g mz o r d c i))
  dn r d c := (inferInstance : BI.Storable (upEmb : UEmb _ 𝕄) (bigSep Finset.univ fun i : Fin ((K (F := F)).nSub r) => goP q k v g mz (oA q k v g mz) r d c i))
  go r d c i := goP_storable q k v g mz o r d c i
  td r d c i := goP_storable q k v g mz (oA q k v g mz) r d c i

theorem defs₀_vector (c : Fin τ.nSC) (s : Fin τ.nSub) :
    defs₀ (F := F) (.scVector c s) 1 ()
      = SparseCore.onTile hcore1 hsub1 (fun c s => cc1__local_sc (fun | 0 => c | 1 => s | ⟨_ + 2, h⟩ => absurd h (Nat.not_lt.2 (Nat.le_add_left _ _)))
          (Memref.whole main_v5_scv) (Memref.isWhole_whole _) (Memref.whole main_v23_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5) ⟨⟩ c s := rfl

set_option maxHeartbeats 2000000 in
theorem tileObl (hF : (K (F := F)).Facts) : (K (F := F)).TileObl (D (F := F)) 𝒱 (P q k v g mz o) v₀ 0 := by
  intro d c i O W hO _ _
  simp only [show (P q k v g mz o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (LV (F := F) c i) (q d) (k d) (v d) (g d) (mz d) (o d) hF O W hO

theorem vecSplit : (K (F := F)).VecSplit' (P q k v g mz o) 0 := by
  intro d c
  show (bigSep Finset.univ fun i : Fin ((K (F := F)).nSub 0) => goP q k v g mz o 0 d c i) ⊢ |={Set.univ}=> iprop(
      (bigSep Finset.univ fun i : Fin ((K (F := F)).nSub 0) => goP q k v g mz o 0 d c i)
      ∗ ((bigSep Finset.univ fun i : Fin ((K (F := F)).nSub 0) => goP q k v g mz (oA q k v g mz) 0 d c i)
          -∗ (bigSep Finset.univ fun i : Fin ((K (F := F)).nSub 0) => goP q k v g mz (oA q k v g mz) 0 d c i)))
  iintro H; imodintro
  isplitl [H]; · iexact H
  iintro H; iexact H

/-- The region's configuration, its tables empty. -/
abbrev adm : (p : Fin 1) → (pcfgs (F := F) p).Adm := fun p => (cfgs p).toPCfg_adm
abbrev pcf : (p : Fin 1) → Pipeline.Cfg sig Λ₀ := Pipeline.pin (pcfgs (F := F)) (adm (F := F))
theorem pinj : Function.Injective (Pipeline.cellOf (nD := nD) (τ := τ) (pcf (F := F))) := (Pipeline.LaunchFacts.toP (nD := nD) (τ := τ) (Val := Elt F) launch0).cellOf_inj (adm (F := F))

def uP : UP := initOf (Pipeline.cells (pcf (F := F)) pinj) (Pipeline.launchToks (pcf (F := F)) pinj)
def u₀ : UU := (initOf (K (F := F)).hsCells (K (F := F)).hsToks, (uP (F := F), 1))

/-- What the region is entered with on a device. -/
def G (d : Dev nD) : sProp 𝕄 :=
  iprop((bigSep Finset.univ fun p : Fin 1 => Pipeline.cellsGhost (pcf (F := F)) EP p d) ∗ (bigSep Finset.univ fun p : Fin 1 => Pipeline.toksInit (pcf (F := F)) EP p d))

theorem bigSep_emp' {I : Type} (s : Finset I) : (bigSep s fun _ => iprop(emp)) = (iprop(emp) : sProp 𝕄) := bigSep_emp_const s

omit [FloatOps F] in
theorem ownU_split3 (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own (((Emb.inr : Emb (UP × Counters) UU).trans
      (uEmb (nD := nD) (sig := sig) (Ix := HIx 1) (Val := Elt F) (Name := ℕ) (U := UU) (Lvl := ℕ)).toEmb) (b, c))) :=
    ownU_pair a (b, c)
  have h2 : (BI.own (((Emb.inr : Emb (UP × Counters) UU).trans
      (uEmb (nD := nD) (sig := sig) (Ix := HIx 1) (Val := Elt F) (Name := ℕ) (U := UU) (Lvl := ℕ)).toEmb) (b, c)) : sProp 𝕄)
      ⊢ iprop(BI.own (EP b) ∗ BI.own (((Emb.inr : Emb (UP × Counters) UU).trans
      (uEmb (nD := nD) (sig := sig) (Ix := HIx 1) (Val := Elt F) (Name := ℕ) (U := UU) (Lvl := ℕ)).toEmb) (1, c))) :=
    BI.own_op_elim (((Emb.inr : Emb (UP × Counters) UU).trans
      (uEmb (nD := nD) (sig := sig) (Ix := HIx 1) (Val := Elt F) (Name := ℕ) (U := UU) (Lvl := ℕ)).toEmb).op_of_mem
      (Prod.mk_mem_op (URA.mem_op_one b) (URA.mem_one_op c)))
  iintro H
  ihave H1 := h1 $$ H
  icases H1 with ⟨Ha, Hb⟩
  ihave H2 := h2 $$ Hb
  icases H2 with ⟨Hb, -⟩
  isplitl [Ha] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun r : Fin 1 => (P q k v g mz o).x r thr) := by
  unfold u₀
  iintro Hu
  ihave H := (ownU_split3 (F := F) _ _ _) $$ Hu
  icases H with ⟨HH, HP⟩
  unfold uP
  imod (Pipeline.fund_ghost (pcf (F := F)) EP pinj) $$ HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun r : Fin 1 => (P (F := F) q k v g mz o).x r thr) = bigSep Finset.univ fun _ => iprop(emp) from
    bigSep_congr fun _ _ => bigSep_univ_of_subsingleton (0 : Fin 1), bigSep_emp']
  iempintro

end Launch

end Cert.Proof.Sc

end
-- ==== Proof.ScTcVal.lean ====
/-
  What the dense part of the kernel computes for one head, as plain definitions over the head's keys, queries and values: each
  round of its maximum searches is one definition, and each printed part is rewritten to return these definitions.
-/
module

public import proofs.«01_k».proof.Defs
public import proofs.«01_k».proof.Proof.Gen.KernelIdeal.Skeleton

@[expose] public section

set_option synthInstance.maxSize 4096

noncomputable section

namespace Cert.Proof.Tc

open Cert.KernelIdeal Cert.KernelIdeal.Gen
open Idealize.ShloMosaic Idealize.SL.Sem

variable {F : FTy → Type} [FloatOps F]

/-! ## Similarities -/

/-- One chosen row of the normalised queries. -/
def row0 (q : FVec F S2048x64 .f32) (n : ℕ) (h : S2048x64.Slices ![n, 0] S1x64) : FVec F S64 .f32 :=
  shapeCast S64 (extractStridedSlice S1x64 ![n, 0] q h) shapeCasts_S1x64_S64
def row1 (r : FVec F S64 .f32) : FVec F S1x64 .f32 := shapeCast S1x64 r shapeCasts_S64_S1x64

/-- Rows divided by their norms. -/
def normed (x : FVec F S2048x64 .f32) (n : FVec F S2048x1 .f32) (e : F .f32) : FVec F S2048x64 .f32 :=
  divf x (broadcastTo S2048x64 (maximumf n (broadcast S2048x1 e)) broadcasts_S2048x1_S2048x64)

/-- The thirty-two sampled rows. -/
def protos (q : FVec F S2048x64 .f32) : FVec F S32x64 .f32 :=
  concatenate S32x64 0 [⟨S1x64, row1 (row0 q 0 slices_S2048x64_o0_0_S1x64)⟩, ⟨S1x64, row1 (row0 q 66 slices_S2048x64_o66_0_S1x64)⟩, ⟨S1x64, row1 (row0 q 132 slices_S2048x64_o132_0_S1x64)⟩, ⟨S1x64, row1 (row0 q 198 slices_S2048x64_o198_0_S1x64)⟩, ⟨S1x64, row1 (row0 q 264 slices_S2048x64_o264_0_S1x64)⟩, ⟨S1x64, row1 (row0 q 330 slices_S2048x64_o330_0_S1x64)⟩, ⟨S1x64, row1 (row0 q 396 slices_S2048x64_o396_0_S1x64)⟩, ⟨S1x64, row1 (row0 q 462 slices_S2048x64_o462_0_S1x64)⟩, ⟨S1x64, row1 (row0 q 528 slices_S2048x64_o528_0_S1x64)⟩, ⟨S1x64, row1 (row0 q 594 slices_S2048x64_o594_0_S1x64)⟩, ⟨S1x64, row1 (row0 q 660 slices_S2048x64_o660_0_S1x64)⟩, ⟨S1x64, row1 (row0 q 726 slices_S2048x64_o726_0_S1x64)⟩, ⟨S1x64, row1 (row0 q 792 slices_S2048x64_o792_0_S1x64)⟩, ⟨S1x64, row1 (row0 q 858 slices_S2048x64_o858_0_S1x64)⟩, ⟨S1x64, row1 (row0 q 924 slices_S2048x64_o924_0_S1x64)⟩, ⟨S1x64, row1 (row0 q 990 slices_S2048x64_o990_0_S1x64)⟩, ⟨S1x64, row1 (row0 q 1057 slices_S2048x64_o1057_0_S1x64)⟩, ⟨S1x64, row1 (row0 q 1123 slices_S2048x64_o1123_0_S1x64)⟩, ⟨S1x64, row1 (row0 q 1189 slices_S2048x64_o1189_0_S1x64)⟩, ⟨S1x64, row1 (row0 q 1255 slices_S2048x64_o1255_0_S1x64)⟩, ⟨S1x64, row1 (row0 q 1321 slices_S2048x64_o1321_0_S1x64)⟩, ⟨S1x64, row1 (row0 q 1387 slices_S2048x64_o1387_0_S1x64)⟩, ⟨S1x64, row1 (row0 q 1453 slices_S2048x64_o1453_0_S1x64)⟩, ⟨S1x64, row1 (row0 q 1519 slices_S2048x64_o1519_0_S1x64)⟩, ⟨S1x64, row1 (row0 q 1585 slices_S2048x64_o1585_0_S1x64)⟩, ⟨S1x64, row1 (row0 q 1651 slices_S2048x64_o1651_0_S1x64)⟩, ⟨S1x64, row1 (row0 q 1717 slices_S2048x64_o1717_0_S1x64)⟩, ⟨S1x64, row1 (row0 q 1783 slices_S2048x64_o1783_0_S1x64)⟩, ⟨S1x64, row1 (row0 q 1849 slices_S2048x64_o1849_0_S1x64)⟩, ⟨S1x64, row1 (row0 q 1915 slices_S2048x64_o1915_0_S1x64)⟩, ⟨S1x64, row1 (row0 q 1981 slices_S2048x64_o1981_0_S1x64)⟩, ⟨S1x64, row1 (row0 q 2047 slices_S2048x64_o2047_0_S1x64)⟩] concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0

/-- Similarity of every key to every sampled row, cut below at zero. -/
def smat (kb q : FVec F S2048x64 .f32) : FVec F S32x2048 .f32 :=
  maximumf (matmul dot_S32x64_S2048x64_S32x2048_1_1_0_0_n_n none (truncf .bf16 (protos q) bitsLt_bf16_f32) (truncf .bf16 kb bitsLt_bf16_f32) (constant S32x2048 .f32 0x00000000#32))
    (broadcast S32x2048 (Scalar.ofBits .f32 0x00000000#32))

/-- Sum over the sampled rows. -/
def rowSum (s : FVec F S32x2048 .f32) : FVec F S1x2048 .f32 :=
  shapeCast S1x2048 (multiReduction .add [0] S2048 s 0x00000000#32 reduces_S32x2048_S2048 (.inl rfl) rfl) shapeCasts_S2048_S1x2048
def rowMean (s : FVec F S32x2048 .f32) : FVec F S1x2048 .f32 := divf (rowSum s) (broadcast S1x2048 (Scalar.ofBits .f32 0x42000000#32))
/-- Maximum over the sampled rows. -/
def rowMax (s : FVec F S32x2048 .f32) : FVec F S1x2048 .f32 :=
  shapeCast S1x2048 (multiReduction .maximumf [0] S2048 s 0xFF800000#32 reduces_S32x2048_S2048 (.inl rfl) rfl) shapeCasts_S2048_S1x2048
def iotaP : IVec S32x2048 32 := iota .tc S32x2048 32 [0] iota_S32x2048_d0_w32
def rowSel (u : FVec F S32x2048 .f32) : IVec S32x2048 32 :=
  select (cmpf .oeq u (broadcastTo S32x2048 (rowMax u) broadcasts_S1x2048_S32x2048)) iotaP (broadcast S32x2048 32#32)
def rowMin (s : IVec S32x2048 32) : IVec S1x2048 32 :=
  shapeCast S1x2048 (multiReductionI .minsi [0] S2048 s 2147483647#32 reduces_S32x2048_S2048 rfl) shapeCasts_S2048_S1x2048
/-- One round of the top-six search: the first largest entry of each column goes to −1e30. -/
def rowNx (u : FVec F S32x2048 .f32) : FVec F S32x2048 .f32 :=
  select (cmpi .eq iotaP (broadcastTo S32x2048 (rowMin (rowSel u)) broadcasts_S1x2048_S32x2048)) (broadcast S32x2048 (Scalar.ofBits .f32 0xF149F2CA#32)) u

/-- The score of every key from mean, maximum and top-six sum. -/
def score (s : FVec F S32x2048 .f32) (mean mx acc : FVec F S1x2048 .f32) : FVec F S1x2048 .f32 :=
  have c := subf s (broadcastTo S32x2048 mean broadcasts_S1x2048_S32x2048)
  addf (addf (addf (mulf (broadcast S1x2048 (Scalar.ofBits .f32 0x3F800000#32)) mean) (mulf (broadcast S1x2048 (Scalar.ofBits .f32 0x3F19999A#32)) mx))
      (mulf (broadcast S1x2048 (Scalar.ofBits .f32 0x3ECCCCCD#32)) (divf acc (broadcast S1x2048 (Scalar.ofBits .f32 0x40C00000#32)))))
    (mulf (broadcast S1x2048 (Scalar.ofBits .f32 0x3E4CCCCD#32)) (sqrt (divf (rowSum (mulf c c)) (broadcast S1x2048 (Scalar.ofBits .f32 0x41F80000#32)))))

def acc3 (a : FVec F S1x2048 .f32) (s : FVec F S32x2048 .f32) : FVec F S1x2048 .f32 :=
  addf (addf (addf a (rowMax s)) (rowMax (rowNx s))) (rowMax (rowNx (rowNx s)))

def zrow : FVec F S1x2048 .f32 := broadcast S1x2048 (Scalar.ofBits .f32 0x00000000#32)

def scoreOf (s : FVec F S32x2048 .f32) : FVec F S1x2048 .f32 :=
  score s (rowMean s) (rowMax s) (acc3 (acc3 zrow s) (rowNx (rowNx (rowNx s))))

/-! ## Twelve best keys -/

def iotaS : IVec S1x2048 32 := iota .tc S1x2048 32 [1] iota_S1x2048_d1_w32
def gl (u : FVec F S1x2048 .f32) : FVec F S1x1x2048 .f32 := shapeCast S1x1x2048 u shapeCasts_S1x2048_S1x1x2048
def gmx (u : FVec F S1x2048 .f32) : FVec F S1x1x1 .f32 :=
  shapeCast S1x1x1 (multiReduction .maximumf [1, 2] S1 (gl u) 0xFF800000#32 reduces_S1x1x2048_S1 (.inl rfl) rfl) shapeCasts_S1_S1x1x1
def gmb (u : FVec F S1x2048 .f32) : FVec F S1x2048 .f32 := broadcast S1x2048 (extractAt ![0, 0, 0] (gmx u) inpos_S1x1x1_p0_0_0)
def geq (u : FVec F S1x2048 .f32) : IVec S1x2048 1 := cmpf .oeq u (gmb u)
def gsel (u : FVec F S1x2048 .f32) : IVec S1x2048 32 := select (geq u) iotaS (broadcast S1x2048 2048#32)
def gsel3 (u : FVec F S1x2048 .f32) : IVec S1x1x2048 32 := shapeCast S1x1x2048 (gsel u) shapeCasts_S1x2048_S1x1x2048
/-- The first position of the maximum. -/
def gpos (u : FVec F S1x2048 .f32) : BitVec 32 :=
  extractAt ![0, 0, 0] (shapeCast S1x1x1 (multiReductionI .minsi [1, 2] S1 (gsel3 u) 2147483647#32 reduces_S1x1x2048_S1 rfl) shapeCasts_S1_S1x1x1) inpos_S1x1x1_p0_0_0
/-- The similarities at one position, as a column. -/
def gcol (p : BitVec 32) (s : FVec F S32x2048 .f32) : FVec F S32x1 .f32 :=
  shapeCast S32x1 (multiReduction .add [1] S32 (mulf (broadcastTo S32x2048 (sitofp .f32 (extui 32 (cmpi .eq iotaS (broadcast S1x2048 p)) natLt_1_32)) broadcasts_S1x2048_S32x2048) s) 0x00000000#32 reduces_S32x2048_S32 (.inl rfl) rfl) shapeCasts_S32_S32x1
def gnx (u : FVec F S1x2048 .f32) : FVec F S1x2048 .f32 :=
  select (cmpi .eq iotaS (broadcast S1x2048 (gpos u))) (broadcast S1x2048 (Scalar.ofBits .f32 0xF149F2CA#32)) u
def gnx2 (u : FVec F S1x2048 .f32) : FVec F S1x2048 .f32 := gnx (gnx u)
/-- After some rounds. -/
def git (u : FVec F S1x2048 .f32) : ℕ → FVec F S1x2048 .f32
  | 0 => u
  | n + 1 => gnx (git u n)

/-- The twelve columns. -/
def ssub (p : ℕ → BitVec 32) (s : FVec F S32x2048 .f32) : FVec F S32x12 .f32 :=
  concatenate S32x12 1 [⟨S32x1, gcol (p 0) s⟩, ⟨S32x1, gcol (p 1) s⟩, ⟨S32x1, gcol (p 2) s⟩, ⟨S32x1, gcol (p 3) s⟩, ⟨S32x1, gcol (p 4) s⟩, ⟨S32x1, gcol (p 5) s⟩, ⟨S32x1, gcol (p 6) s⟩, ⟨S32x1, gcol (p 7) s⟩, ⟨S32x1, gcol (p 8) s⟩, ⟨S32x1, gcol (p 9) s⟩, ⟨S32x1, gcol (p 10) s⟩, ⟨S32x1, gcol (p 11) s⟩] concatenates_S32x1_S32x1_S32x1_S32x1_S32x1_S32x1_S32x1_S32x1_S32x1_S32x1_S32x1_S32x1_S32x12_d1

/-! ## Four of the twelve, greedily -/

def iotaU : IVec S1x12 32 := iota .tc S1x12 32 [1] iota_S1x12_d1_w32
def put (r : BitVec 32) (p : BitVec 32) (t : IVec S1x12 32) : IVec S1x12 32 :=
  select (cmpi .eq iotaU (broadcast S1x12 r)) (broadcast S1x12 p) t
def tp3 (p : ℕ → BitVec 32) : IVec S1x12 32 := put 2#32 (p 2) (put 1#32 (p 1) (put 0#32 (p 0) (broadcast S1x12 0#32)))
def tp (p : ℕ → BitVec 32) : IVec S1x12 32 :=
  put 11#32 (p 11) (put 10#32 (p 10) (put 9#32 (p 9) (put 8#32 (p 8) (put 7#32 (p 7) (put 6#32 (p 6) (put 5#32 (p 5) (put 4#32 (p 4) (put 3#32 (p 3) (tp3 p)))))))))
def m0 : FVec F S32x1 .f32 := broadcast S32x1 (Scalar.ofBits .f32 0x00000000#32)
def b0 : IVec S1x12 1 := broadcast S1x12 0#1
/-- What each candidate would add. -/
def gains (S : FVec F S32x12 .f32) (m : FVec F S32x1 .f32) (b : IVec S1x12 1) : FVec F S1x12 .f32 :=
  select b (broadcast S1x12 (Scalar.ofBits .f32 0xCE6E6B28#32))
    (shapeCast S1x12 (multiReduction .add [0] S12 (maximumf (subf S (broadcastTo S32x12 m broadcasts_S32x1_S32x12)) (broadcast S32x12 (Scalar.ofBits .f32 0x00000000#32))) 0x00000000#32 reduces_S32x12_S12 (.inl rfl) rfl) shapeCasts_S12_S1x12)
def bmx (g : FVec F S1x12 .f32) : FVec F S1x1x1 .f32 :=
  shapeCast S1x1x1 (multiReduction .maximumf [1, 2] S1 (shapeCast S1x1x12 g shapeCasts_S1x12_S1x1x12) 0xFF800000#32 reduces_S1x1x12_S1 (.inl rfl) rfl) shapeCasts_S1_S1x1x1
def bpos (g : FVec F S1x12 .f32) : IVec S1x1x1 32 :=
  shapeCast S1x1x1 (multiReductionI .minsi [1, 2] S1 (shapeCast S1x1x12 (select (cmpf .oeq g (broadcast S1x12 (extractAt ![0, 0, 0] (bmx g) inpos_S1x1x1_p0_0_0))) iotaU (broadcast S1x12 12#32)) shapeCasts_S1x12_S1x1x12) 2147483647#32 reduces_S1x1x12_S1 rfl) shapeCasts_S1_S1x1x1
def bj (g : FVec F S1x12 .f32) : BitVec 32 := extractAt ![0, 0, 0] (bpos g) inpos_S1x1x1_p0_0_0
def hot (j : BitVec 32) : IVec S1x12 1 := cmpi .eq iotaU (broadcast S1x12 j)
def cho (t : IVec S1x12 32) (j : BitVec 32) : BitVec 32 :=
  extractAt ![0, 0, 0] (shapeCast S1x1x1 (multiReductionI .add [1, 2] S1 (shapeCast S1x1x12 (select (hot j) t (broadcast S1x12 0#32)) shapeCasts_S1x12_S1x1x12) 0#32 reduces_S1x1x12_S1 rfl) shapeCasts_S1_S1x1x1) inpos_S1x1x1_p0_0_0
def bnx (b : IVec S1x12 1) (j : BitVec 32) : IVec S1x12 1 := ori b (hot j)
def hot1 (j : BitVec 32) : IVec S1x12 1 := shapeCast S1x12 (hot j) shapeCasts_S1x12_S1x12
def mnx (S : FVec F S32x12 .f32) (m : FVec F S32x1 .f32) (j : BitVec 32) : FVec F S32x1 .f32 :=
  maximumf m (shapeCast S32x1 (multiReduction .add [1] S32 (select (broadcastTo S32x12 (hot1 j) broadcasts_S1x12_S32x12) S (broadcast S32x12 (Scalar.ofBits .f32 0x00000000#32))) 0x00000000#32 reduces_S32x12_S32 (.inl rfl) rfl) shapeCasts_S32_S32x1)

/-- The state of the greedy choice: the running maximum and the taken candidates. -/
def gst (S : FVec F S32x12 .f32) : ℕ → FVec F S32x1 .f32 × IVec S1x12 1
  | 0 => (m0, b0)
  | n + 1 => (mnx S (gst S n).1 (bj (gains S (gst S n).1 (gst S n).2)), bnx (gst S n).2 (bj (gains S (gst S n).1 (gst S n).2)))
def gj (S : FVec F S32x12 .f32) (n : ℕ) : BitVec 32 := bj (gains S (gst S n).1 (gst S n).2)

/-! ## Attention to the four -/

def iotaT : IVec S2048x1 32 := iota .tc S2048x1 32 [0] iota_S2048x1_d0_w32
def hotT (c : BitVec 32) : IVec S2048x1 1 := cmpi .eq iotaT (broadcast S2048x1 c)
def pick (h : IVec S2048x1 1) (x : FVec F S2048x64 .f32) : FVec F S1x64 .f32 :=
  shapeCast S1x64 (multiReduction .add [0] S64 (mulf (broadcastTo S2048x64 (sitofp .f32 (extui 32 h natLt_1_32)) broadcasts_S2048x1_S2048x64) x) 0x00000000#32 reduces_S2048x64_S64 (.inl rfl) rfl) shapeCasts_S64_S1x64
def four (a b c d : FVec F S1x64 .f32) : FVec F S4x64 .f32 :=
  concatenate S4x64 0 [⟨S1x64, a⟩, ⟨S1x64, b⟩, ⟨S1x64, c⟩, ⟨S1x64, d⟩] concatenates_S1x64_S1x64_S1x64_S1x64_S4x64_d0
def glog (kg : FVec F S4x64 .f32) (q : FVec F S2048x64 .f32) : FVec F S4x2048 .f32 :=
  mulf (matmul dot_S4x64_S2048x64_S4x2048_1_1_0_0_n_n none (truncf .bf16 kg bitsLt_bf16_f32) (truncf .bf16 q bitsLt_bf16_f32) (constant S4x2048 .f32 0x00000000#32)) (broadcast S4x2048 (Scalar.ofBits .f32 0x3E000000#32))
def gM (l : FVec F S4x2048 .f32) : FVec F S1x2048 .f32 :=
  shapeCast S1x2048 (multiReduction .maximumf [0] S2048 l 0xFF800000#32 reduces_S4x2048_S2048 (.inl rfl) rfl) shapeCasts_S2048_S1x2048
def gE (l : FVec F S4x2048 .f32) : FVec F S4x2048 .f32 := exp (subf l (broadcastTo S4x2048 (gM l) broadcasts_S1x2048_S4x2048))
def gZ (l : FVec F S4x2048 .f32) : FVec F S1x2048 .f32 :=
  shapeCast S1x2048 (multiReduction .add [0] S2048 (gE l) 0x00000000#32 reduces_S4x2048_S2048 (.inl rfl) rfl) shapeCasts_S2048_S1x2048
def gO (vg : FVec F S4x64 .f32) (l : FVec F S4x2048 .f32) : FVec F S64x2048 .f32 :=
  matmul dot_S4x64_S4x2048_S64x2048_0_0_1_1_n_n none vg (gE l) (constant S64x2048 .f32 0x00000000#32)

/-- The twelve positions of a head. -/
def posOf (s : FVec F S32x2048 .f32) (n : ℕ) : BitVec 32 := gpos (git (scoreOf s) n)
/-- The four chosen keys of a head. -/
def chosen (s : FVec F S32x2048 .f32) (n : ℕ) : BitVec 32 := cho (tp (posOf s)) (gj (ssub (posOf s) s) n)
def kg4 (s : FVec F S32x2048 .f32) (x : FVec F S2048x64 .f32) : FVec F S4x64 .f32 :=
  four (pick (hotT (chosen s 0)) x) (pick (hotT (chosen s 1)) x) (pick (hotT (chosen s 2)) x) (pick (hotT (chosen s 3)) x)

/-! ## The printed parts -/

section Parts

variable (i : grid0.Coords) (a1 : Memref sig .tc .vmem S1x2048x64 .f32) (h1 : a1.IsWhole) (a2 : Memref sig .tc .vmem S1x2048x64 .f32) (h2 : a2.IsWhole)
  (a3 : Memref sig .tc .vmem S1x2048x64 .f32) (h3 : a3.IsWhole) (a4 : Memref sig .tc .vmem S1x64x2048 .f32) (h4 : a4.IsWhole)
  (a5 : Memref sig .tc .vmem S1x2x2048 .f32) (h5 : a5.IsWhole) (a6 : Memref sig .tc .vmem S1x64x2048 .f32) (h6 : a6.IsWhole)
  (a7 : Memref sig .tc .vmem S1x64x2048 .f32) (h7 : a7.IsWhole) (a8 : Memref sig .tc .vmem S1x64x2048 .f32) (h8 : a8.IsWhole)

set_option maxRecDepth 65536

theorem part2 (x : FVec F S2048x64 .f32) (n : FVec F S2048x1 .f32) (e : F .f32) :
    k0_part2 i a1 h1 a2 h2 a3 h3 a4 h4 a5 h5 a6 h6 a7 h7 a8 h8 x n e = (pure ⟨normed x n e, row1 (row0 (normed x n e) 0 slices_S2048x64_o0_0_S1x64), row1 (row0 (normed x n e) 66 slices_S2048x64_o66_0_S1x64), row1 (row0 (normed x n e) 132 slices_S2048x64_o132_0_S1x64), row1 (row0 (normed x n e) 198 slices_S2048x64_o198_0_S1x64), row1 (row0 (normed x n e) 264 slices_S2048x64_o264_0_S1x64), row1 (row0 (normed x n e) 330 slices_S2048x64_o330_0_S1x64), row1 (row0 (normed x n e) 396 slices_S2048x64_o396_0_S1x64), row1 (row0 (normed x n e) 462 slices_S2048x64_o462_0_S1x64), row1 (row0 (normed x n e) 528 slices_S2048x64_o528_0_S1x64), row1 (row0 (normed x n e) 594 slices_S2048x64_o594_0_S1x64), row1 (row0 (normed x n e) 660 slices_S2048x64_o660_0_S1x64), row1 (row0 (normed x n e) 726 slices_S2048x64_o726_0_S1x64), row1 (row0 (normed x n e) 792 slices_S2048x64_o792_0_S1x64), row1 (row0 (normed x n e) 858 slices_S2048x64_o858_0_S1x64), row1 (row0 (normed x n e) 924 slices_S2048x64_o924_0_S1x64), row1 (row0 (normed x n e) 990 slices_S2048x64_o990_0_S1x64), row1 (row0 (normed x n e) 1057 slices_S2048x64_o1057_0_S1x64), row1 (row0 (normed x n e) 1123 slices_S2048x64_o1123_0_S1x64), row0 (normed x n e) 1189 slices_S2048x64_o1189_0_S1x64⟩) := rfl
theorem part3 (kb q : FVec F S2048x64 .f32) :
    k0_part3 i a1 h1 a2 h2 a3 h3 a4 h4 a5 h5 a6 h6 a7 h7 a8 h8 kb q (row1 (row0 q 0 slices_S2048x64_o0_0_S1x64)) (row1 (row0 q 66 slices_S2048x64_o66_0_S1x64)) (row1 (row0 q 132 slices_S2048x64_o132_0_S1x64)) (row1 (row0 q 198 slices_S2048x64_o198_0_S1x64)) (row1 (row0 q 264 slices_S2048x64_o264_0_S1x64)) (row1 (row0 q 330 slices_S2048x64_o330_0_S1x64)) (row1 (row0 q 396 slices_S2048x64_o396_0_S1x64)) (row1 (row0 q 462 slices_S2048x64_o462_0_S1x64)) (row1 (row0 q 528 slices_S2048x64_o528_0_S1x64)) (row1 (row0 q 594 slices_S2048x64_o594_0_S1x64)) (row1 (row0 q 660 slices_S2048x64_o660_0_S1x64)) (row1 (row0 q 726 slices_S2048x64_o726_0_S1x64)) (row1 (row0 q 792 slices_S2048x64_o792_0_S1x64)) (row1 (row0 q 858 slices_S2048x64_o858_0_S1x64)) (row1 (row0 q 924 slices_S2048x64_o924_0_S1x64)) (row1 (row0 q 990 slices_S2048x64_o990_0_S1x64)) (row1 (row0 q 1057 slices_S2048x64_o1057_0_S1x64)) (row1 (row0 q 1123 slices_S2048x64_o1123_0_S1x64)) (row0 q 1189 slices_S2048x64_o1189_0_S1x64)
      = pure ⟨smat kb q, rowMean (smat kb q), rowMax (smat kb q), iotaP, zrow⟩ := rfl
theorem part4 (s : FVec F S32x2048 .f32) (z : FVec F S1x2048 .f32) :
    k0_part4 i a1 h1 a2 h2 a3 h3 a4 h4 a5 h5 a6 h6 a7 h7 a8 h8 s iotaP z
      = pure ⟨acc3 z s, rowNx (rowNx (rowNx s)), rowMax (rowNx (rowNx (rowNx s))), rowSel (rowNx (rowNx (rowNx s)))⟩ := rfl
theorem part5 (s u : FVec F S32x2048 .f32) (mean mx a : FVec F S1x2048 .f32) :
    k0_part5 i a1 h1 a2 h2 a3 h3 a4 h4 a5 h5 a6 h6 a7 h7 a8 h8 s mean mx iotaP a u (rowMax u) (rowSel u)
      = pure ⟨score s mean mx (acc3 a u), iotaS, gl (score s mean mx (acc3 a u))⟩ := rfl
theorem part6 (s : FVec F S32x2048 .f32) (u : FVec F S1x2048 .f32) :
    k0_part6 i a1 h1 a2 h2 a3 h3 a4 h4 a5 h5 a6 h6 a7 h7 a8 h8 s u iotaS (gl u)
      = pure ⟨gpos u, gcol (gpos u) s, gpos (gnx u), gcol (gpos (gnx u)) s, gnx2 u, gmx (gnx2 u)⟩ := rfl
theorem part7 (s : FVec F S32x2048 .f32) (u : FVec F S1x2048 .f32) :
    k0_part7 i a1 h1 a2 h2 a3 h3 a4 h4 a5 h5 a6 h6 a7 h7 a8 h8 s iotaS u (gmx u)
      = pure ⟨gpos u, gcol (gpos u) s, gpos (gnx u), gcol (gpos (gnx u)) s, gnx2 u, gmb (gnx2 u)⟩ := rfl
theorem part8 (s : FVec F S32x2048 .f32) (u : FVec F S1x2048 .f32) :
    k0_part8 i a1 h1 a2 h2 a3 h3 a4 h4 a5 h5 a6 h6 a7 h7 a8 h8 s iotaS u (gmb u)
      = pure ⟨gpos u, gcol (gpos u) s, gpos (gnx u), gcol (gpos (gnx u)) s, gnx2 u, geq (gnx2 u), 2048#32⟩ := rfl
theorem part9 (s : FVec F S32x2048 .f32) (u : FVec F S1x2048 .f32) :
    k0_part9 i a1 h1 a2 h2 a3 h3 a4 h4 a5 h5 a6 h6 a7 h7 a8 h8 s iotaS u (geq u) 2048#32
      = pure ⟨gpos u, gcol (gpos u) s, gpos (gnx u), gcol (gpos (gnx u)) s, gnx2 u, gsel (gnx2 u)⟩ := rfl
theorem part10 (s : FVec F S32x2048 .f32) (u : FVec F S1x2048 .f32) :
    k0_part10 i a1 h1 a2 h2 a3 h3 a4 h4 a5 h5 a6 h6 a7 h7 a8 h8 s iotaS u (gsel u)
      = pure ⟨gpos u, gcol (gpos u) s, gpos (gnx u), gcol (gpos (gnx u)) s, gnx2 u, gsel3 (gnx2 u)⟩ := rfl
theorem part11 (s : FVec F S32x2048 .f32) (u : FVec F S1x2048 .f32) (p : ℕ → BitVec 32) (hp : p 10 = gpos u) (hq : p 11 = gpos (gnx u)) :
    k0_part11 i a1 h1 a2 h2 a3 h3 a4 h4 a5 h5 a6 h6 a7 h7 a8 h8 s iotaS (p 0) (gcol (p 0) s) (p 1) (gcol (p 1) s) (p 2) (gcol (p 2) s) (gcol (p 3) s) (gcol (p 4) s) (gcol (p 5) s) (gcol (p 6) s) (gcol (p 7) s) (gcol (p 8) s) (gcol (p 9) s) u (gsel3 u)
      = pure ⟨p 10, p 11, ssub p s, iotaU, tp3 p⟩ := by
  unfold ssub; rw [hp, hq]; rfl
theorem part12 (S : FVec F S32x12 .f32) (p : ℕ → BitVec 32) :
    k0_part12 (F := F) i a1 h1 a2 h2 a3 h3 a4 h4 a5 h5 a6 h6 a7 h7 a8 h8 (p 3) (p 4) (p 5) (p 6) (p 7) (p 8) (p 9) (p 10) (p 11) S iotaU (tp3 p)
      = pure ⟨tp p, m0, b0, gains S m0 b0⟩ := rfl
theorem part13 (S : FVec F S32x12 .f32) (t : IVec S1x12 32) (m : FVec F S32x1 .f32) (b : IVec S1x12 1) (g : FVec F S1x12 .f32) :
    k0_part13 i a1 h1 a2 h2 a3 h3 a4 h4 a5 h5 a6 h6 a7 h7 a8 h8 S iotaU t m b g
      = pure ⟨cho t (bj g), bnx b (bj g), mnx S m (bj g), bpos (gains S (mnx S m (bj g)) (bnx b (bj g)))⟩ := rfl
theorem part14 (S : FVec F S32x12 .f32) (t : IVec S1x12 32) (m : FVec F S32x1 .f32) (b : IVec S1x12 1) (g : FVec F S1x12 .f32) :
    k0_part14 i a1 h1 a2 h2 a3 h3 a4 h4 a5 h5 a6 h6 a7 h7 a8 h8 S iotaU t b m (bpos g)
      = (let m' := mnx S m (bj g); let b' := bnx b (bj g); let j := bj (gains S m' b')
         pure ⟨cho t (bj g), m', cho t j, bnx b' j, Scalar.ofBits .f32 0x00000000#32, hot1 j⟩) := rfl
theorem part15 (k v : FVec F S2048x64 .f32) (S : FVec F S32x12 .f32) (t : IVec S1x12 32) (c c' : BitVec 32) (m : FVec F S32x1 .f32) (b : IVec S1x12 1) (j : BitVec 32) :
    k0_part15 i a1 h1 a2 h2 a3 h3 a4 h4 a5 h5 a6 h6 a7 h7 a8 h8 k v S iotaU t c c' m b (Scalar.ofBits .f32 0x00000000#32) (hot1 j)
      = pure ⟨cho t (bj (gains S (mnx S m j) b)), iotaT, pick (hotT c) k, pick (hotT c) v, hotT c'⟩ := rfl
theorem part16 (k q v : FVec F S2048x64 .f32) (c c1 c2 c3 : BitVec 32) :
    k0_part16 i a1 h1 a2 h2 a3 h3 a4 h4 a5 h5 a6 h6 a7 h7 a8 h8 k q v c2 c3 iotaT (pick (hotT c) k) (pick (hotT c) v) (hotT c1)
      = (let l := glog (four (pick (hotT c) k) (pick (hotT c1) k) (pick (hotT c2) k) (pick (hotT c3) k)) q
         pure ⟨gM l, gZ l, gO (four (pick (hotT c) v) (pick (hotT c1) v) (pick (hotT c2) v) (pick (hotT c3) v)) l⟩) := rfl

/-- The body after its first part: the two remaining results are stored. -/
def stores (o : FVec F S64x2048 .f32) (M Z : FVec F S1x2048 .f32) : Prog (TpuEff nD τ sig (Elt F) Λ₀ .tc) PUnit := do
  let _ ← Prog.lift (.load a4 (Rect.unit (s := S1x64x2048) ![0, 0, 0] S1x64x2048.size inb_S1x64x2048_S1x64x2048_0_0_0).toLoadRect (View.loadsAt_vmem h_S1x64x2048))
  Prog.lift (.store a4 (Rect.unit (s := S1x64x2048) ![0, 0, 0] S1x64x2048.size inb_S1x64x2048_S1x64x2048_0_0_0) (k0_pay1 o) Finset.univ (View.stores_vmem_bits_univ h_S1x64x2048 rfl) (.inl rfl))
  let _ ← Prog.lift (.load a5 (Rect.unit (s := S1x2x2048) ![0, 0, 0] S1x2x2048.size inb_S1x2x2048_S1x2x2048_0_0_0).toLoadRect (View.loadsAt_vmem h_S1x2x2048))
  Prog.lift (.store a5 (Rect.unit (s := S1x2x2048) ![0, 0, 0] S1x2x2048.size inb_S1x2x2048_S1x2x2048_0_0_0) (k0_pay2 M Z) Finset.univ (View.stores_vmem_bits_univ h_S1x2x2048 rfl) (.inl rfl))
  pure ⟨⟩

/-- The body: the first part, the chosen keys, the stores. -/
theorem body_eq : cc0__globals_tc_body (F := F) i a1 h1 a2 h2 a3 h3 a4 h4 a5 h5 a6 h6 a7 h7 a8 h8
    = (k0_part1 i a1 h1 a2 h2 a3 h3 a4 h4 a5 h5 a6 h6 a7 h7 a8 h8 >>= fun r => match r with
      | ⟨k, q, v, kb, n, e⟩ =>
        let s := smat kb (normed q n e)
        let l := glog (kg4 s k) q
        stores a4 a5 (gO (kg4 s v) l) (gM l) (gZ l)) := by
  refine congrArg (k0_part1 i a1 h1 a2 h2 a3 h3 a4 h4 a5 h5 a6 h6 a7 h7 a8 h8 >>= ·) (funext ?_)
  rintro ⟨k, q, v, kb, n, e⟩
  have pb : ∀ {α β : Type} (x : α) (f : α → Prog (TpuEff nD τ sig (Elt F) Λ₀ .tc) β), (pure x >>= f) = f x := fun _ _ => rfl
  dsimp only
  change (k0_part2 (F := F) i a1 h1 a2 h2 a3 h3 a4 h4 a5 h5 a6 h6 a7 h7 a8 h8 q n e >>= _) = _
  rw [part2, pb]; dsimp only
  rw [part3, pb]; dsimp only
  rw [part4, pb]; dsimp only
  rw [part5, pb]; dsimp only
  generalize hs : smat kb (normed q n e) = s
  change (k0_part6 (F := F) i a1 h1 a2 h2 a3 h3 a4 h4 a5 h5 a6 h6 a7 h7 a8 h8 _ (scoreOf s) iotaS (gl (scoreOf s)) >>= _) = _
  rw [part6, pb]; dsimp only
  change (k0_part7 (F := F) i a1 h1 a2 h2 a3 h3 a4 h4 a5 h5 a6 h6 a7 h7 a8 h8 s iotaS (git (scoreOf s) 2) (gmx (git (scoreOf s) 2)) >>= _) = _
  rw [part7, pb]; dsimp only
  change (k0_part8 (F := F) i a1 h1 a2 h2 a3 h3 a4 h4 a5 h5 a6 h6 a7 h7 a8 h8 s iotaS (git (scoreOf s) 4) (gmb (git (scoreOf s) 4)) >>= _) = _
  rw [part8, pb]; dsimp only
  change (k0_part9 (F := F) i a1 h1 a2 h2 a3 h3 a4 h4 a5 h5 a6 h6 a7 h7 a8 h8 s iotaS (git (scoreOf s) 6) (geq (git (scoreOf s) 6)) _ >>= _) = _
  rw [part9, pb]; dsimp only
  change (k0_part10 (F := F) i a1 h1 a2 h2 a3 h3 a4 h4 a5 h5 a6 h6 a7 h7 a8 h8 s iotaS (git (scoreOf s) 8) (gsel (git (scoreOf s) 8)) >>= _) = _
  rw [part10, pb]; dsimp only
  change (k0_part11 (F := F) i a1 h1 a2 h2 a3 h3 a4 h4 a5 h5 a6 h6 a7 h7 a8 h8 s iotaS (posOf s 0) (gcol (posOf s 0) s) (posOf s 1) (gcol (posOf s 1) s) (posOf s 2) (gcol (posOf s 2) s) (gcol (posOf s 3) s) (gcol (posOf s 4) s) (gcol (posOf s 5) s) (gcol (posOf s 6) s) (gcol (posOf s 7) s) (gcol (posOf s 8) s) (gcol (posOf s 9) s) (git (scoreOf s) 10) (gsel3 (git (scoreOf s) 10)) >>= _) = _
  rw [part11 _ _ _ _ _ _ _ _ _ _ _ _ _ _ _ _ _ s (git (scoreOf s) 10) (posOf s) rfl rfl, pb]; dsimp only
  change (k0_part12 (F := F) i a1 h1 a2 h2 a3 h3 a4 h4 a5 h5 a6 h6 a7 h7 a8 h8 (posOf s 3) (posOf s 4) (posOf s 5) (posOf s 6) (posOf s 7) (posOf s 8) (posOf s 9) (posOf s 10) (posOf s 11) (ssub (posOf s) s) iotaU (tp3 (posOf s)) >>= _) = _
  rw [part12, pb]; dsimp only
  rw [part13, pb]; dsimp only
  rw [part14, pb]; dsimp only
  rw [part15, pb]; dsimp only
  rw [part16, pb]; dsimp only
  rfl

end Parts

end Cert.Proof.Tc

end
-- ==== Proof.ScTc.lean ====
/-
  The dense part's region: its body run at one grid point, as the five blocks it leaves over the three it reads.
-/
module

public import proofs.«01_k».proof.Proof.Gen.KernelIdeal.Launch
public import proofs.«01_k».proof.Proof.Gen.KernelIdeal.Points
public import proofs.«01_k».proof.Proof.ScTcVal
public import proofs.«01_k».proof.Proof.ScLoops
public import Idealize.ShloMosaic.Lib.Pipeline.FrameBody
public import Idealize.ShloMosaic.Lib.Pipeline.Regions
public import Idealize.ShloMosaic.Lib.VecWindow

@[expose] public section

set_option synthInstance.maxSize 4096

noncomputable section

namespace Cert.Proof.Tc

open Cert.KernelIdeal Cert.KernelIdeal.Gen
open Cert.Proof.Sc (K D UU EP EH 𝒱₀)
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The values of a head -/

def kbOf (k : FVec F S1x2048x64 .f32) : FVec F S2048x64 .f32 := k0_pay9 k
def smOf (k q : FVec F S1x2048x64 .f32) : FVec F S32x2048 .f32 := smat (k0_pay9 k) (normed (k0_pay4 q) (k0_pay10 q) (Scalar.ofBits .f32 0x358637BD#32))
def lgOf (k q : FVec F S1x2048x64 .f32) := glog (kg4 (smOf k q) (k0_pay3 k)) (k0_pay4 q)
def ogOf (k q v : FVec F S1x2048x64 .f32) : FVec F S1x64x2048 .f32 := k0_pay1 (gO (kg4 (smOf k q) (k0_pay5 v)) (lgOf k q))
def mzOf (k q : FVec F S1x2048x64 .f32) : FVec F S1x2x2048 .f32 := k0_pay2 (gM (lgOf k q)) (gZ (lgOf k q))

section Run
variable (i : grid0.Coords) (a1 : Memref sig .tc .vmem S1x2048x64 .f32) (h1 : a1.IsWhole) (a2 : Memref sig .tc .vmem S1x2048x64 .f32) (h2 : a2.IsWhole) (a3 : Memref sig .tc .vmem S1x2048x64 .f32) (h3 : a3.IsWhole) (a4 : Memref sig .tc .vmem S1x64x2048 .f32) (h4 : a4.IsWhole) (a5 : Memref sig .tc .vmem S1x2x2048 .f32) (h5 : a5.IsWhole) (a6 : Memref sig .tc .vmem S1x64x2048 .f32) (h6 : a6.IsWhole) (a7 : Memref sig .tc .vmem S1x64x2048 .f32) (h7 : a7.IsWhole) (a8 : Memref sig .tc .vmem S1x64x2048 .f32) (h8 : a8.IsWhole)

/-- The body run: what it leaves in the five output buffers, with the proof that it does. -/
noncomputable def tcRun (c : Dev nD) (f1 : Bf (F := F) c a1) (f2 : Bf (F := F) c a2) (f3 : Bf (F := F) c a3) :
    Σ' (W4 : Bf (F := F) c a4) (W5 : Bf (F := F) c a5) (W6 : Bf (F := F) c a6) (W7 : Bf (F := F) c a7),
    { W8 : Bf (F := F) c a8 // ∀ (f4 : Bf (F := F) c a4) (f5 : Bf (F := F) c a5) (f6 : Bf (F := F) c a6) (f7 : Bf (F := F) c a7) (f8 : Bf (F := F) c a8) (E : Set ℕ) (Q : PUnit → sProp 𝕄),
        iprop(pt c a1 f1 ∗ pt c a2 f2 ∗ pt c a3 f3 ∗ pt c a4 f4 ∗ pt c a5 f5 ∗ pt c a6 f6 ∗ pt c a7 f7 ∗ pt c a8 f8
            ∗ (iprop(pt c a1 f1 ∗ pt c a2 f2 ∗ pt c a3 f3 ∗ pt c a4 W4 ∗ pt c a5 W5 ∗ pt c a6 W6 ∗ pt c a7 W7 ∗ pt c a8 W8) -∗ Q ⟨⟩))
          ⊢ wp frame (wpE (defs₀ (F := F)) Variants.none c none) E (cc0__globals_tc_body (F := F) i a1 h1 a2 h2 a3 h3 a4 h4 a5 h5 a6 h6 a7 h7 a8 h8) Q } := by
  refine ⟨?_, ?_, ?_, ?_, ?_, fun f4 f5 f6 f7 f8 E Q => ?run⟩
  case run =>
    rw [body_eq, k0_part1_eq_skeleton]
    unfold k0_part1_skel stores
    iintro ⟨H1, H2, H3, H4, H5, H6, H7, H8, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem tcRun_8 (c : Dev nD) (f1 : Bf (F := F) c a1) (f2 : Bf (F := F) c a2) (f3 : Bf (F := F) c a3) :
    a8.view.read (Elt F) (tcRun i a1 h1 a2 h2 a3 h3 a4 h4 a5 h5 a6 h6 a7 h7 a8 h8 c f1 f2 f3).2.2.2.2.1 = k0_pay8 (a3.view.read (Elt F) f3) := by
  dsimp only [tcRun, tcRun.sl.H8_1]
  refine (View.read_writes_full _ _ _ _ _).trans ?_
  have ea3 : a3.view.readAt (Elt F) (Rect.unit (s := S1x2048x64) ![0, 0, 0] ![1, 2048, 64] inb_S1x2048x64_S1x2048x64_0_0_0).toLoadRect f3 = a3.view.read (Elt F) f3 := a3.view.readAt_full f3 inb_S1x2048x64_S1x2048x64_0_0_0
  rw [ea3]

theorem tcRun_7 (c : Dev nD) (f1 : Bf (F := F) c a1) (f2 : Bf (F := F) c a2) (f3 : Bf (F := F) c a3) :
    a7.view.read (Elt F) (tcRun i a1 h1 a2 h2 a3 h3 a4 h4 a5 h5 a6 h6 a7 h7 a8 h8 c f1 f2 f3).2.2.2.1 = k0_pay7 (a1.view.read (Elt F) f1) := by
  dsimp only [tcRun, tcRun.sl.H7_1]
  refine (View.read_writes_full _ _ _ _ _).trans ?_
  have ea1 : a1.view.readAt (Elt F) (Rect.unit (s := S1x2048x64) ![0, 0, 0] ![1, 2048, 64] inb_S1x2048x64_S1x2048x64_0_0_0).toLoadRect f1 = a1.view.read (Elt F) f1 := a1.view.readAt_full f1 inb_S1x2048x64_S1x2048x64_0_0_0
  rw [ea1]

theorem tcRun_6 (c : Dev nD) (f1 : Bf (F := F) c a1) (f2 : Bf (F := F) c a2) (f3 : Bf (F := F) c a3) :
    a6.view.read (Elt F) (tcRun i a1 h1 a2 h2 a3 h3 a4 h4 a5 h5 a6 h6 a7 h7 a8 h8 c f1 f2 f3).2.2.1 = k0_pay6 (a2.view.read (Elt F) f2) := by
  dsimp only [tcRun, tcRun.sl.H6_1]
  refine (View.read_writes_full _ _ _ _ _).trans ?_
  have ea2 : a2.view.readAt (Elt F) (Rect.unit (s := S1x2048x64) ![0, 0, 0] ![1, 2048, 64] inb_S1x2048x64_S1x2048x64_0_0_0).toLoadRect f2 = a2.view.read (Elt F) f2 := a2.view.readAt_full f2 inb_S1x2048x64_S1x2048x64_0_0_0
  rw [ea2]

theorem tcRun_5 (c : Dev nD) (f1 : Bf (F := F) c a1) (f2 : Bf (F := F) c a2) (f3 : Bf (F := F) c a3) :
    a5.view.read (Elt F) (tcRun i a1 h1 a2 h2 a3 h3 a4 h4 a5 h5 a6 h6 a7 h7 a8 h8 c f1 f2 f3).2.1 = mzOf (a1.view.read (Elt F) f1) (a2.view.read (Elt F) f2) := by
  dsimp only [tcRun, tcRun.sl.H5_1]
  refine (View.read_writes_full _ _ _ _ _).trans ?_
  dsimp only [tcRun.sl.l, tcRun.sl.s]
  have ea1 : a1.view.readAt (Elt F) (Rect.unit (s := S1x2048x64) ![0, 0, 0] ![1, 2048, 64] inb_S1x2048x64_S1x2048x64_0_0_0).toLoadRect f1 = a1.view.read (Elt F) f1 := a1.view.readAt_full f1 inb_S1x2048x64_S1x2048x64_0_0_0
  have ea2 : a2.view.readAt (Elt F) (Rect.unit (s := S1x2048x64) ![0, 0, 0] ![1, 2048, 64] inb_S1x2048x64_S1x2048x64_0_0_0).toLoadRect f2 = a2.view.read (Elt F) f2 := a2.view.readAt_full f2 inb_S1x2048x64_S1x2048x64_0_0_0
  rw [ea1, ea2]
  rfl

theorem tcRun_4 (c : Dev nD) (f1 : Bf (F := F) c a1) (f2 : Bf (F := F) c a2) (f3 : Bf (F := F) c a3) :
    a4.view.read (Elt F) (tcRun i a1 h1 a2 h2 a3 h3 a4 h4 a5 h5 a6 h6 a7 h7 a8 h8 c f1 f2 f3).1 = ogOf (a1.view.read (Elt F) f1) (a2.view.read (Elt F) f2) (a3.view.read (Elt F) f3) := by
  dsimp only [tcRun, tcRun.sl.H4_1]
  refine (View.read_writes_full _ _ _ _ _).trans ?_
  dsimp only [tcRun.sl.l, tcRun.sl.s]
  have ea1 : a1.view.readAt (Elt F) (Rect.unit (s := S1x2048x64) ![0, 0, 0] ![1, 2048, 64] inb_S1x2048x64_S1x2048x64_0_0_0).toLoadRect f1 = a1.view.read (Elt F) f1 := a1.view.readAt_full f1 inb_S1x2048x64_S1x2048x64_0_0_0
  have ea2 : a2.view.readAt (Elt F) (Rect.unit (s := S1x2048x64) ![0, 0, 0] ![1, 2048, 64] inb_S1x2048x64_S1x2048x64_0_0_0).toLoadRect f2 = a2.view.read (Elt F) f2 := a2.view.readAt_full f2 inb_S1x2048x64_S1x2048x64_0_0_0
  have ea3 : a3.view.readAt (Elt F) (Rect.unit (s := S1x2048x64) ![0, 0, 0] ![1, 2048, 64] inb_S1x2048x64_S1x2048x64_0_0_0).toLoadRect f3 = a3.view.read (Elt F) f3 := a3.view.readAt_full f3 inb_S1x2048x64_S1x2048x64_0_0_0
  rw [ea1, ea2, ea3]
  rfl

set_option maxHeartbeats 4000000 in
/-- The body over the eight windows' buffers, each held at what it reads. -/
theorem body_owns (c : Dev nD) (X1 X2 X3 : FVec F S1x2048x64 .f32) (X4 : FVec F S1x64x2048 .f32) (X5 : FVec F S1x2x2048 .f32) (X6 X7 X8 : FVec F S1x64x2048 .f32)
    (E : Set ℕ) (Q : PUnit → sProp 𝕄) :
    iprop(owns (c : Thread nD τ) a1 fullShare X1 ∗ owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare X6 ∗ owns (c : Thread nD τ) a7 fullShare X7 ∗ owns (c : Thread nD τ) a8 fullShare X8
        ∗ (iprop(owns (c : Thread nD τ) a1 fullShare X1 ∗ owns (c : Thread nD τ) a2 fullShare X2 ∗ owns (c : Thread nD τ) a3 fullShare X3 ∗ owns (c : Thread nD τ) a4 fullShare (ogOf X1 X2 X3)
          ∗ owns (c : Thread nD τ) a5 fullShare (mzOf X1 X2) ∗ owns (c : Thread nD τ) a6 fullShare (k0_pay6 X2) ∗ owns (c : Thread nD τ) a7 fullShare (k0_pay7 X1) ∗ owns (c : Thread nD τ) a8 fullShare (k0_pay8 X3)) -∗ Q ⟨⟩))
      ⊢ wp frame (wpE (defs₀ (F := F)) Variants.none c none) E (cc0__globals_tc_body (F := F) i a1 h1 a2 h2 a3 h3 a4 h4 a5 h5 a6 h6 a7 h7 a8 h8) Q := by
  unfold owns
  rw [h1.set_eq_univ, h2.set_eq_univ, h3.set_eq_univ, h4.set_eq_univ, h5.set_eq_univ, h6.set_eq_univ, h7.set_eq_univ, h8.set_eq_univ]
  iintro ⟨⟨%f1, %e1, H1⟩, ⟨%f2, %e2, H2⟩, ⟨%f3, %e3, H3⟩, ⟨%f4, -, H4⟩, ⟨%f5, -, H5⟩, ⟨%f6, -, H6⟩, ⟨%f7, -, H7⟩, ⟨%f8, -, H8⟩, Hk⟩
  have r4 := tcRun_4 i a1 h1 a2 h2 a3 h3 a4 h4 a5 h5 a6 h6 a7 h7 a8 h8 c f1 f2 f3
  have r5 := tcRun_5 i a1 h1 a2 h2 a3 h3 a4 h4 a5 h5 a6 h6 a7 h7 a8 h8 c f1 f2 f3
  have r6 := tcRun_6 i a1 h1 a2 h2 a3 h3 a4 h4 a5 h5 a6 h6 a7 h7 a8 h8 c f1 f2 f3
  have r7 := tcRun_7 i a1 h1 a2 h2 a3 h3 a4 h4 a5 h5 a6 h6 a7 h7 a8 h8 c f1 f2 f3
  have r8 := tcRun_8 i a1 h1 a2 h2 a3 h3 a4 h4 a5 h5 a6 h6 a7 h7 a8 h8 c f1 f2 f3
  rw [e1, e2, e3] at r4; rw [e1, e2] at r5; rw [e2] at r6; rw [e1] at r7; rw [e3] at r8
  revert r4 r5 r6 r7 r8
  generalize tcRun i a1 h1 a2 h2 a3 h3 a4 h4 a5 h5 a6 h6 a7 h7 a8 h8 c f1 f2 f3 = r
  obtain ⟨W4, W5, W6, W7, W8, hr⟩ := r
  intro r4 r5 r6 r7 r8
  iapply (hr f4 f5 f6 f7 f8 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists W4; isplitr; swap; (· iexact H4); ipureintro; exact r4
  isplitl [H5]; · iexists W5; isplitr; swap; (· iexact H5); ipureintro; exact r5
  isplitl [H6]; · iexists W6; isplitr; swap; (· iexact H6); ipureintro; exact r6
  isplitl [H7]; · iexists W7; isplitr; swap; (· iexact H7); ipureintro; exact r7
  iexists W8; isplitr; swap; (· iexact H8); ipureintro; exact r8

end Run

end Cert.Proof.Tc

end
-- ==== Proof.ScTcReg.lean ====
/-
  The dense part's region as the launch takes it: the proof data of its sixteen points, the body obligation, the region's
  record over the buffers of a valuation.
-/
module

public import proofs.«01_k».proof.Proof.ScTc
public import Idealize.ShloMosaic.Lib.Pipeline.RegionsLoop

@[expose] public section

set_option synthInstance.maxSize 4096

noncomputable section

namespace Cert.Proof.Tc

open Cert.KernelIdeal Cert.KernelIdeal.Gen
open Cert.Proof.Sc (K D UU EP EH 𝒱₀)
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The block of an array at a point. -/
def bk (c : Dev nD) (t : Fin cfg0.N) : FVec F S1x2048x64 .f32 := ((cfg0.win 0).blk t).view.read (Elt F) (V c main_v1)
def bq (c : Dev nD) (t : Fin cfg0.N) : FVec F S1x2048x64 .f32 := ((cfg0.win 1).blk t).view.read (Elt F) (V c main_v0)
def bv (c : Dev nD) (t : Fin cfg0.N) : FVec F S1x2048x64 .f32 := ((cfg0.win 2).blk t).view.read (Elt F) (V c main_v2)

abbrev Φc (c : Dev nD) : sProp 𝕄 := Pipeline.scopedRest (Ix := HIx 1) (Name := ℕ) (U := UU) (Lvl := ℕ) (Val := Elt F) spec0 c

/-- The proof data: the arrays at the valuation, the outputs the body's values of the three blocks. -/
def dat (c : Dev nD) : Dat τ (Elt F) (HIx 1) ℕ UU ℕ cfg0 c where
  A w := V c (Pipeline.arrRef spec0 w)
  after w t := match w with
    | ⟨0, _⟩ => bk V c t
    | ⟨1, _⟩ => bq V c t
    | ⟨2, _⟩ => bv V c t
    | ⟨3, _⟩ => ogOf (bk V c t) (bq V c t) (bv V c t)
    | ⟨4, _⟩ => mzOf (bk V c t) (bq V c t)
    | ⟨5, _⟩ => k0_pay6 (bq V c t)
    | ⟨6, _⟩ => k0_pay7 (bk V c t)
    | ⟨7, _⟩ => k0_pay8 (bv V c t)
  Φ _ := Φc c
  q _ := fullShare
  owed _ := (K (F := F)).Otc c 0
  recorded _ := {p | (K (F := F)).lev (SparseCore.T c, p.1) p.2 ≤ 0}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before_k (c : Dev nD) (t : Fin cfg0.N) (d) : (dat V c).before 0 t d = bk V c t :=
  (dat V c).before_in_eq_fetched 0 rfl (fun _ => rfl) (fun _ _ _ => rfl) (fun _ => rfl) t d
theorem before_q (c : Dev nD) (t : Fin cfg0.N) (d) : (dat V c).before 1 t d = bq V c t :=
  (dat V c).before_in_eq_fetched 1 rfl (fun _ => rfl) (fun _ _ _ => rfl) (fun _ => rfl) t d
theorem before_v (c : Dev nD) (t : Fin cfg0.N) (d) : (dat V c).before 2 t d = bv V c t :=
  (dat V c).before_in_eq_fetched 2 rfl (fun _ => rfl) (fun _ _ _ => rfl) (fun _ => rfl) t d

theorem defs₀_row (t : Fin cfg0.N) : defs₀ (F := F) .tc cfg0.body (cfg0.bodyArgs t (cfg0.slots t)) = bodyAt0 t := by
  unfold defs₀; rfl

theorem body_obligation (c : Dev nD) : BodyObligation (dat V c) (defs₀ (F := F)) 𝒱₀ none Set.univ := fun t => by
  rw [bigSep_W0, bigSep_W0, defs₀_row]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_k, before_q, before_v]
  iapply (body_owns (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) c (bk V c t) (bq V c t) (bv V c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region over the unscoped buffers -/

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- Every owed unit sits on a handshake's index, above the staging waits. -/
theorem otc_pos (c : Dev nD) (g : GSem nD τ sig) (i : HIx 1) (h : 0 < (K (F := F)).Otc c 0 g i) : 0 < (K (F := F)).lev g i := by
  exact lt_of_lt_of_le (Nat.succ_pos _) (SparseCore.Cfg.lev_of_Otc_pos h)

variable (Vp : (c : Dev nD) → (b : Ref sig .tc) → Buf (Elt F) ((c : Thread nD τ).loc b))

set_option backward.isDefEq.respectTransparency.types false in
/-- The region, entered from the unscoped buffers at `V` and left with them at `Vp`. -/
def reg (R : Dev nD → sProp 𝕄) (hout : ∀ c (w : Fin 8), Vp c (Pipeline.arrRef spec0 w) = (dat V c).arrAt w cfg0.N)
    (hne : ∀ c (b : Ref sig .tc), b ∉ Finset.univ.image (Pipeline.arrRef spec0) → Vp c b = V c b) :
    Pipeline.RegionSeg (pcfgs (F := F)) adm (pdats V adm) none defs₀ 𝒱₀ ((K (F := F)).L) ((K (F := F)).lev) 0 where
  win := winFacts0.to₀
  block_pos := block_pos0
  stage_whole := stage_whole0
  K := PEmpty
  osem k := k.elim
  ho := Pipeline.OwnSemFacts.none _
  hbody c := (body_obligation V c).loose
  hwaits c := Pipeline.cellsWaits_of_cut (Pipeline.pin (pcfgs (F := F)) adm) (pdats V adm) none 0 c 0 ((K (F := F)).Otc c 0) (fun _ => rfl)
    (fun _ _ => Finset.mem_univ _) (fun _ _ => le_refl 0) (fun g i h => ⟨Finset.mem_univ _, otc_pos c g i h⟩)
  pre c := iprop(unscopedBufs c (V c) ∗ R c ∗ ∃ W, ⌜(K (F := F)).WBelow (SparseCore.T c) W 0⌝ ∗ owes (c : Thread nD τ) ((K (F := F)).Otc c 0) W)
  post c := iprop(unscopedBufs c (Vp c) ∗ R c ∗ ∃ W, ⌜(K (F := F)).WBelow (SparseCore.T c) W 0⌝ ∗ owes (c : Thread nD τ) ((K (F := F)).Otc c 0) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) winFacts0 arr_whole0 c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts0 arr_whole0 c
      (pdats V adm) ((pdats V adm 0 c).share_full fun _ => rfl) (V c) (Vp c) ((pdats V adm 0 c).arrAt · cfg0.N)
      (fun w => (hout c w).symm) (fun b hb => hne c b hb)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; intro p hp
      rcases hW hp with h | h
      · exact h
      · obtain ⟨w, s, rfl⟩ := h
        exact le_refl 0
    iexact HO

end Cert.Proof.Tc

end
-- ==== Proof.ScLaunch.lean ====
module

public import proofs.«01_k».proof.Defs
public import proofs.«01_k».proof.Proof.ScMain
public import proofs.«01_k».proof.Proof.ScTcReg

@[expose] public section

set_option synthInstance.maxSize 4096

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Idealize.ShloMosaic.StableHlo (held held_sub_split held_congr seq wp_seq after launchContents tcRefs devRef_mem_tcRefs after_nil after_cons)

abbrev ops1 : List (HloOp τ sig (Elt F)) :=
  [ StableHlo.reshape main_v3_2 main_v4 (rfl : (.f32 : EltTy) = .f32) shapeCasts_S16x64x2048_S16x64x8x256,
    StableHlo.unary main_v4 main_v5 ((transpose S16x8x64x256 [0, 2, 1, 3] · transposes_S16x64x8x256_S16x8x64x256_0_2_1_3) : (⟨S16x64x8x256, .f32⟩ : BufTy).Contents (Elt F) → (⟨S16x8x64x256, .f32⟩ : BufTy).Contents (Elt F)),
    StableHlo.unary main_v3_3 main_v6 ((extractStridedSlice S16x64x272 ![0, 0, 0] · slices_S16x64x2048_S16x64x272_0_0_0) : (⟨S16x64x2048, .f32⟩ : BufTy).Contents (Elt F) → (⟨S16x64x272, .f32⟩ : BufTy).Contents (Elt F)),
    StableHlo.unary main_v3_3 main_v7 ((extractStridedSlice S16x64x272 ![0, 0, 248] · slices_S16x64x2048_S16x64x272_0_0_248) : (⟨S16x64x2048, .f32⟩ : BufTy).Contents (Elt F) → (⟨S16x64x272, .f32⟩ : BufTy).Contents (Elt F)),
    StableHlo.unary main_v3_3 main_v8 ((extractStridedSlice S16x64x272 ![0, 0, 504] · slices_S16x64x2048_S16x64x272_0_0_504) : (⟨S16x64x2048, .f32⟩ : BufTy).Contents (Elt F) → (⟨S16x64x272, .f32⟩ : BufTy).Contents (Elt F)),
    StableHlo.unary main_v3_3 main_v9 ((extractStridedSlice S16x64x272 ![0, 0, 760] · slices_S16x64x2048_S16x64x272_0_0_760) : (⟨S16x64x2048, .f32⟩ : BufTy).Contents (Elt F) → (⟨S16x64x272, .f32⟩ : BufTy).Contents (Elt F)),
    StableHlo.unary main_v3_3 main_v10 ((extractStridedSlice S16x64x272 ![0, 0, 1016] · slices_S16x64x2048_S16x64x272_0_0_1016) : (⟨S16x64x2048, .f32⟩ : BufTy).Contents (Elt F) → (⟨S16x64x272, .f32⟩ : BufTy).Contents (Elt F)),
    StableHlo.unary main_v3_3 main_v11 ((extractStridedSlice S16x64x272 ![0, 0, 1272] · slices_S16x64x2048_S16x64x272_0_0_1272) : (⟨S16x64x2048, .f32⟩ : BufTy).Contents (Elt F) → (⟨S16x64x272, .f32⟩ : BufTy).Contents (Elt F)),
    StableHlo.unary main_v3_3 main_v12 ((extractStridedSlice S16x64x272 ![0, 0, 1528] · slices_S16x64x2048_S16x64x272_0_0_1528) : (⟨S16x64x2048, .f32⟩ : BufTy).Contents (Elt F) → (⟨S16x64x272, .f32⟩ : BufTy).Contents (Elt F)),
    StableHlo.unary main_v3_3 main_v13 ((extractStridedSlice S16x64x272 ![0, 0, 1776] · slices_S16x64x2048_S16x64x272_0_0_1776) : (⟨S16x64x2048, .f32⟩ : BufTy).Contents (Elt F) → (⟨S16x64x272, .f32⟩ : BufTy).Contents (Elt F)),
    StableHlo.unary main_v6 main_v14 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v7 main_v15 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v8 main_v16 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v9 main_v17 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v10 main_v18 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v11 main_v19 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v12 main_v20 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v13 main_v21 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.nary ![main_v14, main_v15, main_v16, main_v17, main_v18, main_v19, main_v20, main_v21] main_v22 (fun u => (concatenate S16x8x64x272 1 [⟨S16x1x64x272, (u 0 : (⟨S16x1x64x272, .f32⟩ : BufTy).Contents (Elt F))⟩, ⟨S16x1x64x272, (u 1 : (⟨S16x1x64x272, .f32⟩ : BufTy).Contents (Elt F))⟩, ⟨S16x1x64x272, (u 2 : (⟨S16x1x64x272, .f32⟩ : BufTy).Contents (Elt F))⟩, ⟨S16x1x64x272, (u 3 : (⟨S16x1x64x272, .f32⟩ : BufTy).Contents (Elt F))⟩, ⟨S16x1x64x272, (u 4 : (⟨S16x1x64x272, .f32⟩ : BufTy).Contents (Elt F))⟩, ⟨S16x1x64x272, (u 5 : (⟨S16x1x64x272, .f32⟩ : BufTy).Contents (Elt F))⟩, ⟨S16x1x64x272, (u 6 : (⟨S16x1x64x272, .f32⟩ : BufTy).Contents (Elt F))⟩, ⟨S16x1x64x272, (u 7 : (⟨S16x1x64x272, .f32⟩ : BufTy).Contents (Elt F))⟩] concatenates_S16x1x64x272_S16x1x64x272_S16x1x64x272_S16x1x64x272_S16x1x64x272_S16x1x64x272_S16x1x64x272_S16x1x64x272_S16x8x64x272_d1 : (⟨S16x8x64x272, .f32⟩ : BufTy).Contents (Elt F))),
    StableHlo.reshape main_v22 main_v23 (rfl : (.f32 : EltTy) = .f32) shapeCasts_S16x8x64x272_S16x8x17408,
    StableHlo.unary main_v3_4 main_v24 ((extractStridedSlice S16x64x272 ![0, 0, 0] · slices_S16x64x2048_S16x64x272_0_0_0) : (⟨S16x64x2048, .f32⟩ : BufTy).Contents (Elt F) → (⟨S16x64x272, .f32⟩ : BufTy).Contents (Elt F)),
    StableHlo.unary main_v3_4 main_v25 ((extractStridedSlice S16x64x272 ![0, 0, 248] · slices_S16x64x2048_S16x64x272_0_0_248) : (⟨S16x64x2048, .f32⟩ : BufTy).Contents (Elt F) → (⟨S16x64x272, .f32⟩ : BufTy).Contents (Elt F)),
    StableHlo.unary main_v3_4 main_v26 ((extractStridedSlice S16x64x272 ![0, 0, 504] · slices_S16x64x2048_S16x64x272_0_0_504) : (⟨S16x64x2048, .f32⟩ : BufTy).Contents (Elt F) → (⟨S16x64x272, .f32⟩ : BufTy).Contents (Elt F)),
    StableHlo.unary main_v3_4 main_v27 ((extractStridedSlice S16x64x272 ![0, 0, 760] · slices_S16x64x2048_S16x64x272_0_0_760) : (⟨S16x64x2048, .f32⟩ : BufTy).Contents (Elt F) → (⟨S16x64x272, .f32⟩ : BufTy).Contents (Elt F)),
    StableHlo.unary main_v3_4 main_v28 ((extractStridedSlice S16x64x272 ![0, 0, 1016] · slices_S16x64x2048_S16x64x272_0_0_1016) : (⟨S16x64x2048, .f32⟩ : BufTy).Contents (Elt F) → (⟨S16x64x272, .f32⟩ : BufTy).Contents (Elt F)),
    StableHlo.unary main_v3_4 main_v29 ((extractStridedSlice S16x64x272 ![0, 0, 1272] · slices_S16x64x2048_S16x64x272_0_0_1272) : (⟨S16x64x2048, .f32⟩ : BufTy).Contents (Elt F) → (⟨S16x64x272, .f32⟩ : BufTy).Contents (Elt F)),
    StableHlo.unary main_v3_4 main_v30 ((extractStridedSlice S16x64x272 ![0, 0, 1528] · slices_S16x64x2048_S16x64x272_0_0_1528) : (⟨S16x64x2048, .f32⟩ : BufTy).Contents (Elt F) → (⟨S16x64x272, .f32⟩ : BufTy).Contents (Elt F)),
    StableHlo.unary main_v3_4 main_v31 ((extractStridedSlice S16x64x272 ![0, 0, 1776] · slices_S16x64x2048_S16x64x272_0_0_1776) : (⟨S16x64x2048, .f32⟩ : BufTy).Contents (Elt F) → (⟨S16x64x272, .f32⟩ : BufTy).Contents (Elt F)),
    StableHlo.unary main_v24 main_v32 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v25 main_v33 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v26 main_v34 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v27 main_v35 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v28 main_v36 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v29 main_v37 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v30 main_v38 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.unary main_v31 main_v39 (broadcastInDim S16x1x64x272 ![0, 2, 3] bcast_S16x64x272_S16x1x64x272_0_2_3 : (⟨S16x64x272, .f32⟩ : BufTy).Contents (Elt F) → (⟨S16x1x64x272, .f32⟩ : BufTy).Contents (Elt F)),
    StableHlo.nary ![main_v32, main_v33, main_v34, main_v35, main_v36, main_v37, main_v38, main_v39] main_v40 (fun u => (concatenate S16x8x64x272 1 [⟨S16x1x64x272, (u 0 : (⟨S16x1x64x272, .f32⟩ : BufTy).Contents (Elt F))⟩, ⟨S16x1x64x272, (u 1 : (⟨S16x1x64x272, .f32⟩ : BufTy).Contents (Elt F))⟩, ⟨S16x1x64x272, (u 2 : (⟨S16x1x64x272, .f32⟩ : BufTy).Contents (Elt F))⟩, ⟨S16x1x64x272, (u 3 : (⟨S16x1x64x272, .f32⟩ : BufTy).Contents (Elt F))⟩, ⟨S16x1x64x272, (u 4 : (⟨S16x1x64x272, .f32⟩ : BufTy).Contents (Elt F))⟩, ⟨S16x1x64x272, (u 5 : (⟨S16x1x64x272, .f32⟩ : BufTy).Contents (Elt F))⟩, ⟨S16x1x64x272, (u 6 : (⟨S16x1x64x272, .f32⟩ : BufTy).Contents (Elt F))⟩, ⟨S16x1x64x272, (u 7 : (⟨S16x1x64x272, .f32⟩ : BufTy).Contents (Elt F))⟩] concatenates_S16x1x64x272_S16x1x64x272_S16x1x64x272_S16x1x64x272_S16x1x64x272_S16x1x64x272_S16x1x64x272_S16x1x64x272_S16x8x64x272_d1 : (⟨S16x8x64x272, .f32⟩ : BufTy).Contents (Elt F))),
    StableHlo.reshape main_v40 main_v41 (rfl : (.f32 : EltTy) = .f32) shapeCasts_S16x8x64x272_S16x8x17408,
    StableHlo.reshape main_v3_0 main_v42 (rfl : (.f32 : EltTy) = .f32) shapeCasts_S16x64x2048_S16x64x8x256,
    StableHlo.unary main_v42 main_v43 ((transpose S16x8x64x256 [0, 2, 1, 3] · transposes_S16x64x8x256_S16x8x64x256_0_2_1_3) : (⟨S16x64x8x256, .f32⟩ : BufTy).Contents (Elt F) → (⟨S16x8x64x256, .f32⟩ : BufTy).Contents (Elt F)),
    StableHlo.reshape main_v3_1 main_v44 (rfl : (.f32 : EltTy) = .f32) shapeCasts_S16x2x2048_S16x2x8x256,
    StableHlo.unary main_v44 main_v45 ((transpose S16x8x2x256 [0, 2, 1, 3] · transposes_S16x2x8x256_S16x8x2x256_0_2_1_3) : (⟨S16x2x8x256, .f32⟩ : BufTy).Contents (Elt F) → (⟨S16x8x2x256, .f32⟩ : BufTy).Contents (Elt F)) ]

theorem ops1_sub : (ops1 : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.reshape_bufs_sub .., StableHlo.unary_bufs_sub .., StableHlo.reshape_bufs_sub .., StableHlo.unary_bufs_sub ..⟩

theorem ops1_fresh : ∀ op ∈ (ops1 : List (HloOp τ sig (Elt F))), op.fresh = ∅ := by
  intro _ h; (repeat (cases h with | head => rfl | tail _ h => ?_)); exact nomatch h

abbrev ops2 : List (HloOp τ sig (Elt F)) :=
  [ StableHlo.unary main_v46 main_v47 ((transpose S16x64x8x256 [0, 2, 1, 3] · transposes_S16x8x64x256_S16x64x8x256_0_2_1_3) : (⟨S16x8x64x256, .f32⟩ : BufTy).Contents (Elt F) → (⟨S16x64x8x256, .f32⟩ : BufTy).Contents (Elt F)),
    StableHlo.reshape main_v47 main_v48 (rfl : (.f32 : EltTy) = .f32) shapeCasts_S16x64x8x256_S16x64x2048,
    StableHlo.unary main_v48 main_v49 ((transpose S16x2048x64 [0, 2, 1] · transposes_S16x64x2048_S16x2048x64_0_2_1) : (⟨S16x64x2048, .f32⟩ : BufTy).Contents (Elt F) → (⟨S16x2048x64, .f32⟩ : BufTy).Contents (Elt F)),
    StableHlo.unary main_v49 main_v50 (broadcastInDim S1x16x2048x64 ![1, 2, 3] bcast_S16x2048x64_S1x16x2048x64_1_2_3 : (⟨S16x2048x64, .f32⟩ : BufTy).Contents (Elt F) → (⟨S1x16x2048x64, .f32⟩ : BufTy).Contents (Elt F)) ]

theorem ops2_sub : (ops2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub ..⟩

theorem ops2_fresh : ∀ op ∈ (ops2 : List (HloOp τ sig (Elt F))), op.fresh = ∅ := by
  intro _ h; (repeat (cases h with | head => rfl | tail _ h => ?_)); exact nomatch h

abbrev ops0 : List (HloOp τ sig (Elt F)) :=
  [ StableHlo.reshape main_arg0 main_v0 (rfl : (.f32 : EltTy) = .f32) shapeCasts_S1x16x2048x64_S16x2048x64,
    StableHlo.reshape main_arg1 main_v1 (rfl : (.f32 : EltTy) = .f32) shapeCasts_S1x16x2048x64_S16x2048x64,
    StableHlo.reshape main_arg2 main_v2 (rfl : (.f32 : EltTy) = .f32) shapeCasts_S1x16x2048x64_S16x2048x64 ]

theorem ops0_sub : (ops0 : List (HloOp τ sig (Elt F))).Forall fun op => op.bufs ⊆ StableHlo.tcRefs τ sig :=
  ⟨StableHlo.reshape_bufs_sub .., StableHlo.reshape_bufs_sub .., StableHlo.reshape_bufs_sub ..⟩

theorem ops0_fresh : ∀ op ∈ (ops0 : List (HloOp τ sig (Elt F))), op.fresh = ∅ := by
  intro _ h; (repeat (cases h with | head => rfl | tail _ h => ?_)); exact nomatch h

/-- An operation of the host over the TensorCore's references is over its unscoped ones. -/
theorem sub_uc {op : HloOp τ sig (Elt F)} (h : op.bufs ⊆ StableHlo.tcRefs τ sig) : op.bufs ⊆ Tc.ucRefs :=
  fun b hb => Finset.mem_filter.mpr ⟨h hb, by rw [op.no_scoped b hb]; exact Bool.false_ne_true⟩

theorem main_eq (d : Dev nD) : main (F := F) d = (seq ops0 >>= fun _ => (SparseCore.liftProg (.op (.customCall (Pipeline.entry 0) ()) .ret) >>= fun _ =>
    (seq ops1 >>= fun _ => (sc.run d 0 >>= fun _ => seq ops2)))) := rfl

variable (m : (ℓ : Loc nD τ sig) → Buf (Elt F) ℓ) (ρ : Dev nD → PrngReg)

abbrev rf (b : Ref sig .tc) : DevRef τ sig := Proc.devRef .tc b

theorem rf_inj {a b : Ref sig .tc} (h : rf a = rf b) : a = b := Proc.devRef_injective _ h

/-- The TensorCore's buffers before the dense part. -/
def V0 (d : Dev nD) : Valuation τ sig (Elt F) := after ops0 (launchContents m d)

/-- The dense part's arrays, after it. -/
def arrF (d : Dev nD) (w : Fin 8) := (Tc.dat (fun c b => V0 m c (rf b)) d).arrAt w cfg0.N

/-- The TensorCore's buffers after the dense part. -/
def VT (d : Dev nD) : Valuation τ sig (Elt F) :=
  Function.update (Function.update (Function.update (Function.update (Function.update (V0 m d) (rf main_v3_0) (arrF m d 3)) (rf main_v3_1) (arrF m d 4))
    (rf main_v3_2) (arrF m d 5)) (rf main_v3_3) (arrF m d 6)) (rf main_v3_4) (arrF m d 7)

theorem VT_4 (d : Dev nD) : VT m d (rf main_v3_4) = arrF m d 7 := Function.update_self _ _ _
theorem VT_3 (d : Dev nD) : VT m d (rf main_v3_3) = arrF m d 6 :=
  (Function.update_of_ne (by decide) _ _).trans (Function.update_self _ _ _)
theorem VT_2 (d : Dev nD) : VT m d (rf main_v3_2) = arrF m d 5 :=
  (Function.update_of_ne (by decide) _ _).trans ((Function.update_of_ne (by decide) _ _).trans (Function.update_self _ _ _))
theorem VT_1 (d : Dev nD) : VT m d (rf main_v3_1) = arrF m d 4 :=
  (Function.update_of_ne (by decide) _ _).trans ((Function.update_of_ne (by decide) _ _).trans ((Function.update_of_ne (by decide) _ _).trans (Function.update_self _ _ _)))
theorem VT_0 (d : Dev nD) : VT m d (rf main_v3_0) = arrF m d 3 :=
  (Function.update_of_ne (by decide) _ _).trans ((Function.update_of_ne (by decide) _ _).trans ((Function.update_of_ne (by decide) _ _).trans ((Function.update_of_ne (by decide) _ _).trans (Function.update_self _ _ _))))
theorem VT_of_ne (d : Dev nD) (b : DevRef τ sig) (h0 : b ≠ rf main_v3_0) (h1 : b ≠ rf main_v3_1) (h2 : b ≠ rf main_v3_2) (h3 : b ≠ rf main_v3_3) (h4 : b ≠ rf main_v3_4) :
    VT m d b = V0 m d b :=
  (Function.update_of_ne h4 _ _).trans ((Function.update_of_ne h3 _ _).trans ((Function.update_of_ne h2 _ _).trans ((Function.update_of_ne h1 _ _).trans (Function.update_of_ne h0 _ _))))

theorem region_out (d : Dev nD) (w : Fin 8) : VT m d (rf (Pipeline.arrRef spec0 w)) = (Tc.dat (fun c b => V0 m c (rf b)) d).arrAt w cfg0.N := by
  match w with
  | 0 => exact (VT_of_ne m d (rf main_v1) (by decide) (by decide) (by decide) (by decide) (by decide)).trans ((Tc.dat (fun c b => V0 m c (rf b)) d).arrAt_in 0 rfl _).symm
  | 1 => exact (VT_of_ne m d (rf main_v0) (by decide) (by decide) (by decide) (by decide) (by decide)).trans ((Tc.dat (fun c b => V0 m c (rf b)) d).arrAt_in 1 rfl _).symm
  | 2 => exact (VT_of_ne m d (rf main_v2) (by decide) (by decide) (by decide) (by decide) (by decide)).trans ((Tc.dat (fun c b => V0 m c (rf b)) d).arrAt_in 2 rfl _).symm
  | 3 => exact VT_0 m d
  | 4 => exact VT_1 m d
  | 5 => exact VT_2 m d
  | 6 => exact VT_3 m d
  | 7 => exact VT_4 m d

theorem region_ne (d : Dev nD) (b : Ref sig .tc) (h : b ∉ Finset.univ.image (Pipeline.arrRef spec0)) : VT m d (rf b) = V0 m d (rf b) := by
  have hw : ∀ w : Fin 8, rf b ≠ rf (Pipeline.arrRef spec0 w) := fun w e => h (Finset.mem_image.mpr ⟨w, Finset.mem_univ _, (rf_inj e).symm⟩)
  exact VT_of_ne m d (rf b) (hw 3) (hw 4) (hw 5) (hw 6) (hw 7)

def RG : Pipeline.RegionSeg (pcfgs (F := F)) (adm (F := F)) (Tc.pdats (fun c b => V0 m c (rf b)) (adm (F := F))) none defs₀ 𝒱₀ ((K (F := F)).L) ((K (F := F)).lev) 0 :=
  Tc.reg (fun c b => V0 m c (rf b)) (adm (F := F)) (fun c b => VT m c (rf b)) (fun _ => iprop(emp)) (region_out m) (region_ne m)

/-- The TensorCore's buffers before the call. -/
def V1 (d : Dev nD) : Valuation τ sig (Elt F) := after ops1 (VT m d)

def qA (d : Dev nD) : Buf (Elt F) ((T d : Thread nD τ).loc main_v5) := V1 m d (rf main_v5)
def kA (d : Dev nD) : Buf (Elt F) ((T d : Thread nD τ).loc main_v23) := V1 m d (rf main_v23)
def vA (d : Dev nD) : Buf (Elt F) ((T d : Thread nD τ).loc main_v41) := V1 m d (rf main_v41)
def gA (d : Dev nD) : Buf (Elt F) ((T d : Thread nD τ).loc main_v43) := V1 m d (rf main_v43)
def mA (d : Dev nD) : Buf (Elt F) ((T d : Thread nD τ).loc main_v45) := V1 m d (rf main_v45)
def o0 (d : Dev nD) : Buf (Elt F) ((T d : Thread nD τ).loc main_v46) := V1 m d (rf main_v46)
def oF (d : Dev nD) : Buf (Elt F) ((T d : Thread nD τ).loc main_v46) := oA (qA m) (kA m) (vA m) (gA m) (mA m) d

/-- And after it. -/
def V2 (d : Dev nD) : Valuation τ sig (Elt F) := Function.update (V1 m d) (rf main_v46) (oF m d)
def V3 (d : Dev nD) : Valuation τ sig (Elt F) := after ops2 (V2 m d)

def S6 : Finset (DevRef τ sig) := {rf main_v5, rf main_v23, rf main_v41, rf main_v43, rf main_v45, rf main_v46}

theorem S6_sub : S6 ⊆ Tc.ucRefs := by
  intro b hb
  simp only [S6, Finset.mem_insert, Finset.mem_singleton] at hb
  rcases hb with rfl | rfl | rfl | rfl | rfl | rfl <;> decide

theorem held_S6 (d : Dev nD) (W : Valuation τ sig (Elt F)) :
    (held (T d) S6 W : sProp 𝕄) = iprop(((T d : Thread nD τ).loc main_v5 ↦{fullShare} W (rf main_v5)) ∗ ((T d : Thread nD τ).loc main_v23 ↦{fullShare} W (rf main_v23))
      ∗ ((T d : Thread nD τ).loc main_v41 ↦{fullShare} W (rf main_v41)) ∗ ((T d : Thread nD τ).loc main_v43 ↦{fullShare} W (rf main_v43))
      ∗ ((T d : Thread nD τ).loc main_v45 ↦{fullShare} W (rf main_v45)) ∗ ((T d : Thread nD τ).loc main_v46 ↦{fullShare} W (rf main_v46))) := by
  unfold held S6
  rw [SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((T d : Thread nD τ).loc b)) : sProp 𝕄) = held (T d) Tc.ucRefs (launchContents m d) :=
  Tc.unscopedBufs_held d (launchContents m d)

theorem V2_o (d : Dev nD) : V2 m d (rf main_v46) = oF m d := Function.update_self _ _ _
theorem V2_of_ne (d : Dev nD) (b : DevRef τ sig) (h : b ≠ rf main_v46) : V2 m d b = V1 m d b := Function.update_of_ne h _ _

def PM : (K (F := F)).Pay (nD := nD) (Val := Elt F) (Name := ℕ) (U := UU) := P (qA m) (kA m) (vA m) (gA m) (mA m) (o0 m)
instance : (PM (F := F) m).IsStorable := P_storable (qA m) (kA m) (vA m) (gA m) (mA m) (o0 m)

theorem st_eq (d : Dev nD) : (bigSep Finset.univ fun c : Fin ((K (F := F)).nCore 0) => (PM m).st 0 d c) = (held (T d) S6 (V1 m d) : sProp 𝕄) :=
  (deal d (qA m d) (kA m d) (vA m d) (gA m d) (mA m d) (o0 m d)).trans (held_S6 d (V1 m d)).symm
theorem dn_eq (d : Dev nD) : (bigSep Finset.univ fun c : Fin ((K (F := F)).nCore 0) => (PM m).dn 0 d c) = (held (T d) S6 (V2 m d) : sProp 𝕄) := by
  refine (deal d (qA m d) (kA m d) (vA m d) (gA m d) (mA m d) (oF m d)).trans ?_
  rw [held_S6, V2_o, V2_of_ne m d (rf main_v5) (by decide), V2_of_ne m d (rf main_v23) (by decide), V2_of_ne m d (rf main_v41) (by decide), V2_of_ne m d (rf main_v43) (by decide), V2_of_ne m d (rf main_v45) (by decide)]
  rfl

theorem held_V2 (d : Dev nD) : (held (T d) Tc.ucRefs (V2 m d) : sProp 𝕄) = iprop(held (T d) S6 (V2 m d) ∗ held (T d) (Tc.ucRefs \ S6) (V1 m d)) := by
  rw [held_sub_split (T d) S6_sub, held_congr (T d) (S := Tc.ucRefs \ S6) (V := V2 m d) (V' := V1 m d) fun b hb => V2_of_ne m d b ?_]
  rintro rfl
  exact (Finset.mem_sdiff.mp hb).2 (by decide)

def FIN (d : Dev nD) : sProp 𝕄 := held (T d) Tc.ucRefs (V3 m d)

/-- The region on the TensorCore, over its unscoped buffers. -/
theorem region (d : Dev nD) (Q : PUnit → sProp 𝕄) :
    iprop((iprop(boundary (T d : Thread nD τ) ∗ held (T d) Tc.ucRefs (VT m d) ∗ (K (F := F)).tcSt EH d 0) -∗ Q ⟨⟩)
        ∗ boundary (T d : Thread nD τ) ∗ held (T d) Tc.ucRefs (V0 m d) ∗ (K (F := F)).tcSt EH d 0 ∗ G (F := F) d ∗ levAts (K (F := F)).L (K (F := F)).lev)
      ⊢ wp frame (wpE (D (F := F)) 𝒱 (SparseCore.T d) none) Set.univ (.op (.customCall (Pipeline.entry 0) ()) .ret) Q := by
  have hR := Pipeline.RegionSeg.wp (pcfgs (F := F)) (adm (F := F)) (Tc.pdats (fun c b => V0 m c (rf b)) (adm (F := F))) none pinj EP defs₀ 𝒱₀ ((K (F := F)).L) ((K (F := F)).lev)
    (RG m) d none (fun _ h => nomatch h) .ret Q
  refine Idealize.SL.BI.BIBase.Entails.trans ?_ hR
  have e1 : (bigSep Finset.univ fun p : Fin 1 => Pipeline.cellsGhost (pcf (F := F)) EP p d : sProp 𝕄) = Pipeline.cellsGhost (Pipeline.pin (pcfgs (F := F)) (adm (F := F))) EP 0 d :=
    bigSep_univ_of_subsingleton (0 : Fin 1)
  have e2 : (bigSep Finset.univ fun p : Fin 1 => Pipeline.toksInit (pcf (F := F)) EP p d : sProp 𝕄) = Pipeline.toksInit (Pipeline.pin (pcfgs (F := F)) (adm (F := F))) EP 0 d :=
    bigSep_univ_of_subsingleton (0 : Fin 1)
  have e3 : (RG m).pre d = iprop(held (T d) Tc.ucRefs (V0 m d) ∗ emp ∗ ∃ W, ⌜(K (F := F)).WBelow (SparseCore.T d) W (8 * SparseCore.Cfg.Blocks.fst 1 1 0)⌝ ∗ owes (SparseCore.T d) ((K (F := F)).Otc d 0) W) := by
    rw [← Tc.unscopedBufs_held]; rfl
  have e4 : (RG m).post d = iprop(held (T d) Tc.ucRefs (VT m d) ∗ emp ∗ ∃ W, ⌜(K (F := F)).WBelow (SparseCore.T d) W (8 * SparseCore.Cfg.Blocks.fst 1 1 0)⌝ ∗ owes (SparseCore.T d) ((K (F := F)).Otc d 0) W) := by
    rw [← Tc.unscopedBufs_held]; rfl
  unfold SparseCore.Cfg.tcSt G
  rw [e1, e2, e3, e4]
  iintro ⟨HQ, Hb, Hheld, ⟨HO, Hst⟩, ⟨Hc, Ht⟩, Hl⟩
  isplitl [HQ Hst]
  · iintro ⟨Hb, Hheld, -, HO⟩
    rw [wp_ret]
    imodintro
    iapply HQ
    isplitl [Hb]; · iexact Hb
    isplitl [Hheld]; · iexact Hheld
    isplitl [HO]; · iexact HO
    iexact Hst
  isplitl [Hb]; · iexact Hb
  isplitl [Hheld HO]
  · isplitl [Hheld]; · iexact Hheld
    isplitr; · iempintro
    iexact HO
  isplitl [Hl]; · iexact Hl
  isplitl [Hc]; · iexact Hc
  iexact Ht

theorem hmain (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, HG⟩
  iapply (wp_seq 𝒱 none Set.univ d Tc.ucRefs _ ops0 (fun op h => sub_uc (List.forall_iff_forall_mem.mp ops0_sub op h)) ops0_fresh (launchContents m d)) $$ [Hb Hheld]
  · isplitl [Hb]; · iexact Hb
    iexact Hheld
  iintro ⟨Hb, Hheld⟩
  rw [wp_bind]
  iapply ((K (F := F)).wp_liftProg (D (F := F)) 𝒱 (SparseCore.T d) Set.univ none _ _)
  iapply (region m d)
  isplitr [Hb Hheld Hst HG]
  rotate_left
  · isplitl [Hb]; · iexact Hb
    isplitl [Hheld]; · iexact Hheld
    isplitl [Hst]; · iexact Hst
    isplitl [HG]; · iexact HG
    unfold SparseCore.Cfg.ctx
    icases Hctx with ⟨Hl, -⟩
    iexact Hl
  iintro ⟨Hb, Hheld, Hst⟩
  iapply (wp_seq 𝒱 none Set.univ d Tc.ucRefs _ ops1 (fun op h => sub_uc (List.forall_iff_forall_mem.mp ops1_sub op h)) ops1_fresh (VT m d)) $$ [Hb Hheld]
  · isplitl [Hb]; · iexact Hb
    iexact Hheld
  iintro ⟨Hb, Hheld⟩
  ihave Hh := (show (held (d.tc : Thread nD τ) Tc.ucRefs (after ops1 (VT m d)) : sProp 𝕄) ⊢ _ from Entails.of_eq (held_sub_split (T d) S6_sub (V1 m d))) $$ Hheld
  icases Hh with ⟨H6, Hrest⟩
  rw [wp_bind]
  iapply ((K (F := F)).wp_run (D (F := F)) 𝒱 (EH := EH) (P := PM m) κ d 0) $$ [Hst H6 Hb Hrest Hts]
  isplitr; · iexact Hctx
  isplitl [Hst]; · iexact Hst
  isplitl [H6]
  · rw [st_eq]; iexact H6
  iintro ⟨Hst, Hdn⟩
  ihave Hdn' := (Entails.of_eq (dn_eq m d)) $$ Hdn
  ihave Hheld := (Entails.of_eq (held_V2 m d).symm) $$ [Hdn' Hrest]
  · isplitl [Hdn'] <;> iassumption
  rw [← bind_pure (seq ops2)]
  iapply (wp_seq 𝒱 none Set.univ d Tc.ucRefs _ ops2 (fun op h => sub_uc (List.forall_iff_forall_mem.mp ops2_sub op h)) ops2_fresh (V2 m d)) $$ [Hb Hheld]
  · isplitl [Hb]; · iexact Hb
    iexact Hheld
  iintro ⟨Hb, Hheld⟩
  rw [wp_pure]; imodintro
  isplitl [Hst]; · iexact Hst
  isplitr [Hb Hts]
  · ihave Hf := (show (held (d.tc : Thread nD τ) Tc.ucRefs (after ops2 (V2 m d)) : sProp 𝕄) ⊢ FIN m d from Entails.of_eq rfl) $$ Hheld
    iexact Hf
  isplitl [Hb] <;> iassumption

def fq (d : Dev nD) (s' : Phys nD τ sig (Elt F)) : Prop := ∀ b : Ref sig .tc, b.isScoped = false → s'.mem.mem ((d.tc : Thread nD τ).loc b) = V3 m d (rf b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) Tc.ucRefs) $$ [HSI H]
  · isplitl [HSI]; · iexact HSI
    iexact H
  ipureintro
  exact fun b hb => h _ (Finset.mem_filter.mpr ⟨devRef_mem_tcRefs b, by rw [show (rf b).isScoped = b.isScoped from rfl, hb]; exact Bool.false_ne_true⟩)

/-- What the run leaves: every TensorCore buffer at its value, every counter at zero. -/
def QC : PUnit × MemSt nD τ sig (Elt F) → Prop := fun r =>
  (∀ (c : Dev nD) (b : Ref sig .tc), b.isScoped = false → r.2.mem ((c.tc : Thread nD τ).loc b) = V3 m c (rf b)) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (qA m) (kA m) (vA m) (gA m) (mA m) (o0 m) facts)
    (fun q _ => match q with | 0 => SparseCore.Cfg.VecSplit.of_plain (vecSplit (qA m) (kA m) (vA m) (gA m) (mA m) (o0 m)))
    m ρ main (G (F := F)) (FIN m) (u₀ (F := F)) (sep_elim_left.trans (hu₀ (qA m) (kA m) (vA m) (gA m) (mA m) (o0 m))) (hmain m ρ) (fq m) (hfin m) (QC m) (fun _ h hz => ⟨h, hz⟩)

end Cert.Proof.Sc

end
-- ==== Proof.ScFrames.lean ====
module

public import proofs.«01_k».proof.Defs
public import proofs.«01_k».proof.Proof.Gen.Kernel
public import proofs.«01_k».proof.Proof.Gen.ReferenceIdeal.Run
public import proofs.«01_k».proof.Proof.ScLaunch
public import Idealize.ShloMosaic.Lib.StableHlo.RunRead

@[expose] public section

noncomputable section

/-! The frames: each program keeps its arguments and ends with every counter at zero. -/

namespace Cert.Proof.Sc

open Idealize.ShloMosaic Idealize.SL.Sem Cert.KernelIdeal
open Idealize.ShloMosaic.StableHlo (after launchContents after_unwritten)

variable {F : FTy → Type} [FloatOps F]
variable (m : (ℓ : Loc nD τ sig) → Buf (Elt F) ℓ)

/-- The references the operations before, between and after the calls write. -/
def W0 : List (Ref sig .tc) := [main_v0, main_v1, main_v2]
theorem W0_eq : (ops0 : List (HloOp τ sig (Elt F))).map HloOp.writes = W0.map fun w => {rf w} := rfl
def W1 : List (Ref sig .tc) := [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45]
theorem W1_eq : (ops1 : List (HloOp τ sig (Elt F))).map HloOp.writes = W1.map fun w => {rf w} := rfl
def W2 : List (Ref sig .tc) := [main_v47, main_v48, main_v49, main_v50]
theorem W2_eq : (ops2 : List (HloOp τ sig (Elt F))).map HloOp.writes = W2.map fun w => {rf w} := rfl

theorem V3_arg (d : Dev nD) (b : Ref sig .tc) (h0 : b ∉ W0) (h1 : b ∉ W1) (h2 : b ∉ W2) (h : rf b ≠ rf main_v46)
    (t0 : rf b ≠ rf main_v3_0) (t1 : rf b ≠ rf main_v3_1) (t2 : rf b ≠ rf main_v3_2) (t3 : rf b ≠ rf main_v3_3) (t4 : rf b ≠ rf main_v3_4) :
    V3 m d (rf b) = m ((d.tc : Thread nD τ).loc b) :=
  (after_unwritten W2 W2_eq h2 _).trans ((V2_of_ne m d (rf b) h).trans ((after_unwritten W1 W1_eq h1 _).trans
    ((VT_of_ne m d (rf b) t0 t1 t2 t3 t4).trans (after_unwritten W0 W0_eq h0 _))))

theorem V3_args (d : Dev nD) :
    V3 m d (rf main_arg0) = m ((d.tc : Thread nD τ).loc main_arg0)
      ∧ V3 m d (rf main_arg1) = m ((d.tc : Thread nD τ).loc main_arg1)
      ∧ V3 m d (rf main_arg2) = m ((d.tc : Thread nD τ).loc main_arg2) :=
  ⟨V3_arg m d main_arg0 (by decide) (by decide) (by decide) (by decide) (by decide) (by decide) (by decide) (by decide) (by decide), V3_arg m d main_arg1 (by decide) (by decide) (by decide) (by decide) (by decide) (by decide) (by decide) (by decide) (by decide),
    V3_arg m d main_arg2 (by decide) (by decide) (by decide) (by decide) (by decide) (by decide) (by decide) (by decide) (by decide)⟩

/-! ## At floats of bits the two printed programs are one -/

section Same

local instance factsKernel : Cert.Kernel.Facts := Cert.Kernel.Gen.facts
local instance factsIdeal : Cert.KernelIdeal.Facts := Cert.KernelIdeal.Gen.facts

set_option maxHeartbeats 4000000 in
theorem defs₀_tec (c s a) : Cert.Kernel.defs₀ (F := Bits) (.scVector c s) 1 a = Cert.KernelIdeal.defs₀ (F := Bits) (.scVector c s) 1 a := by
  unfold Cert.Kernel.defs₀ Cert.KernelIdeal.defs₀
  rfl

set_option maxHeartbeats 4000000 in
theorem defs₀_tc (a) : Cert.Kernel.defs₀ (F := Bits) .tc 0 a = Cert.KernelIdeal.defs₀ (F := Bits) .tc 0 a := by
  obtain ⟨t, s⟩ := a
  rfl

theorem defs₀_call (p l a) (h1 : ∀ c s, p = .scVector c s → l ≠ 1) (h2 : p = .tc → l ≠ 0) : Cert.Kernel.defs₀ (F := Bits) p l a = .op (.call l a) .ret := by
  match p, l, a with
  | .tc, 0, a => exact absurd rfl (h2 rfl)
  | .tc, 1, a => rfl
  | .scVector c s, 0, a => rfl
  | .scVector c s, 1, a => exact absurd rfl (h1 c s rfl)
  | .scScalar c, 0, a => rfl
  | .scScalar c, 1, a => rfl

theorem defs₀_ideal_call (p l a) (h1 : ∀ c s, p = .scVector c s → l ≠ 1) (h2 : p = .tc → l ≠ 0) : Cert.KernelIdeal.defs₀ (F := Bits) p l a = .op (.call l a) .ret := by
  match p, l, a with
  | .tc, 0, a => exact absurd rfl (h2 rfl)
  | .tc, 1, a => rfl
  | .scVector c s, 0, a => rfl
  | .scVector c s, 1, a => exact absurd rfl (h1 c s rfl)
  | .scScalar c, 0, a => rfl
  | .scScalar c, 1, a => rfl

set_option maxHeartbeats 4000000 in
theorem defs₀_other (p l a) (h1 : ∀ c s, p = .scVector c s → l ≠ 1) (h2 : p = .tc → l ≠ 0) : Cert.Kernel.defs₀ (F := Bits) p l a = Cert.KernelIdeal.defs₀ (F := Bits) p l a :=
  Eq.trans (defs₀_call p l a h1 h2) (Eq.symm (defs₀_ideal_call p l a h1 h2))

set_option maxHeartbeats 4000000 in
theorem defs₀_same : Cert.Kernel.defs₀ (F := Bits) = Cert.KernelIdeal.defs₀ (F := Bits) := by
  funext p l a
  by_cases h1 : ∃ c s, p = .scVector c s ∧ l = 1
  · obtain ⟨c, s, rfl, rfl⟩ := h1
    exact defs₀_tec c s a
  · by_cases h2 : p = .tc ∧ l = 0
    · obtain ⟨rfl, rfl⟩ := h2
      exact defs₀_tc a
    · exact defs₀_other p l a (fun c s hp hl => h1 ⟨c, s, hp, hl⟩) (fun hp hl => h2 ⟨hp, hl⟩)

theorem defs_same : Cert.Kernel.defs (F := Bits) = Cert.KernelIdeal.defs (F := Bits) := by
  show Cert.KernelIdeal.sc.defs (Pipeline.defs Cert.KernelIdeal.pcfgs (Cert.Kernel.defs₀ (F := Bits))) = _
  rw [defs₀_same]
  rfl

set_option maxHeartbeats 4000000 in
theorem main_same : Cert.Kernel.main (F := Bits) = Cert.KernelIdeal.main (F := Bits) := by
  unfold Cert.Kernel.main Cert.KernelIdeal.main
  rfl

theorem threads_same : Cert.Kernel.threads (F := Bits) = Cert.KernelIdeal.threads (F := Bits) := by
  unfold Cert.Kernel.threads Cert.KernelIdeal.threads
  rw [main_same]
  rfl

theorem frame_Kernel : Cert.quiescent_Kernel := fun m ρ _ =>
  (congrArg₂ (fun D T => θ_run D T ⟨m, fun _ => 0, ρ⟩ _) defs_same threads_same).mpr
    ((θ_run Cert.KernelIdeal.defs _ _).mono (fun r (h : QC m r) => ⟨fun c => ⟨(h.1 c main_arg0 rfl).trans (V3_args m c).1, (h.1 c main_arg1 rfl).trans (V3_args m c).2.1,
      (h.1 c main_arg2 rfl).trans (V3_args m c).2.2⟩, h.2⟩) (run_main (F := Bits) m ρ))

end Same

theorem frame_KernelIdeal : Cert.quiescent_KernelIdeal := fun m ρ _ =>
  (θ_run Cert.KernelIdeal.defs _ _).mono (fun r (h : QC m r) => ⟨fun c => ⟨(h.1 c main_arg0 rfl).trans (V3_args m c).1, (h.1 c main_arg1 rfl).trans (V3_args m c).2.1,
    (h.1 c main_arg2 rfl).trans (V3_args m c).2.2⟩, h.2⟩) (run_main (F := Ideal) m ρ)

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Sc

end
-- ==== Proof.ScHost.lean ====
/-
  The kernel's arrays around its call, as functions of the arguments: the slabs the host operations cut, and the result read off the
  array the call writes.
-/
module

public import proofs.«01_k».proof.Proof.ScLaunch
public import Idealize.ShloMosaic.Lib.StableHlo.RunRead
public import Idealize.ShloMosaic.Lib.Pointwise

@[expose] public section

noncomputable section

namespace Cert.Proof.Ker

open Cert.KernelIdeal Cert.KernelIdeal.Gen
open Idealize.ShloMosaic Idealize.ShloMosaic.TcCoe Idealize.SL.Sem Idealize.ShloMosaic.StableHlo
open Cert.Proof.Sc (ops1 ops2 VT V1 V2 V3 qA kA vA gA mA oF rf V2_of_ne)

/-! ## The host operations, named -/

def QH (a : FVec Ideal S16x64x2048 .f32) : FVec Ideal S16x8x64x256 .f32 :=
  transpose S16x8x64x256 [0, 2, 1, 3] (shapeCast S16x64x8x256 a shapeCasts_S16x64x2048_S16x64x8x256) transposes_S16x64x8x256_S16x8x64x256_0_2_1_3
def MH (a : FVec Ideal S16x2x2048 .f32) : FVec Ideal S16x8x2x256 .f32 :=
  transpose S16x8x2x256 [0, 2, 1, 3] (shapeCast S16x2x8x256 a shapeCasts_S16x2x2048_S16x2x8x256) transposes_S16x2x8x256_S16x8x2x256_0_2_1_3
def BC (a : FVec Ideal S16x64x272 .f32) : FVec Ideal S16x1x64x272 .f32 := broadcastInDim S16x1x64x272 ![0, 2, 3] bcast_S16x64x272_S16x1x64x272_0_2_3 a
def CC (a : FVec Ideal S16x64x2048 .f32) : FVec Ideal S16x8x64x272 .f32 :=
  concatenate S16x8x64x272 1
    [⟨S16x1x64x272, BC (extractStridedSlice S16x64x272 ![0, 0, 0] a slices_S16x64x2048_S16x64x272_0_0_0)⟩,
     ⟨S16x1x64x272, BC (extractStridedSlice S16x64x272 ![0, 0, 248] a slices_S16x64x2048_S16x64x272_0_0_248)⟩,
     ⟨S16x1x64x272, BC (extractStridedSlice S16x64x272 ![0, 0, 504] a slices_S16x64x2048_S16x64x272_0_0_504)⟩,
     ⟨S16x1x64x272, BC (extractStridedSlice S16x64x272 ![0, 0, 760] a slices_S16x64x2048_S16x64x272_0_0_760)⟩,
     ⟨S16x1x64x272, BC (extractStridedSlice S16x64x272 ![0, 0, 1016] a slices_S16x64x2048_S16x64x272_0_0_1016)⟩,
     ⟨S16x1x64x272, BC (extractStridedSlice S16x64x272 ![0, 0, 1272] a slices_S16x64x2048_S16x64x272_0_0_1272)⟩,
     ⟨S16x1x64x272, BC (extractStridedSlice S16x64x272 ![0, 0, 1528] a slices_S16x64x2048_S16x64x272_0_0_1528)⟩,
     ⟨S16x1x64x272, BC (extractStridedSlice S16x64x272 ![0, 0, 1776] a slices_S16x64x2048_S16x64x272_0_0_1776)⟩]
    concatenates_S16x1x64x272_S16x1x64x272_S16x1x64x272_S16x1x64x272_S16x1x64x272_S16x1x64x272_S16x1x64x272_S16x1x64x272_S16x8x64x272_d1
def KH (a : FVec Ideal S16x64x2048 .f32) : FVec Ideal S16x8x17408 .f32 := shapeCast S16x8x17408 (CC a) shapeCasts_S16x8x64x272_S16x8x17408
def OH (o : FVec Ideal S16x8x64x256 .f32) : FVec Ideal S1x16x2048x64 .f32 :=
  broadcastInDim S1x16x2048x64 ![1, 2, 3] bcast_S16x2048x64_S1x16x2048x64_1_2_3
    (transpose S16x2048x64 [0, 2, 1]
      (shapeCast S16x64x2048 (transpose S16x64x8x256 [0, 2, 1, 3] o transposes_S16x8x64x256_S16x64x8x256_0_2_1_3) shapeCasts_S16x64x8x256_S16x64x2048)
      transposes_S16x64x2048_S16x2048x64_0_2_1)

variable (m : (ℓ : Loc nD τ sig) → Buf (Elt Ideal) ℓ) (d : Dev nD)

theorem qA_eq : qA m d = QH (VT m d (rf main_v3_2)) := by
  unfold qA V1
  after_results_simp
  rfl
theorem gA_eq : gA m d = QH (VT m d (rf main_v3_0)) := by
  unfold gA V1
  after_results_simp
  rfl
theorem mA_eq : mA m d = MH (VT m d (rf main_v3_1)) := by
  unfold mA V1
  after_results_simp
  rfl
theorem kA_eq : kA m d = KH (VT m d (rf main_v3_3)) := by
  unfold kA V1
  after_results_simp
  rfl
theorem vA_eq : vA m d = KH (VT m d (rf main_v3_4)) := by
  unfold vA V1
  after_results_simp
  rfl
theorem res_eq : V3 m d (rf main_v50) = OH (oF m d) := by
  unfold V3
  after_results_simp
  rfl

/-! ## Read at an index -/

def kb (n : ℕ) : ℕ := min 1776 (256 * n - 8)

theorem QH_apply (a : FVec Ideal S16x64x2048 .f32) (h : Fin 16) (n : Fin 8) (y : Fin 64) (z : Fin 256) :
    QH a (ix4 h n y z) = a (ix3 h y ⟨256 * n.val + z.val, by have := n.isLt; have := z.isLt; omega⟩) := by
  pointwise [QH]
  exact congrArg (fun w => a (ix3 h y w)) (Fin.ext (by show n.val * 256 + z.val = 256 * n.val + z.val; omega))
theorem MH_apply (a : FVec Ideal S16x2x2048 .f32) (h : Fin 16) (n : Fin 8) (y : Fin 2) (z : Fin 256) :
    MH a (ix4 h n y z) = a (ix3 h y ⟨256 * n.val + z.val, by have := n.isLt; have := z.isLt; omega⟩) := by
  pointwise [MH]
  exact congrArg (fun w => a (ix3 h y w)) (Fin.ext (by show n.val * 256 + z.val = 256 * n.val + z.val; omega))
theorem CC_apply (a : FVec Ideal S16x64x2048 .f32) (h : Fin 16) (n : Fin 8) (y : Fin 64) (z : Fin 272) :
    CC a (ix4 h n y z) = a (ix3 h y ⟨kb n.val + z.val, by have : kb n.val ≤ 1776 := Nat.min_le_left _ _; have := z.isLt; omega⟩) := by
  fin_cases n <;> pointwise [CC, BC]
  · exact congrArg (fun w => a (ix3 h y w)) (Fin.ext (by show z.val = 0 + z.val; omega))
  all_goals exact congrArg (fun w => a (ix3 h y w)) (Fin.ext rfl)
theorem KH_apply (a : FVec Ideal S16x64x2048 .f32) (h : Fin 16) (n : Fin 8) (y : Fin 64) (z : Fin 272) :
    KH a (ix3 h n ⟨272 * y.val + z.val, by have := y.isLt; have := z.isLt; omega⟩) = CC a (ix4 h n y z) := by
  pointwise [KH]
theorem OH_apply (o : FVec Ideal S16x8x64x256 .f32) (h : Fin 16) (t : Fin 2048) (y : Fin 64) :
    OH o (ix4 0 h t y) = o (ix4 h ⟨t.val / 256, by have := t.isLt; omega⟩ y ⟨t.val % 256, Nat.mod_lt _ (by decide)⟩) := by
  pointwise [OH]

end Cert.Proof.Ker

end
-- ==== Proof.ScTop.lean ====
/-
  A stable sort by a key puts at place `k` the position that exactly `k` others come before, a position coming before another where its
  key is greater, or equal at a lower index. So a sum over the first `m` places is a sum over the positions fewer than `m` come before.
-/
module

public import Idealize.ShloMosaic.PureOps.ShapeOps
public import Idealize.ShloMosaic.Lib.SortFacts
public import Mathlib.Data.EReal.Basic
public import Mathlib.Algebra.BigOperators.Fin

@[expose] public section

noncomputable section

namespace Cert.Proof.Top

open Idealize.ShloMosaic
open scoped BigOperators

variable {n : ℕ} {α : Type} [LinearOrder α]

/-- Position `a` comes before `b`: its key is greater, or equal at a lower index. -/
def bef (x : Fin n → α) (a b : Fin n) : Prop := x b < x a ∨ (x a = x b ∧ a < b)

theorem bef_irrefl (x : Fin n → α) (a : Fin n) : ¬ bef x a a := by
  rintro (h | ⟨-, h⟩) <;> exact lt_irrefl _ h

theorem bef_total (x : Fin n → α) {a b : Fin n} (h : a ≠ b) : bef x a b ∨ bef x b a := by
  rcases lt_trichotomy (x a) (x b) with hx | hx | hx
  · exact Or.inr (Or.inl hx)
  · rcases lt_or_gt_of_ne h with ha | ha
    · exact Or.inl (Or.inr ⟨hx, ha⟩)
    · exact Or.inr (Or.inr ⟨hx.symm, ha⟩)
  · exact Or.inl (Or.inl hx)

theorem bef_asymm (x : Fin n → α) {a b : Fin n} (h : bef x a b) : ¬ bef x b a := by
  rintro (h' | ⟨h', hb⟩) <;> rcases h with h | ⟨h, ha⟩
  · exact lt_asymm h h'
  · exact absurd h' (h ▸ lt_irrefl _)
  · exact absurd h (h' ▸ lt_irrefl _)
  · exact lt_asymm ha hb

theorem bef_trans (x : Fin n → α) {a b c : Fin n} (h : bef x a b) (h' : bef x b c) : bef x a c := by
  rcases h with h | ⟨h, ha⟩ <;> rcases h' with h' | ⟨h', hb⟩
  · exact Or.inl (h'.trans h)
  · exact Or.inl (h' ▸ h)
  · exact Or.inl (h ▸ h')
  · exact Or.inr ⟨h.trans h', ha.trans hb⟩

open Classical in
/-- The number of positions before `f`. -/
def rank (x : Fin n → α) (f : Fin n) : ℕ := (Finset.univ.filter fun j => bef x j f).card

/-- The sort's comparator and the one that breaks ties by index. -/
def gtB (x : Fin n → α) (a b : Fin n) : Bool := decide (x b < x a)
open Classical in
def befB (x : Fin n → α) (a b : Fin n) : Bool := decide (bef x a b)

theorem befB_false (x : Fin n → α) {a b : Fin n} : befB x a b = false ↔ ¬ bef x a b := by
  classical
  exact decide_eq_false_iff_not
theorem befB_true (x : Fin n → α) {a b : Fin n} : befB x a b = true ↔ bef x a b := by
  classical
  exact decide_eq_true_iff

theorem stable_eq (x : Fin n → α) : ∀ l : List (Fin n), l.Pairwise (· < ·) → stableSort (gtB x) l = stableSort (befB x) l
  | [], _ => rfl
  | a :: l, h => by
      rw [List.pairwise_cons] at h
      unfold stableSort
      rw [stable_eq x l h.2]
      refine insertBefore_congr _ _ a _ fun b hb => ?_
      have hab : a < b := h.1 b ((perm_stableSort (befB x) l).mem_iff.mp hb)
      unfold gtB befB bef
      refine decide_eq_decide.mpr ⟨Or.inl, fun h => h.resolve_right fun h' => lt_asymm hab h'.2⟩

theorem sorted_eq (x : Fin n → α) : sortedFrom (gtB x) = sortedFrom (befB x) := by
  funext k
  unfold sortedFrom
  rw [List.get_of_eq (show sortPositions n (gtB x) = sortPositions n (befB x) from stable_eq x _ (List.pairwise_lt_finRange n))]
  rfl

theorem sorted_bef (x : Fin n → α) {i j : Fin n} (h : i < j) : bef x (sortedFrom (gtB x) i) (sortedFrom (gtB x) j) := by
  rw [sorted_eq]
  have h1 := sortedFrom_noInversion (befB x) (befB x)
    (fun a b hab => (befB_false x).mpr (bef_asymm x ((befB_true x).mp hab))) (fun _ _ h => h)
    (fun a b c hab hbc => (befB_false x).mpr fun hac => by
      have hab' := (befB_false x).mp hab
      have hbc' := (befB_false x).mp hbc
      by_cases e : a = b
      · exact hbc' (e ▸ hac)
      · by_cases e' : b = c
        · exact hab' (e'.symm ▸ hac)
        · exact bef_asymm x hac (bef_trans x ((bef_total x e').resolve_left hbc') ((bef_total x e).resolve_left hab'))) i j h
  refine (bef_total x fun e => ?_).resolve_right ((befB_false x).mp h1)
  exact (ne_of_lt h) (sortedFrom_injective _ e)

theorem bef_sorted_iff (x : Fin n → α) (i j : Fin n) : bef x (sortedFrom (gtB x) i) (sortedFrom (gtB x) j) ↔ i < j := by
  refine ⟨fun h => ?_, sorted_bef x⟩
  rcases lt_trichotomy i j with h' | h' | h'
  · exact h'
  · exact absurd (h' ▸ h) (bef_irrefl x _)
  · exact absurd (sorted_bef x h') (bef_asymm x h)

def sortedE (x : Fin n → α) : Fin n ≃ Fin n := Equiv.ofBijective (sortedFrom (gtB x)) ⟨sortedFrom_injective _, sortedFrom_surjective _⟩

theorem rank_sorted (x : Fin n → α) (k : Fin n) : rank x (sortedFrom (gtB x) k) = k.val := by
  classical
  have h : (Finset.univ.filter fun j => bef x j (sortedFrom (gtB x) k)) = (Finset.univ.filter fun i : Fin n => i < k).map (sortedE x).toEmbedding := by
    ext j
    obtain ⟨i, rfl⟩ := (sortedE x).surjective j
    simp only [Finset.mem_filter, Finset.mem_univ, true_and, Finset.mem_map_equiv, Equiv.symm_apply_apply]
    exact bef_sorted_iff x i k
  unfold rank
  rw [show (Finset.univ.filter fun j => bef x j (sortedFrom (gtB x) k)) = _ from h, Finset.card_map]
  have := Fin.card_Iio k
  rw [← this]
  refine congrArg Finset.card (Finset.ext fun i => ?_)
  simp

/-- A sum over the first `m` places is the sum over the positions of rank under `m`. -/
theorem sum_sorted {M : Type} [AddCommMonoid M] (x : Fin n → α) (g : Fin n → M) (m : ℕ) (hm : m ≤ n) :
    (∑ j : Fin m, g (sortedFrom (gtB x) (j.castLE hm))) = ∑ f : Fin n, if rank x f < m then g f else 0 := by
  rw [← Equiv.sum_comp (sortedE x), ← Finset.sum_filter]
  symm
  refine Finset.sum_bij' (fun i hi => (⟨i.val, ?_⟩ : Fin m)) (fun j _ => j.castLE hm) ?_ ?_ ?_ ?_ ?_
  · have := (Finset.mem_filter.mp hi).2
    rwa [show (sortedE x) i = sortedFrom (gtB x) i from rfl, rank_sorted] at this
  · exact fun _ _ => Finset.mem_univ _
  · intro j _
    refine Finset.mem_filter.mpr ⟨Finset.mem_univ _, ?_⟩
    rw [show (sortedE x) (j.castLE hm) = sortedFrom (gtB x) (j.castLE hm) from rfl, rank_sorted]
    exact j.isLt
  · exact fun _ _ => rfl
  · exact fun _ _ => rfl
  · exact fun _ _ => rfl

end Cert.Proof.Top

end
-- ==== Proof.ScMath.lean ====
/-
  One output element as a function of sixteen real scores, the selection keys, the sixteen values and the globals' maximum, sum and
  weighted value, in extended reals: the weights of the six chosen keys and of the globals over their sum, with no maximum subtracted.
  The kernel's form (two maxima, the weights scaled by one reciprocal) and the reference's (one maximum, one quotient) are both it.
-/
module

public import proofs.«01_k».proof.Proof.ScPure
public import proofs.«01_k».proof.Proof.ScTop
public import Idealize.ShloMosaic.Lib.IdealHost
public import Idealize.ShloMosaic.Lib.ValueIdx

@[expose] public section

noncomputable section

namespace Cert.Proof.Sc

open Cert.KernelIdeal Cert.KernelIdeal.Gen
open Idealize.ShloMosaic Idealize.SL.Sem
open Cert.Proof.Top
open scoped BigOperators

/-! ## The constants -/

theorem c_eighth : Ideal.ofBits .f32 0x3E000000#32 = ((1 / 8 : ℝ) : EReal) := by
  simp [Ideal.ofBits, Ideal.ieee]; rw [← EReal.coe_mul]; norm_num
theorem c_neighth : Ideal.ofBits .f32 0xBE000000#32 = ((-(1 / 8) : ℝ) : EReal) := by
  simp [Ideal.ofBits, Ideal.ieee]; rw [← EReal.coe_mul]; norm_num
theorem c_six : Ideal.ofBits .f32 0x40C00000#32 = ((6 : ℝ) : EReal) := by
  simp [Ideal.ofBits, Ideal.ieee]; rw [← EReal.coe_mul]; norm_num
theorem c_eight : Ideal.ofBits .f32 0x41000000#32 = ((8 : ℝ) : EReal) := by
  simp [Ideal.ofBits, Ideal.ieee]; rw [← EReal.coe_mul]; norm_num
theorem c_one : Ideal.ofBits .f32 0x3F800000#32 = 1 := Ideal.ofBits_one_f32
theorem c_zero : Ideal.ofBits .f32 0x00000000#32 = 0 := Ideal.ofBits_zero_f32

/-! ## Sums -/

theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s h ih => rw [Finset.sum_insert h, Finset.sum_insert h, EReal.coe_add, ih]

theorem mul_add_nonneg (r : ℝ) (hr : 0 ≤ r) (a b : EReal) : (r : EReal) * (a + b) = r * a + r * b :=
  EReal.left_distrib_of_nonneg_of_ne_top (by exact_mod_cast hr) (EReal.coe_ne_top r) a b

theorem mul_sum_nonneg {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s h ih => rw [Finset.sum_insert h, Finset.sum_insert h, mul_add_nonneg r hr, ih]

/-! ## The element -/

/-- The weight of key `f`: the exponential of its score where it is among the first six. -/
def wt (s : Fin 16 → ℝ) (x : Fin 16 → EReal) (f : Fin 16) : ℝ := if rank x f < 6 then Real.exp (s f) else 0

def den (s : Fin 16 → ℝ) (x : Fin 16 → EReal) (m z : ℝ) : ℝ := (∑ f, wt s x f) + Real.exp m * z

/-- The weighted values over the weights' sum. -/
def CAN (s : Fin 16 → ℝ) (x V : Fin 16 → EReal) (m z : ℝ) (og : EReal) : EReal :=
  ((∑ f, ((wt s x f : ℝ) : EReal) * V f) + ((Real.exp m : ℝ) : EReal) * og) * (((den s x m z)⁻¹ : ℝ) : EReal)

theorem wt_nonneg (s : Fin 16 → ℝ) (x : Fin 16 → EReal) (f : Fin 16) : 0 ≤ wt s x f := by
  unfold wt; split
  · exact (Real.exp_pos _).le
  · exact le_rfl

/-- The key at place 0 is chosen, so the weights' sum is positive. -/
theorem den_pos (s : Fin 16 → ℝ) (x : Fin 16 → EReal) (m z : ℝ) (hz : 0 ≤ z) : 0 < den s x m z := by
  unfold den
  refine add_pos_of_pos_of_nonneg ?_ (mul_nonneg (Real.exp_pos _).le hz)
  refine Finset.sum_pos' (fun f _ => wt_nonneg s x f) ⟨sortedFrom (gtB x) 0, Finset.mem_univ _, ?_⟩
  unfold wt
  rw [rank_sorted, if_pos (by decide)]
  exact Real.exp_pos _

/-! ## The kernel's form -/

/-- The comparisons' sum is the number of keys before key `f`. -/
theorem rank_succ (x : Fin 16 → EReal) (f : Fin 16) :
    (rank x f : ℕ) = ∑ m : Fin 15, if (if m.val < f.val then x f ≤ x m.castSucc else ¬ x m.succ ≤ x f) then 1 else 0 := by
  classical
  unfold rank
  rw [Finset.card_filter, Fin.sum_univ_succAbove _ f, if_neg (bef_irrefl x f), zero_add]
  refine Finset.sum_congr rfl fun m _ => ?_
  refine if_congr ?_ rfl rfl
  unfold Fin.succAbove
  by_cases h : m.castSucc < f
  · have h' : m.val < f.val := h
    rw [if_pos h, if_pos h']
    unfold bef
    constructor
    · rintro (h | ⟨h, -⟩)
      · exact h.le
      · exact h.symm.le
    · intro hle
      rcases lt_or_eq_of_le hle with hh | hh
      · exact Or.inl hh
      · exact Or.inr ⟨hh.symm, h⟩
  · have h' : ¬ m.val < f.val := h
    rw [if_neg h, if_neg h']
    unfold bef
    constructor
    · rintro (hh | ⟨-, hh⟩)
      · exact not_le.mpr hh
      · exact absurd (Nat.lt_of_succ_lt (show m.val + 1 < f.val from hh)) h'
    · exact fun hh => Or.inl (not_le.mp hh)

section Lane

variable (st tt : IVec S16 32) (A : ℕ → FVec Ideal S16 .f32) (i : S16.Idx)

theorem geV_apply (a b : FVec Ideal S16 .f32) : geV a b i = if b i ≤ a i then (1 : EReal) else 0 := by
  show (if BitVec.ofBool (decide (b i ≤ a i)) = 1#1 then Ideal.ofBits .f32 0x3F800000#32 else Ideal.ofBits .f32 0x00000000#32) = _
  rw [c_one, c_zero]
  by_cases h : b i ≤ a i
  · rw [if_pos h, decide_eq_true h]; rfl
  · rw [if_neg h, decide_eq_false h]; rfl

theorem rkr_apply (f n : ℕ) :
    rkr st tt A f n i = ((∑ m ∈ Finset.range n,
      (if (if m < f then slr st tt A f i ≤ slr st tt A m i else ¬ slr st tt A (m + 1) i ≤ slr st tt A f i) then 1 else 0 : ℕ) : ℝ) : EReal) := by
  induction n with
  | zero =>
    show Ideal.ofBits .f32 0x00000000#32 = _
    rw [c_zero]; simp
  | succ n ih =>
    rw [Finset.sum_range_succ, EReal.coe_add, ← ih]
    show rkr st tt A f n i + (if n < f then geV (slr st tt A n) (slr st tt A f) else subf (cst 0x3F800000#32) (geV (slr st tt A f) (slr st tt A (n + 1)))) i = _
    refine congrArg (rkr st tt A f n i + ·) ?_
    by_cases h : n < f
    · rw [if_pos h, geV_apply]
      by_cases h' : slr st tt A f i ≤ slr st tt A n i
      · simp [h, h']
      · simp [h, h']
    · rw [if_neg h]
      show Ideal.ofBits .f32 0x3F800000#32 - geV (slr st tt A f) (slr st tt A (n + 1)) i = _
      rw [geV_apply, c_one]
      by_cases h' : slr st tt A (n + 1) i ≤ slr st tt A f i
      · rw [if_pos h']
        simp only [h, h', if_false, not_true_eq_false, Nat.cast_zero, EReal.coe_zero]
        exact EReal.sub_self (by decide) (by decide)
      · rw [if_neg h']
        simp only [h, h', if_false, not_false_eq_true, if_true, Nat.cast_one, EReal.coe_one]
        exact sub_zero _

theorem rkr_rank (x : Fin 16 → EReal) (hx : ∀ f : Fin 16, slr st tt A f.val i = x f) (f : Fin 16) :
    rkr st tt A f.val 15 i = ((rank x f : ℝ) : EReal) := by
  rw [rkr_apply, rank_succ, Nat.cast_sum, ← Fin.sum_univ_eq_sum_range
    (fun m => (((if (if m < f.val then slr st tt A f.val i ≤ slr st tt A m i else ¬ slr st tt A (m + 1) i ≤ slr st tt A f.val i) then 1 else 0 : ℕ) : ℝ))) 15]
  refine congrArg _ (Finset.sum_congr rfl fun m _ => ?_)
  have h1 : slr st tt A m.val i = x m.castSucc := hx m.castSucc
  have h2 : slr st tt A (m.val + 1) i = x m.succ := hx m.succ
  rw [h1, h2, hx f]

variable (s : Fin 16 → ℝ) (hs : ∀ f : Fin 16, scr A f.val i = ((s f : ℝ) : EReal))

include hs in
theorem mxr_real : ∀ n, n < 16 → ∃ r : ℝ, mxr A n i = (r : EReal)
  | 0, h => ⟨s 0, hs 0⟩
  | n + 1, h => by
      obtain ⟨r, hr⟩ := mxr_real n (Nat.lt_of_succ_lt h)
      refine ⟨max r (s ⟨n + 1, h⟩), ?_⟩
      show max (mxr A n i) (scr A (n + 1) i) = _
      rw [hr, show scr A (n + 1) i = _ from hs ⟨n + 1, h⟩]
      exact (EReal.coe_strictMono.monotone.map_max).symm

include hs in
theorem esr_apply (x : Fin 16 → EReal) (hx : ∀ f : Fin 16, slr st tt A f.val i = x f) (r : ℝ) (hr : mxr A 15 i = (r : EReal)) (f : Fin 16) :
    esr st tt A f.val i = ((Real.exp (-r) * wt s x f : ℝ) : EReal) := by
  show (if BitVec.ofBool (decide (rkr st tt A f.val 15 i < Ideal.ofBits .f32 0x40C00000#32)) = 1#1 then
    Ideal.exp (scr A f.val i - mxr A 15 i) else Ideal.ofBits .f32 0x00000000#32) = _
  rw [rkr_rank st tt A i x hx f, c_six, c_zero, hs f, hr, ← EReal.coe_sub, Ideal.exp_coe]
  unfold wt
  by_cases h : rank x f < 6
  · have h' : ((rank x f : ℝ) : EReal) < ((6 : ℝ) : EReal) := by exact_mod_cast h
    rw [decide_eq_true h', if_pos h, if_pos (by decide), ← Real.exp_add]
    congr 2; ring
  · have h' : ¬ ((rank x f : ℝ) : EReal) < ((6 : ℝ) : EReal) := by
      intro hh; exact h (by exact_mod_cast hh)
    rw [decide_eq_false h', if_neg h, if_neg (by decide), mul_zero]; rfl

theorem zr_apply (e : Fin 16 → ℝ) (he : ∀ f : Fin 16, esr st tt A f.val i = ((e f : ℝ) : EReal)) :
    zr st tt A 15 i = ((∑ f, e f : ℝ) : EReal) := by
  have h : ∀ n (hn : n < 16), zr st tt A n i = ∑ f ∈ Finset.range (n + 1), esr st tt A f i := by
    intro n hn
    induction n with
    | zero => simp [zr]
    | succ n ih =>
      rw [Finset.sum_range_succ, ← ih (Nat.lt_of_succ_lt hn)]; rfl
  rw [h 15 (by decide), coe_sum, ← Fin.sum_univ_eq_sum_range (fun f => esr st tt A f i) 16]
  exact Finset.sum_congr rfl fun f _ => he f

theorem outr_apply (bg og : FVec Ideal S16 .f32) (ws g : ℕ → FVec Ideal S16 .f32) :
    outr bg og ws g 16 i = bg i * og i + ∑ f : Fin 16, ws f.val i * g f.val i := by
  have h : ∀ n, outr bg og ws g n i = bg i * og i + ∑ f ∈ Finset.range n, ws f i * g f i := by
    intro n
    induction n with
    | zero => simp only [Finset.range_zero, Finset.sum_empty, add_zero]; rfl
    | succ n ih => rw [Finset.sum_range_succ, ← add_assoc, ← ih]; rfl
  rw [h 16, ← Fin.sum_univ_eq_sum_range (fun f => ws f i * g f i) 16]

include hs in
/-- The kernel's output element. -/
theorem kernel_can (x V : Fin 16 → EReal) (hx : ∀ f : Fin 16, slr st tt A f.val i = x f) (mg zg og : FVec Ideal S16 .f32)
    (g : ℕ → FVec Ideal S16 .f32) (hV : ∀ f : Fin 16, g f.val i = V f) (m z : ℝ) (hm : mg i = (m : EReal)) (hz : zg i = (z : EReal)) (h0 : 0 ≤ z) :
    outr (mulf (cglV (mxr A 15) mg) (invV (mxr A 15) mg (zr st tt A 15) zg)) og
      (fun f => wsV (esr st tt A f) (clcV (mxr A 15) mg) (invV (mxr A 15) mg (zr st tt A 15) zg)) g 16 i = CAN s x V m z (og i) := by
  obtain ⟨r, hr⟩ := mxr_real A i s hs 15 (by decide)
  have hz' := zr_apply st tt A i _ (esr_apply st tt A i s hs x hx r hr)
  have hmax : max (mxr A 15 i) (mg i) = ((max r m : ℝ) : EReal) := by
    rw [hr, hm]; exact (EReal.coe_strictMono.monotone.map_max).symm
  have hcl : clcV (mxr A 15) mg i = ((Real.exp (r - max r m) : ℝ) : EReal) := by
    show Ideal.exp (mxr A 15 i - max (mxr A 15 i) (mg i)) = _
    rw [hmax, hr, ← EReal.coe_sub, Ideal.exp_coe]
  have hcg : cglV (mxr A 15) mg i = ((Real.exp (m - max r m) : ℝ) : EReal) := by
    show Ideal.exp (mg i - max (mxr A 15 i) (mg i)) = _
    rw [hmax, hm, ← EReal.coe_sub, Ideal.exp_coe]
  have hD : Real.exp (r - max r m) * (∑ f, Real.exp (-r) * wt s x f) + Real.exp (m - max r m) * z = Real.exp (-(max r m)) * den s x m z := by
    unfold den
    rw [← Finset.mul_sum, mul_add, ← mul_assoc, ← mul_assoc, ← Real.exp_add, ← Real.exp_add]
    congr 3 <;> congr 1 <;> ring
  have hDp := den_pos s x m z h0
  have hinv : invV (mxr A 15) mg (zr st tt A 15) zg i = (((Real.exp (-(max r m)) * den s x m z)⁻¹ : ℝ) : EReal) := by
    show Ideal.div (Ideal.ofBits .f32 0x3F800000#32) (clcV (mxr A 15) mg i * zr st tt A 15 i + cglV (mxr A 15) mg i * zg i) = _
    rw [c_one, hcl, hcg, hz', hz, ← EReal.coe_mul, ← EReal.coe_mul, ← EReal.coe_add, hD,
      Ideal.div_coe (mul_pos (Real.exp_pos _) hDp).ne', one_mul, one_div]
  rw [outr_apply]
  have e1 : (mulf (cglV (mxr A 15) mg) (invV (mxr A 15) mg (zr st tt A 15) zg)) i = (((den s x m z)⁻¹ * Real.exp m : ℝ) : EReal) := by
    show cglV (mxr A 15) mg i * invV (mxr A 15) mg (zr st tt A 15) zg i = _
    rw [hcg, hinv, ← EReal.coe_mul]
    congr 1
    rw [mul_inv, ← Real.exp_neg, neg_neg, ← mul_assoc, ← Real.exp_add, mul_comm]
    congr 2; ring
  have e2 : ∀ f : Fin 16, wsV (esr st tt A f.val) (clcV (mxr A 15) mg) (invV (mxr A 15) mg (zr st tt A 15) zg) i
      = (((den s x m z)⁻¹ * wt s x f : ℝ) : EReal) := by
    intro f
    show esr st tt A f.val i * (clcV (mxr A 15) mg i * invV (mxr A 15) mg (zr st tt A 15) zg i) = _
    rw [esr_apply st tt A i s hs x hx r hr f, hcl, hinv, ← EReal.coe_mul, ← EReal.coe_mul]
    congr 1
    rw [mul_inv, ← Real.exp_neg, neg_neg]
    have : Real.exp (-r) * (Real.exp (r - max r m) * Real.exp (max r m)) = 1 := by
      rw [← Real.exp_add, ← Real.exp_add, Real.exp_eq_one_iff]; ring
    linear_combination (den s x m z)⁻¹ * wt s x f * this
  rw [e1]
  have hn : (0 : ℝ) ≤ (den s x m z)⁻¹ := inv_nonneg.mpr hDp.le
  unfold CAN
  rw [mul_comm _ ((((den s x m z)⁻¹ : ℝ)) : EReal), mul_add_nonneg _ hn, mul_sum_nonneg _ _ hn, add_comm, EReal.coe_mul, mul_assoc]
  refine congrArg (· + _) (Finset.sum_congr rfl fun f _ => ?_)
  rw [e2 f, hV f, EReal.coe_mul, mul_assoc]

end Lane

/-! ## The reference's form -/

/-- The chosen keys' exponentials over any maximum, and one quotient. -/
theorem ref_can (s : Fin 16 → ℝ) (x V : Fin 16 → EReal) (m z M : ℝ) (h0 : 0 ≤ z) (og : EReal) :
    Ideal.div
      ((∑ j : Fin 6, Ideal.exp ((s (sortedFrom (gtB x) (j.castLE (by decide))) : EReal) - (M : EReal)) * V (sortedFrom (gtB x) (j.castLE (by decide))))
        + Ideal.exp ((m : EReal) - (M : EReal)) * og)
      ((∑ j : Fin 6, Ideal.exp ((s (sortedFrom (gtB x) (j.castLE (by decide))) : EReal) - (M : EReal))) + Ideal.exp ((m : EReal) - (M : EReal)) * (z : EReal))
      = CAN s x V m z og := by
  have hc : (0 : ℝ) ≤ Real.exp (-M) := (Real.exp_pos _).le
  have he : ∀ a : ℝ, Ideal.exp ((a : EReal) - (M : EReal)) = ((Real.exp (-M) * Real.exp a : ℝ) : EReal) := by
    intro a
    rw [← EReal.coe_sub, Ideal.exp_coe, ← Real.exp_add]; congr 2; ring
  rw [sum_sorted x (fun f => Ideal.exp ((s f : EReal) - (M : EReal)) * V f) 6 (by decide),
    sum_sorted x (fun f => Ideal.exp ((s f : EReal) - (M : EReal))) 6 (by decide), he m]
  have hn : (∑ f : Fin 16, if rank x f < 6 then Ideal.exp ((s f : EReal) - (M : EReal)) * V f else 0)
      = ((Real.exp (-M) : ℝ) : EReal) * ∑ f, ((wt s x f : ℝ) : EReal) * V f := by
    rw [mul_sum_nonneg _ _ hc]
    refine Finset.sum_congr rfl fun f _ => ?_
    unfold wt
    by_cases h : rank x f < 6
    · rw [if_pos h, if_pos h, he, EReal.coe_mul, mul_assoc]
    · rw [if_neg h, if_neg h, EReal.coe_zero, zero_mul, mul_zero]
  have hd : (∑ f : Fin 16, if rank x f < 6 then Ideal.exp ((s f : EReal) - (M : EReal)) else 0)
      = ((Real.exp (-M) * ∑ f, wt s x f : ℝ) : EReal) := by
    rw [Finset.mul_sum, coe_sum]
    refine Finset.sum_congr rfl fun f _ => ?_
    unfold wt
    by_cases h : rank x f < 6
    · rw [if_pos h, if_pos h, he]
    · rw [if_neg h, if_neg h, mul_zero, EReal.coe_zero]
  have hDp := den_pos s x m z h0
  have hD : ((Real.exp (-M) * ∑ f, wt s x f : ℝ) : EReal) + ((Real.exp (-M) * Real.exp m : ℝ) : EReal) * (z : EReal)
      = ((Real.exp (-M) * den s x m z : ℝ) : EReal) := by
    rw [← EReal.coe_mul, ← EReal.coe_add]; congr 1; unfold den; ring
  rw [hn, hd, hD, Ideal.div_coe (mul_pos (Real.exp_pos _) hDp).ne']
  unfold CAN
  rw [EReal.coe_mul (Real.exp (-M)) (Real.exp m), mul_assoc ((Real.exp (-M) : ℝ) : EReal), ← mul_add_nonneg _ hc, mul_comm ((Real.exp (-M) : ℝ) : EReal), mul_assoc, ← EReal.coe_mul]
  congr 2
  have := (Real.exp_pos (-M)).ne'
  have := hDp.ne'
  field_simp

end Cert.Proof.Sc
-- ==== Proof.ScWin.lean ====
/-
  The window of a position, its scores and selection keys, as plain mathematics on one head's rows; and the softmax of ten logits as
  the element of `ScMath`.
-/
module

public import proofs.«01_k».proof.Proof.ScMath
public import Idealize.ShloMosaic.Lib.StableHlo.Predicate

@[expose] public section

noncomputable section

namespace Cert.Proof.Win

open Idealize.ShloMosaic Idealize.SL.Sem Idealize.ShloMosaic.StableHlo
open Cert.Proof.Top
open scoped BigOperators

/-! ## The window -/

/-- The first key of position `t`'s window. -/
def bt (t : ℕ) : ℕ := min 2032 (t - 8)

theorem bt_le (t : ℕ) : bt t ≤ 2032 := Nat.min_le_left _ _

/-- Key `f` of position `t`'s window. -/
def kp (t : Fin 2048) (f : Fin 16) : Fin 2048 := ⟨bt t.val + f.val, by have := bt_le t.val; have := f.isLt; omega⟩

theorem clipw (t : Fin 2048) :
    IntOp.minsi 2032#32 (IntOp.maxsi 0#32 (BitVec.ofNat 32 t.val - 8#32)) = BitVec.ofNat 32 (bt t.val) := by
  have key : ∀ t : Fin 2048, IntOp.minsi 2032#32 (IntOp.maxsi 0#32 (BitVec.ofNat 32 t.val - 8#32)) = BitVec.ofNat 32 (min 2032 (t.val - 8)) := by
    decide +kernel
  exact key t

/-- A natural below 2³¹ is not negative as a word. -/
theorem sel_small (a b : ℕ) (ha : a < 2 ^ 31) :
    Scalar.select (IntOp.cmpi CmpIPredicate.slt (BitVec.ofNat 32 a) 0#32) (IntOp.addi (BitVec.ofNat 32 a) (BitVec.ofNat 32 b)) (BitVec.ofNat 32 a)
      = BitVec.ofNat 32 a := by
  refine if_neg ?_
  show ¬ (BitVec.ofBool ((BitVec.ofNat 32 a).slt (BitVec.ofNat 32 0)) = 1#1)
  rw [Predicate.slt_ofNat_iff a 0 ha (by decide)]
  omega

theorem clamp_small (a n : ℕ) (ha : a < 2 ^ 31) (hn : a ≤ n) : min (BitVec.ofNat 32 a).toInt.toNat n = a := by
  rw [Predicate.toInt_ofNat_small a ha]
  simpa using hn

/-- The score of key `f` at position `t`. -/
def sco (q k : Fin 2048 → Fin 64 → EReal) (t : Fin 2048) (f : Fin 16) : EReal :=
  (∑ d : Fin 64, q t d * k (kp t f) d) * ((1 / 8 : ℝ) : EReal)
/-- The distance prior's addend. -/
def pri (t : Fin 2048) (f : Fin 16) : EReal :=
  Ideal.ofBits .f32 0x3E4CCCCD#32 *
    Ideal.exp (((IntOp.absi (BitVec.ofNat 32 (bt t.val + f.val) - BitVec.ofNat 32 t.val)).toInt : ℝ) * ((-(1 / 8) : ℝ) : EReal))
/-- The selection key. -/
def xk (q k : Fin 2048 → Fin 64 → EReal) (t : Fin 2048) (f : Fin 16) : EReal := sco q k t f + pri t f

/-! ## The softmax of ten -/

/-- The maximum of finitely many reals, at least one, folded from `⊥`. -/
theorem fold_real {ι : Type} (s : Finset ι) (a : ι → ℝ) :
    (s = ∅ ∧ s.fold max (⊥ : EReal) (fun i => ((a i : ℝ) : EReal)) = ⊥) ∨ ∃ M : ℝ, s.fold max (⊥ : EReal) (fun i => ((a i : ℝ) : EReal)) = M := by
  classical
  induction s using Finset.induction_on with
  | empty => exact Or.inl ⟨rfl, rfl⟩
  | insert i s hi ih =>
    right
    rw [Finset.fold_insert hi]
    rcases ih with ⟨-, e⟩ | ⟨M, e⟩
    · exact ⟨a i, by rw [e]; exact max_bot_right _⟩
    · rw [e]
      rcases le_total ((a i : ℝ) : EReal) (M : EReal) with hh | hh
      · exact ⟨M, max_eq_right hh⟩
      · exact ⟨a i, max_eq_left hh⟩

/-- Six of the window's keys and four others: the quotients by the common sum against the values are the element. -/
theorem ten (s : Fin 16 → ℝ) (x V : Fin 16 → EReal) (l : Fin 4 → ℝ) (v : Fin 4 → EReal) (M m : ℝ) (Z : EReal)
    (hZ : Z = (∑ j : Fin 6, Ideal.exp ((s (sortedFrom (gtB x) (j.castLE (by decide))) : EReal) - M)) + ∑ g, Ideal.exp ((l g : EReal) - M)) :
    ((∑ j : Fin 6, Ideal.div (Ideal.exp ((s (sortedFrom (gtB x) (j.castLE (by decide))) : EReal) - M)) Z * V (sortedFrom (gtB x) (j.castLE (by decide))))
        + ∑ g, Ideal.div (Ideal.exp ((l g : EReal) - M)) Z * v g)
      = Sc.CAN s x V m (∑ g, Real.exp (l g - m)) (∑ g, v g * Ideal.exp ((l g : EReal) - m)) := by
  have ex : ∀ a b : ℝ, Ideal.exp ((a : EReal) - b) = ((Real.exp (a - b) : ℝ) : EReal) := fun a b => by
    rw [← EReal.coe_sub]; rfl
  rw [← Sc.ref_can s x V m (∑ g, Real.exp (l g - m)) M (Finset.sum_nonneg fun g _ => (Real.exp_pos _).le)]
  simp only [ex] at hZ ⊢
  have hg : ∀ g, Real.exp (m - M) * Real.exp (l g - m) = Real.exp (l g - M) := fun g => by
    rw [← Real.exp_add]; congr 1; ring
  have e1 : ((Real.exp (m - M) : ℝ) : EReal) * ((∑ g, Real.exp (l g - m) : ℝ) : EReal) = ∑ g, ((Real.exp (l g - M) : ℝ) : EReal) := by
    rw [← EReal.coe_mul, Finset.mul_sum, Sc.coe_sum]
    exact Finset.sum_congr rfl fun g _ => by rw [hg]
  have e2 : ((Real.exp (m - M) : ℝ) : EReal) * (∑ g, v g * ((Real.exp (l g - m) : ℝ) : EReal)) = ∑ g, ((Real.exp (l g - M) : ℝ) : EReal) * v g := by
    rw [Sc.mul_sum_nonneg _ _ (Real.exp_pos _).le]
    refine Finset.sum_congr rfl fun g _ => ?_
    rw [← hg, EReal.coe_mul, mul_assoc, mul_comm (v g)]
  rw [e1, e2, ← hZ]
  obtain ⟨R, hR, hp⟩ : ∃ R : ℝ, Z = R ∧ 0 < R := by
    refine ⟨(∑ j : Fin 6, Real.exp (s (sortedFrom (gtB x) (j.castLE (by decide))) - M)) + ∑ g, Real.exp (l g - M), ?_, ?_⟩
    · rw [hZ, EReal.coe_add, Sc.coe_sum, Sc.coe_sum]
    · exact add_pos_of_pos_of_nonneg (Finset.sum_pos (fun j _ => Real.exp_pos _) ⟨0, Finset.mem_univ _⟩) (Finset.sum_nonneg fun g _ => (Real.exp_pos _).le)
  rw [hR]
  have hr : 0 ≤ 1 / R := by positivity
  simp only [Ideal.div_coe hp.ne']
  rw [mul_comm _ (((1 / R : ℝ)) : EReal), Sc.mul_add_nonneg _ hr, Sc.mul_sum_nonneg _ _ hr, Sc.mul_sum_nonneg _ _ hr]
  refine congrArg₂ (· + ·) (Finset.sum_congr rfl fun j _ => ?_) (Finset.sum_congr rfl fun g _ => ?_)
  · rw [mul_comm _ (((1 / R : ℝ)) : EReal), mul_assoc]
  · rw [mul_comm _ (((1 / R : ℝ)) : EReal), mul_assoc]

end Cert.Proof.Win

end
-- ==== Proof.ScKer.lean ====
/-
  The kernel's output element, read off the array its call writes: the tile's slabs hold the arguments' elements at the positions of
  the window, so the group's row is the element of `ScMath` of the window's scores and values.
-/
module

public import proofs.«01_k».proof.Proof.ScHost
public import proofs.«01_k».proof.Proof.ScWin

@[expose] public section

noncomputable section

namespace Cert.Proof.Ker

open Cert.KernelIdeal Cert.KernelIdeal.Gen
open Idealize.ShloMosaic Idealize.SL.Sem
open Cert.Proof.Sc hiding ix3 ix4
open Cert.Proof.Win (bt bt_le kp sco xk pri)
open scoped BigOperators

/-- Lane `z` of a vector of sixteen. -/
abbrev ln (z : Fin 16) : S16.Idx := fun a => match a with | 0 => z

/-! ## The accumulators -/

theorem tup_at {F : FTy → Type} (A : ℕ → FVec F S16 .f32) (f : Fin 16) : tupF (tupA A) f.val = A f.val := by
  fin_cases f <;> rfl

theorem AA_apply (fq : S64x256.Idx → EReal) (fk : S17408.Idx → EReal) (w : IVec S16 32) (c f : ℕ) (i : S16.Idx) (n : ℕ) :
    AA (F := Ideal) fq fk w c n f i = ∑ d ∈ Finset.range n,
      rowV (F := Ideal) (row16 (F := Ideal) (h := 64) fq d c) i * gat (F := Ideal) fk (gx w (BitVec.ofNat 32 f) (BitVec.ofNat 32 d)) i := by
  induction n with
  | zero => exact c_zero
  | succ n ih => rw [Finset.sum_range_succ, ← ih]; rfl

theorem rowV_apply {h : ℕ} [NeZero h] (f : (⟨2, ![h, 256]⟩ : Shape).Idx → EReal) (n c : ℕ) (z : Fin 16) (hn : n < h) (hc : c + z.val < 256) :
    rowV (F := Ideal) (row16 (F := Ideal) (h := h) f n c) (ln z) = f (ix2 ⟨n, hn⟩ ⟨c + z.val, hc⟩) := by
  have e : rowV (F := Ideal) (row16 (F := Ideal) (h := h) f n c) (ln z) = row16 (F := Ideal) (h := h) f n c (ix2 0 z) := by
    have e' : (ln z) = (ix1 z : S16.Idx) := by
      funext a
      match a with
      | ⟨0, _⟩ => rfl
    rw [e']
    pointwise
  rw [e]
  unfold row16
  refine congrArg f ?_
  funext a
  match a with
  | ⟨0, _⟩ => exact Fin.ext (Nat.mod_eq_of_lt hn)
  | ⟨1, _⟩ => exact Fin.ext (Nat.mod_eq_of_lt hc)

/-! ## The words -/

theorem v8_eq (n : Fin 8) : v8N n.val = BitVec.ofNat 32 (kb n.val) := by
  have key : ∀ n : Fin 8, v8N n.val = BitVec.ofNat 32 (min 1776 (256 * n.val - 8)) := by decide +kernel
  exact key n

theorem tt_apply (n : Fin 8) (g z : Fin 16) : ttN lanes (v5N n.val) g.val (ln z) = BitVec.ofNat 32 (256 * n.val + 16 * g.val + z.val) := by
  have key : ∀ n : Fin 8, ∀ g : Fin 16, ∀ z : Fin 16, posW n.val g.val z.val = BitVec.ofNat 32 (256 * n.val + 16 * g.val + z.val) := by decide +kernel
  have e : lanes (ln z) = BitVec.ofNat 32 z.val := by
    show BitVec.ofNat 32 (0 * 16 + z.val) = _
    rw [Nat.zero_mul, Nat.zero_add]
  show Scalar.addi (v5N n.val) (Scalar.muli (BitVec.ofNat 32 g.val) 16#32) + lanes (ln z) = _
  rw [e]
  exact key n g z

theorem st_apply (tt : IVec S16 32) (i : S16.Idx) (t : Fin 2048) (h : tt i = BitVec.ofNat 32 t.val) : stv tt i = BitVec.ofNat 32 (bt t.val) := by
  show IntOp.minsi 2032#32 (IntOp.maxsi 0#32 (tt i - 8#32)) = _
  rw [h, Win.clipw]

theorem kb_le (n : ℕ) (t : ℕ) (h : t / 256 = n) : kb n ≤ bt t ∧ bt t ≤ kb n + 256 := by
  unfold kb bt
  omega

theorem w_toNat (tt : IVec S16 32) (i : S16.Idx) (n : Fin 8) (t : Fin 2048) (hn : t.val / 256 = n.val) (h : tt i = BitVec.ofNat 32 t.val) :
    (lst tt (v8N n.val) i).toNat = bt t.val - kb n.val := by
  show (stv tt i - v8N n.val).toNat = _
  rw [st_apply tt i t h, v8_eq]
  have h1 := kb_le n.val t.val hn
  have h2 := bt_le t.val
  rw [BitVec.toNat_sub, BitVec.toNat_ofNat, BitVec.toNat_ofNat]
  omega

/-! ## A gathered element -/

theorem gat_apply (a : FVec Ideal S16x64x2048 .f32) (h : Fin 16) (n : Fin 8) (tt : IVec S16 32) (i : S16.Idx) (t : Fin 2048) (hn : t.val / 256 = n.val)
    (htt : tt i = BitVec.ofNat 32 t.val) (f : Fin 16) (y : Fin 64) :
    gat (F := Ideal) (slab3 (F := Ideal) (a := 17408) (KH a) h n) (gx (lst tt (v8N n.val)) (BitVec.ofNat 32 f.val) (BitVec.ofNat 32 y.val)) i = a (ix3 h y (kp t f)) := by
  have hw := w_toNat tt i n t hn htt
  have hk := kb_le n.val t.val hn
  have hf := f.isLt
  have hy := y.isLt
  have hg := gx_toNat (lst tt (v8N n.val)) i f.val y.val (by rw [hw]; omega) f.isLt y.isLt
  rw [hw] at hg
  have hj : bt t.val - kb n.val + f.val < 272 := by omega
  have e : gat (F := Ideal) (slab3 (F := Ideal) (a := 17408) (KH a) h n) (gx (lst tt (v8N n.val)) (BitVec.ofNat 32 f.val) (BitVec.ofNat 32 y.val)) i
      = KH a (ix3 h n ⟨272 * y.val + (⟨bt t.val - kb n.val + f.val, hj⟩ : Fin 272).val, by show 272 * y.val + (bt t.val - kb n.val + f.val) < 17408; omega⟩) := by
    show KH a _ = KH a _
    refine congrArg (KH a) ?_
    funext c
    match c with
    | ⟨0, _⟩ => rfl
    | ⟨1, _⟩ => rfl
    | ⟨2, _⟩ =>
      refine Fin.ext ?_
      show (gx (lst tt (v8N n.val)) (BitVec.ofNat 32 f.val) (BitVec.ofNat 32 y.val) i).toNat % 17408 = 272 * y.val + (bt t.val - kb n.val + f.val)
      rw [hg]
      omega
  rw [e, KH_apply, CC_apply]
  refine congrArg (fun w => a (ix3 h y w)) (Fin.ext ?_)
  show kb n.val + (bt t.val - kb n.val + f.val) = bt t.val + f.val
  omega

/-! ## The element -/

/-- Head `h` of an array laid out with the position last. -/
abbrev tr (x : FVec Ideal S16x64x2048 .f32) (h : Fin 16) (s : Fin 2048) (d : Fin 64) : EReal := x (ix3 h d s)

theorem OUTA_apply (q k v og : FVec Ideal S16x64x2048 .f32) (mz : FVec Ideal S16x2x2048 .f32) (h : Fin 16) (t : Fin 2048) (d : Fin 64)
    (s : Fin 16 → ℝ) (m z : ℝ) (hs : ∀ f, sco (tr q h) (tr k h) t f = s f) (hm : mz (ix3 h 0 t) = m) (hz : mz (ix3 h 1 t) = z) (h0 : 0 ≤ z) :
    OUTA (F := Ideal) (QH q) (KH k) (KH v) (QH og) (MH mz)
        (ix4 h ⟨t.val / 256, by have := t.isLt; omega⟩ d ⟨t.val % 256, Nat.mod_lt _ (by decide)⟩)
      = CAN s (xk (tr q h) (tr k h) t) (fun f => v (ix3 h d (kp t f))) m z (og (ix3 h d t)) := by
  have ht := t.isLt
  obtain ⟨n, hn⟩ : ∃ n : Fin 8, n.val = t.val / 256 := ⟨⟨t.val / 256, by omega⟩, rfl⟩
  obtain ⟨g, hg⟩ : ∃ g : Fin 16, g.val = t.val % 256 / 16 := ⟨⟨t.val % 256 / 16, by omega⟩, rfl⟩
  obtain ⟨l, hl⟩ : ∃ l : Fin 16, l.val = t.val % 256 % 16 := ⟨⟨t.val % 256 % 16, by omega⟩, rfl⟩
  obtain ⟨tt, htt⟩ : ∃ tt, tt = ttN lanes (v5N n.val) g.val := ⟨_, rfl⟩
  have hti : tt (ln l) = BitVec.ofNat 32 t.val := by
    rw [htt, tt_apply]
    exact congrArg _ (by omega)
  have hcl : ∀ (r : ℕ) (hc : 16 * g.val + l.val < 256), (⟨256 * n.val + (16 * g.val + l.val), by have := n.isLt; omega⟩ : Fin 2048) = t := fun _ _ => Fin.ext (by
    show 256 * n.val + (16 * g.val + l.val) = t.val
    omega)
  have hc : 16 * g.val + l.val < 256 := by have := g.isLt; have := l.isLt; omega
  have eq0 : OUTA (F := Ideal) (QH q) (KH k) (KH v) (QH og) (MH mz)
        (ix4 h ⟨t.val / 256, by have := t.isLt; omega⟩ d ⟨t.val % 256, Nat.mod_lt _ (by decide)⟩)
      = ORow (F := Ideal) (slab4 (F := Ideal) (a := 64) (b := 256) (QH q) h n) (slab3 (F := Ideal) (a := 17408) (KH k) h n) (slab3 (F := Ideal) (a := 17408) (KH v) h n)
          (slab4 (F := Ideal) (a := 64) (b := 256) (QH og) h n) (slab4 (F := Ideal) (a := 2) (b := 256) (MH mz) h n) tt (lst tt (v8N n.val)) (16 * g.val) d.val (ln l) := by
    have en : (⟨t.val / 256, by have := t.isLt; omega⟩ : Fin 8) = n := Fin.ext hn.symm
    have el : (⟨t.val % 256 % 16, Nat.mod_lt _ (by decide)⟩ : Fin 16) = l := Fin.ext hl.symm
    rw [en, htt, hg, ← el]
    rfl
  have row : ∀ (b : FVec Ideal S16x64x2048 .f32) (y : Fin 64),
      rowV (F := Ideal) (row16 (F := Ideal) (h := 64) (slab4 (F := Ideal) (a := 64) (b := 256) (QH b) h n) y.val (16 * g.val)) (ln l) = b (ix3 h y t) := by
    intro b y
    rw [rowV_apply _ _ _ l y.isLt hc]
    refine Eq.trans (b := QH b (ix4 h n y ⟨16 * g.val + l.val, hc⟩)) ?_ ?_
    · refine congrArg (QH b) ?_
      funext c
      match c with
      | ⟨0, _⟩ => rfl
      | ⟨1, _⟩ => rfl
      | ⟨2, _⟩ => rfl
      | ⟨3, _⟩ => rfl
    · rw [QH_apply]
      exact congrArg (fun w => b (ix3 h y w)) (hcl 0 hc)
  have rowm : ∀ (y : Fin 2),
      rowV (F := Ideal) (row16 (F := Ideal) (h := 2) (slab4 (F := Ideal) (a := 2) (b := 256) (MH mz) h n) y.val (16 * g.val)) (ln l) = mz (ix3 h y t) := by
    intro y
    rw [rowV_apply _ _ _ l y.isLt hc]
    refine Eq.trans (b := MH mz (ix4 h n y ⟨16 * g.val + l.val, hc⟩)) ?_ ?_
    · refine congrArg (MH mz) ?_
      funext c
      match c with
      | ⟨0, _⟩ => rfl
      | ⟨1, _⟩ => rfl
      | ⟨2, _⟩ => rfl
      | ⟨3, _⟩ => rfl
    · rw [MH_apply]
      exact congrArg (fun w => mz (ix3 h y w)) (hcl 0 hc)
  obtain ⟨A, hA⟩ : ∃ A, A = tupF (F := Ideal) (tupA (AA (F := Ideal) (slab4 (F := Ideal) (a := 64) (b := 256) (QH q) h n) (slab3 (F := Ideal) (a := 17408) (KH k) h n)
    (lst tt (v8N n.val)) (16 * g.val) 64)) := ⟨_, rfl⟩
  have hsc : ∀ f : Fin 16, scr A f.val (ln l) = sco (tr q h) (tr k h) t f := by
    intro f
    show A f.val (ln l) * Ideal.ofBits .f32 0x3E000000#32 = _
    rw [hA, tup_at, AA_apply, c_eighth]
    unfold sco
    refine congrArg (· * _) ?_
    rw [Finset.sum_range]
    refine Finset.sum_congr rfl fun y _ => ?_
    rw [row q y, gat_apply k h n tt (ln l) t hn.symm hti f y]
  have hx : ∀ f : Fin 16, slr (stv tt) tt A f.val (ln l) = xk (tr q h) (tr k h) t f := by
    intro f
    show scr A f.val (ln l) + Ideal.ofBits .f32 0x3E4CCCCD#32 * Ideal.exp
      ((((IntOp.absi (stv tt (ln l) + BitVec.ofNat 32 f.val - tt (ln l))).toInt : ℝ) : EReal) * Ideal.ofBits .f32 0xBE000000#32) = _
    rw [hsc, st_apply tt _ t hti, hti, c_neighth, ← BitVec.ofNat_add]
    rfl
  rw [eq0]
  unfold ORow
  rw [← hA]
  have hfin := kernel_can (stv tt) tt A (ln l) s (fun f => (hsc f).trans (hs f)) (xk (tr q h) (tr k h) t) (fun f => v (ix3 h d (kp t f))) hx
    (rowV (F := Ideal) (row16 (F := Ideal) (h := 2) (slab4 (F := Ideal) (a := 2) (b := 256) (MH mz) h n) 0 (16 * g.val)))
    (rowV (F := Ideal) (row16 (F := Ideal) (h := 2) (slab4 (F := Ideal) (a := 2) (b := 256) (MH mz) h n) 1 (16 * g.val)))
    (rowV (F := Ideal) (row16 (F := Ideal) (h := 64) (slab4 (F := Ideal) (a := 64) (b := 256) (QH og) h n) d.val (16 * g.val)))
    (fun f => gat (F := Ideal) (slab3 (F := Ideal) (a := 17408) (KH v) h n) (gx (lst tt (v8N n.val)) (BitVec.ofNat 32 f) (BitVec.ofNat 32 d.val)))
    (fun f => gat_apply v h n tt (ln l) t hn.symm hti f d) m z ((rowm 0).trans hm) ((rowm 1).trans hz) h0
  rw [row og d] at hfin
  exact hfin

end Cert.Proof.Ker

end
-- ==== Proof.ScArg.lean ====
/-
  Repeated searches for the first largest entry: with every entry found lowered below all others, the i-th search finds the place a
  stable sort puts i-th. And the choice of keys as plain mathematics: similarities, scores, the twelve best, four of them greedily.
-/
module

public import proofs.«01_k».proof.Proof.ScTop
public import Idealize.ShloMosaic.Lib.IdealHost
public import Idealize.ShloMosaic.Lib.StableHlo.Predicate

@[expose] public section

noncomputable section

namespace Cert.Proof.Sel

open Idealize.ShloMosaic Idealize.ShloMosaic.StableHlo
open Cert.Proof.Top
open scoped BigOperators

section Search

variable {n : ℕ} {α : Type} [LinearOrder α]

/-- Place `p` holds the largest entry, and no earlier place does. -/
def Fst (x : Fin n → α) (p : Fin n) : Prop := (∀ j, x j ≤ x p) ∧ ∀ j, x j = x p → p ≤ j

/-- The entries with those at the first `i` places of the sort lowered. -/
def cur (x : Fin n → α) (c : α) (i : ℕ) : Fin n → α := fun j => if rank x j < i then c else x j

theorem cur_zero (x : Fin n → α) (c : α) : cur x c 0 = x := funext fun j => if_neg (Nat.not_lt_zero _)

theorem cur_at (x : Fin n → α) (c : α) (i : Fin n) : cur x c i.val (sortedFrom (gtB x) i) = x (sortedFrom (gtB x) i) :=
  if_neg (by rw [rank_sorted]; exact lt_irrefl _)

theorem fst_cur (x : Fin n → α) (c : α) (hc : ∀ j, c < x j) (i : Fin n) : Fst (cur x c i.val) (sortedFrom (gtB x) i) := by
  refine ⟨fun j => ?_, fun j => ?_⟩
  · rw [cur_at]
    obtain ⟨k, rfl⟩ := (sortedE x).surjective j
    show cur x c i.val (sortedFrom (gtB x) k) ≤ _
    unfold cur
    rw [rank_sorted]
    split
    · exact (hc _).le
    · next h =>
      rcases lt_or_eq_of_le (not_lt.mp h) with h' | h'
      · rcases sorted_bef x (show i < k from h') with hb | ⟨hb, -⟩
        · exact hb.le
        · exact hb.symm.le
      · rw [show i = k from Fin.ext h']
  · rw [cur_at]
    obtain ⟨k, rfl⟩ := (sortedE x).surjective j
    show cur x c i.val (sortedFrom (gtB x) k) = _ → sortedFrom (gtB x) i ≤ sortedFrom (gtB x) k
    unfold cur
    rw [rank_sorted]
    split
    · intro h; exact absurd h (hc _).ne
    · next h =>
      intro he
      rcases lt_or_eq_of_le (not_lt.mp h) with h' | h'
      · rcases sorted_bef x (show i < k from h') with hb | ⟨-, hb⟩
        · exact absurd he hb.ne
        · exact hb.le
      · rw [show i = k from Fin.ext h']

theorem cur_succ (x : Fin n → α) (c : α) (i : Fin n) (j : Fin n) :
    (if j = sortedFrom (gtB x) i then c else cur x c i.val j) = cur x c (i.val + 1) j := by
  obtain ⟨k, rfl⟩ := (sortedE x).surjective j
  show (if sortedFrom (gtB x) k = sortedFrom (gtB x) i then c else cur x c i.val (sortedFrom (gtB x) k)) = cur x c (i.val + 1) (sortedFrom (gtB x) k)
  unfold cur
  rw [rank_sorted]
  by_cases h : k = i
  · rw [h, if_pos rfl, if_pos (Nat.lt_succ_self _)]
  · have h1 : sortedFrom (gtB x) k ≠ sortedFrom (gtB x) i := fun e => h (sortedFrom_injective _ e)
    have h2 : k.val ≠ i.val := fun e => h (Fin.ext e)
    rw [if_neg h1]
    by_cases h3 : k.val < i.val
    · rw [if_pos h3, if_pos (by omega)]
    · rw [if_neg h3, if_neg (by omega)]

theorem fst_sorted (x : Fin n → α) (i : Fin n) (hi : i.val = 0) : Fst x (sortedFrom (gtB x) i) := by
  refine ⟨fun j => ?_, fun j => ?_⟩ <;> obtain ⟨k, rfl⟩ := (sortedE x).surjective j <;>
    rcases Nat.eq_zero_or_pos k.val with h | h
  · rw [show i = k from Fin.ext (hi.trans h.symm)]; exact le_rfl
  · rcases sorted_bef x (show i < k from Fin.lt_def.mpr (by omega)) with hb | ⟨hb, -⟩
    · exact hb.le
    · exact hb.symm.le
  · intro _; rw [show i = k from Fin.ext (hi.trans h.symm)]; exact le_rfl
  · intro he
    rcases sorted_bef x (show i < k from Fin.lt_def.mpr (by omega)) with hb | ⟨-, hb⟩
    · exact absurd he hb.ne
    · exact hb.le

end Search

/-- The largest of the entries. -/
theorem fold_fst {n : ℕ} (x : Fin n → EReal) (p : Fin n) (h : Fst x p) : Finset.univ.fold max (⊥ : EReal) x = x p := by
  refine le_antisymm ?_ ?_
  · rw [Finset.fold_max_le]
    exact ⟨bot_le, fun j _ => h.1 j⟩
  · rw [Finset.le_fold_max]
    exact Or.inr ⟨p, Finset.mem_univ _, le_rfl⟩

theorem minsi_of (a b : ℕ) (ha : a < 2 ^ 31) (hb : b < 2 ^ 31) :
    IntOp.minsi (BitVec.ofNat 32 a) (BitVec.ofNat 32 b) = BitVec.ofNat 32 (min a b) := by
  unfold IntOp.minsi
  have h := Predicate.slt_ofNat_iff a b ha hb
  by_cases hl : a < b
  · rw [min_eq_left hl.le, if_pos ((Predicate.ofBool_eq_one_iff _).mp (h.mpr hl))]
  · rw [min_eq_right (not_lt.mp hl), if_neg (fun hh => hl (h.mp ((Predicate.ofBool_eq_one_iff _).mpr hh)))]

theorem fold_minsi {ι : Type} (s : Finset ι) (w : ι → ℕ) (hw : ∀ i, w i < 2 ^ 31) :
    s.fold IntOp.minsi 2147483647#32 (fun i => BitVec.ofNat 32 (w i)) = BitVec.ofNat 32 (s.fold min 2147483647 w)
      ∧ s.fold min 2147483647 w < 2 ^ 31 := by
  classical
  induction s using Finset.induction_on with
  | empty => exact ⟨rfl, by norm_num⟩
  | insert a s h ih =>
    rw [Finset.fold_insert h, Finset.fold_insert h, ih.1, minsi_of _ _ (hw a) ih.2]
    exact ⟨rfl, lt_of_le_of_lt (min_le_left _ _) (hw a)⟩

/-- The least place of the largest entry, found among words. -/
theorem fold_pos {n : ℕ} (hn : n < 2 ^ 31) (x : Fin n → EReal) (p : Fin n) (h : Fst x p) (w : Fin n → BitVec 32)
    (hw : ∀ j, w j = if x j = x p then BitVec.ofNat 32 j.val else BitVec.ofNat 32 n) :
    Finset.univ.fold IntOp.minsi 2147483647#32 w = BitVec.ofNat 32 p.val := by
  classical
  have e : w = fun j => BitVec.ofNat 32 (if x j = x p then j.val else n) := by
    funext j; rw [hw j]; split <;> rfl
  rw [e, (fold_minsi Finset.univ _ (fun j => by have := j.isLt; split <;> omega)).1]
  refine congrArg _ (le_antisymm ?_ ?_)
  · rw [Finset.fold_min_le]
    exact Or.inr ⟨p, Finset.mem_univ _, by rw [if_pos rfl]⟩
  · rw [Finset.le_fold_min]
    have := p.isLt
    refine ⟨by omega, fun j _ => ?_⟩
    split
    · next hj => exact h.2 j hj
    · omega

theorem fold_snd {n : ℕ} {β : Type} (op : β → β → β) [Std.Commutative op] [Std.Associative op] (b : β) (f : Fin n → β) :
    (Finset.univ : Finset (Fin 1 × Fin n)).fold op b (fun x => f x.2) = Finset.univ.fold op b f := by
  have e : (Finset.univ : Finset (Fin 1 × Fin n)) = Finset.univ.map ⟨fun j : Fin n => ((0 : Fin 1), j), fun a b h => (Prod.mk.inj h).2⟩ := by
    ext ⟨a, j⟩
    simp only [Finset.mem_univ, Finset.mem_map, true_and, Function.Embedding.coeFn_mk, true_iff]
    exact ⟨j, Prod.ext (Subsingleton.elim _ _) rfl⟩
  rw [e, Finset.fold_map]
  rfl

/-- A sum of words with one that is not zero. -/
theorem fold_addi {n : ℕ} (p : Fin n) (w : Fin n → BitVec 32) (s : Finset (Fin n)) :
    s.fold IntOp.addi 0#32 (fun j => if j = p then w j else 0#32) = if p ∈ s then w p else 0#32 := by
  classical
  induction s using Finset.induction_on with
  | empty => rfl
  | insert a s h ih =>
    rw [Finset.fold_insert h, ih]
    unfold IntOp.addi
    by_cases ha : a = p
    · subst ha
      rw [if_pos rfl, if_neg h, if_pos (Finset.mem_insert_self _ _), BitVec.add_zero]
    · have hi : p ∈ insert a s ↔ p ∈ s := by
        rw [Finset.mem_insert]; exact ⟨fun h' => h'.resolve_left (fun e => ha e.symm), Or.inr⟩
      rw [if_neg ha, BitVec.zero_add]
      exact if_congr hi.symm rfl rfl

theorem cmpi_of (a b : ℕ) (ha : a < 2 ^ 32) (hb : b < 2 ^ 32) :
    IntOp.cmpi CmpIPredicate.eq (BitVec.ofNat 32 a) (BitVec.ofNat 32 b) = if a = b then 1#1 else 0#1 := by
  show BitVec.ofBool (BitVec.ofNat 32 a == BitVec.ofNat 32 b) = _
  by_cases h : a = b
  · rw [if_pos h, h, beq_self_eq_true]; rfl
  · have hn : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    rw [if_neg h, beq_false_of_ne hn]; rfl

theorem select_of {β : Type} (c : Prop) [Decidable c] (x y : β) : Scalar.select (if c then 1#1 else 0#1) x y = if c then x else y := by
  unfold Scalar.select
  by_cases h : c
  · rw [if_pos h, if_pos h]; rfl
  · rw [if_neg h, if_neg h]; rfl

theorem hotw (a b : ℕ) (ha : a < 2 ^ 32) (hb : b < 2 ^ 32) :
    FloatOps.sitofp (F := Ideal) .f32 (BitVec.setWidth 32 (IntOp.cmpi CmpIPredicate.eq (BitVec.ofNat 32 a) (BitVec.ofNat 32 b))) = if a = b then (1 : EReal) else 0 := by
  rw [cmpi_of a b ha hb]
  by_cases h : a = b
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp

theorem sum_hot {n : ℕ} (hn : n ≤ 2 ^ 32) (p : Fin n) (y : Fin n → EReal) :
    (∑ j : Fin n, FloatOps.sitofp (F := Ideal) .f32 (BitVec.setWidth 32 (IntOp.cmpi CmpIPredicate.eq (BitVec.ofNat 32 j.val) (BitVec.ofNat 32 p.val))) * y j) = y p := by
  rw [Finset.sum_eq_single p]
  · rw [hotw _ _ (p.isLt.trans_le hn) (p.isLt.trans_le hn), if_pos rfl]; exact one_mul _
  · intro j _ hj
    rw [hotw _ _ (j.isLt.trans_le hn) (p.isLt.trans_le hn), if_neg (fun e => hj (Fin.ext e))]; exact zero_mul _
  · intro h; exact absurd (Finset.mem_univ _) h

/-! ## Constants -/

theorem c_bot : Ideal.ofBits .f32 4286578688#32 = (⊥ : EReal) := by simp [Ideal.ofBits, Ideal.ieee]
theorem c_low : Ideal.ofBits .f32 4048155338#32 < (0 : EReal) := by
  simp [Ideal.ofBits, Ideal.ieee]
  exact_mod_cast (by positivity : (0 : ℝ) < 13234890 * 2 ^ 76)
theorem c_32 : Ideal.ofBits .f32 0x42000000#32 = ((32 : ℝ) : EReal) := by
  simp [Ideal.ofBits, Ideal.ieee]; rw [← EReal.coe_mul]; norm_num
theorem c_31 : Ideal.ofBits .f32 0x41F80000#32 = ((31 : ℝ) : EReal) := by
  simp [Ideal.ofBits, Ideal.ieee]; rw [← EReal.coe_mul]; norm_num
theorem c_6 : Ideal.ofBits .f32 0x40C00000#32 = ((6 : ℝ) : EReal) := by
  simp [Ideal.ofBits, Ideal.ieee]; rw [← EReal.coe_mul]; norm_num
theorem c_w1 : 0 ≤ Ideal.ofBits .f32 0x3F19999A#32 := by
  simp [Ideal.ofBits, Ideal.ieee]; rw [← EReal.coe_mul]; norm_cast; norm_num
theorem c_w2 : 0 ≤ Ideal.ofBits .f32 0x3ECCCCCD#32 := by
  simp [Ideal.ofBits, Ideal.ieee]; rw [← EReal.coe_mul]; norm_cast; norm_num
theorem c_w3 : 0 ≤ Ideal.ofBits .f32 0x3E4CCCCD#32 := by
  simp [Ideal.ofBits, Ideal.ieee]; rw [← EReal.coe_mul]; norm_cast; norm_num

theorem div_nonneg' (x : EReal) (r : ℝ) (hr : 0 < r) (hx : 0 ≤ x) : 0 ≤ Ideal.div x (r : EReal) := by
  rw [Ideal.div_coe hr.ne']
  exact mul_nonneg hx (by exact_mod_cast (one_div_pos.mpr hr).le)

theorem sq_nonneg' (x : EReal) : 0 ≤ x * x := by
  induction x with
  | bot => simp
  | top => simp
  | coe r => exact_mod_cast mul_self_nonneg r

theorem sqrt_nonneg' (x : EReal) (hx : 0 ≤ x) : 0 ≤ Ideal.sqrt x := by
  induction x with
  | bot => simp at hx
  | top => simp
  | coe r =>
    have hr : 0 ≤ r := by exact_mod_cast hx
    rw [Ideal.sqrt_coe, if_neg (not_lt.mpr hr)]
    exact_mod_cast Real.sqrt_nonneg r

/-! ## The choice -/

/-- The sampled positions. -/
def ip : Fin 32 → Fin 2048 := ![0, 66, 132, 198, 264, 330, 396, 462, 528, 594, 660, 726, 792, 858, 924, 990, 1057, 1123, 1189, 1255, 1321,
  1387, 1453, 1519, 1585, 1651, 1717, 1783, 1849, 1915, 1981, 2047]

/-- A row over its norm. -/
def nz (x : Fin 2048 → Fin 64 → EReal) (s : Fin 2048) (d : Fin 64) : EReal :=
  Ideal.div (x s d) (max (Ideal.sqrt (∑ e, x s e * x s e)) (Ideal.ofBits .f32 0x358637BD#32))

/-- Similarity of key `s` to sampled query `p`, cut below at zero. -/
def SM (k q : Fin 2048 → Fin 64 → EReal) (p : Fin 32) (s : Fin 2048) : EReal := max (∑ d, nz q (ip p) d * nz k s d) 0

theorem SM_nonneg (k q : Fin 2048 → Fin 64 → EReal) (p : Fin 32) (s : Fin 2048) : 0 ≤ SM k q p s := le_max_right _ _

/-- The mean of a column. -/
def mean (y : Fin 32 → EReal) : EReal := Ideal.div (∑ p, y p) (Ideal.ofBits .f32 0x42000000#32)

/-- A column's score: mean, maximum, mean of the six largest and standard deviation, weighted. -/
def score (y : Fin 32 → EReal) : EReal :=
  mean y + Ideal.ofBits .f32 0x3F19999A#32 * Finset.univ.fold max ⊥ y
    + Ideal.ofBits .f32 0x3ECCCCCD#32 * Ideal.div (∑ j : Fin 6, y (sortedFrom (gtB y) (j.castLE (by decide)))) (Ideal.ofBits .f32 0x40C00000#32)
    + Ideal.ofBits .f32 0x3E4CCCCD#32 * Ideal.sqrt (Ideal.div (∑ p, (y p - mean y) * (y p - mean y)) (Ideal.ofBits .f32 0x41F80000#32))

theorem score_nonneg (y : Fin 32 → EReal) (hy : ∀ p, 0 ≤ y p) : 0 ≤ score y := by
  unfold score mean
  rw [c_32, c_31, c_6]
  refine add_nonneg (add_nonneg (add_nonneg ?_ ?_) ?_) ?_
  · exact div_nonneg' _ _ (by norm_num) (Finset.sum_nonneg fun p _ => hy p)
  · refine mul_nonneg c_w1 ?_
    rw [Finset.le_fold_max]
    exact Or.inr ⟨0, Finset.mem_univ _, hy 0⟩
  · exact mul_nonneg c_w2 (div_nonneg' _ _ (by norm_num) (Finset.sum_nonneg fun p _ => hy _))
  · exact mul_nonneg c_w3 (sqrt_nonneg' _ (div_nonneg' _ _ (by norm_num) (Finset.sum_nonneg fun p _ => sq_nonneg' _)))

/-- The twelve best. -/
def top (u : Fin 2048 → EReal) (j : Fin 12) : Fin 2048 := sortedFrom (gtB u) (j.castLE (by decide))

/-- What each of the twelve would add to the running maximum `m`. -/
def gain (A : Fin 32 → Fin 12 → EReal) (m : Fin 32 → EReal) (b : Fin 12 → Bool) (j : Fin 12) : EReal :=
  if b j = true then Ideal.ofBits .f32 0xCE6E6B28#32 else ∑ p, max (A p j - m p) 0

/-- The first that adds most. -/
def best (A : Fin 32 → Fin 12 → EReal) (m : Fin 32 → EReal) (b : Fin 12 → Bool) : Fin 12 := sortedFrom (gtB (gain A m b)) 0

/-- The running maximum and the taken. -/
def st (A : Fin 32 → Fin 12 → EReal) : ℕ → (Fin 32 → EReal) × (Fin 12 → Bool)
  | 0 => (fun _ => 0, fun _ => false)
  | n + 1 => (fun p => max ((st A n).1 p) (A p (best A (st A n).1 (st A n).2)),
      fun i => (st A n).2 i || decide (i = best A (st A n).1 (st A n).2))

def jr (A : Fin 32 → Fin 12 → EReal) (n : ℕ) : Fin 12 := best A (st A n).1 (st A n).2

/-- The chosen keys. -/
def pickd (S : Fin 32 → Fin 2048 → EReal) (n : ℕ) : Fin 2048 :=
  top (fun s => score fun p => S p s) (jr (fun p j => S p (top (fun s => score fun p => S p s) j)) n)

/-! ## Attention to the four -/

variable (k q v : Fin 2048 → Fin 64 → EReal)

/-- Chosen key `g`. -/
def ck (g : Fin 4) : Fin 2048 := pickd (SM k q) g.val

/-- Its scaled product with query `t`. -/
def lgt (g : Fin 4) (t : Fin 2048) : EReal := (∑ d, k (ck k q g) d * q t d) * ((1 / 8 : ℝ) : EReal)

def gmax (t : Fin 2048) : EReal := Finset.univ.fold max ⊥ fun g => lgt k q g t
def gsum (t : Fin 2048) : EReal := ∑ g, Ideal.exp (lgt k q g t - gmax k q t)
def gout (t : Fin 2048) (d : Fin 64) : EReal := ∑ g, v (ck k q g) d * Ideal.exp (lgt k q g t - gmax k q t)

end Cert.Proof.Sel

end
-- ==== Proof.ScTcIdeal.lean ====
/-
  The dense part's definitions over extended reals, read at an index: each search finds the place the sort puts there, each sum
  against an indicator is one entry, and the four keys are the ones `pickd` names.
-/
module

public import proofs.«01_k».proof.Proof.ScTcVal
public import proofs.«01_k».proof.Proof.ScArg
public import proofs.«01_k».proof.Proof.ScMath
public import Idealize.ShloMosaic.Lib.Pointwise
public import Idealize.ShloMosaic.PureOps.Ideal.Laws
public import Idealize.ShloMosaic.PureOps.Reduce

@[expose] public section

set_option synthInstance.maxSize 4096

noncomputable section

namespace Cert.Proof.Tc

open Cert.KernelIdeal Cert.KernelIdeal.Gen
open Idealize.ShloMosaic Idealize.SL.Sem
open Cert.Proof.Sel Cert.Proof.Top
open scoped BigOperators

theorem protos_apply (q : FVec Ideal S2048x64 .f32) (p : Fin 32) (d : Fin 64) : protos q (ix2 p d) = q (ix2 (ip p) d) := by
  fin_cases p <;> pointwise [protos, row1, row0] <;> rfl

theorem smat_apply (kb q : FVec Ideal S2048x64 .f32) (p : Fin 32) (s : Fin 2048) :
    smat kb q (ix2 p s) = max (∑ d, q (ix2 (ip p) d) * kb (ix2 s d)) 0 := by
  pointwise [smat]
  refine congrArg (fun y : EReal => max y 0) (Finset.sum_congr rfl fun d _ => ?_)
  rw [protos_apply]

theorem normed_apply (x : FVec Ideal S2048x64 .f32) (n : FVec Ideal S2048x1 .f32) (e : Ideal .f32) (s : Fin 2048) (d : Fin 64) :
    normed x n e (ix2 s d) = Ideal.div (x (ix2 s d)) (max (n (ix2 s 0)) e) := by
  pointwise [normed]

/-! ## A column's score -/

theorem rowSum_apply (s : FVec Ideal S32x2048 .f32) (t : Fin 2048) : rowSum s (ix2 0 t) = ∑ p, s (ix2 p t) := by
  pointwise [rowSum]
theorem rowMax_apply (s : FVec Ideal S32x2048 .f32) (t : Fin 2048) : rowMax s (ix2 0 t) = Finset.univ.fold max ⊥ fun p => s (ix2 p t) := by
  pointwise [rowMax]
  rw [c_bot]
theorem rowMin_apply (s : FVec Ideal S32x2048 .f32) (t : Fin 2048) (p : Fin 32) (h : Fst (fun r => s (ix2 r t)) p) :
    rowMin (rowSel s) (ix2 0 t) = BitVec.ofNat 32 p.val := by
  pointwise [rowMin, rowSel, iotaP]
  refine fold_pos (by norm_num) (fun r => s (ix2 r t)) p h _ fun j => ?_
  rw [rowMax_apply, fold_fst _ p h]
theorem rowNx_apply (s : FVec Ideal S32x2048 .f32) (t : Fin 2048) (p : Fin 32) (h : Fst (fun r => s (ix2 r t)) p) (r : Fin 32) :
    rowNx s (ix2 r t) = if r = p then Ideal.ofBits .f32 4048155338#32 else s (ix2 r t) := by
  pointwise [rowNx, iotaP]
  rw [rowMin_apply s t p h, cmpi_of _ _ (by have := r.isLt; omega) (by have := p.isLt; omega), select_of]
  exact if_congr Fin.ext_iff.symm rfl rfl

/-- The rounds of the top-six search. -/
def rit (s : FVec Ideal S32x2048 .f32) : ℕ → FVec Ideal S32x2048 .f32
  | 0 => s
  | n + 1 => rowNx (rit s n)

theorem rit_apply (s : FVec Ideal S32x2048 .f32) (t : Fin 2048) (h : ∀ p, 0 ≤ s (ix2 p t)) :
    ∀ n, n ≤ 32 → (fun p => rit s n (ix2 p t)) = cur (fun p => s (ix2 p t)) (Ideal.ofBits .f32 4048155338#32) n
  | 0, _ => (cur_zero _ _).symm
  | n + 1, hn => by
      have ih := rit_apply s t h n (by omega)
      have hf := fst_cur (fun p => s (ix2 p t)) (Ideal.ofBits .f32 4048155338#32) (fun p => c_low.trans_le (h p)) ⟨n, hn⟩
      rw [← ih] at hf
      funext r
      show rowNx (rit s n) (ix2 r t) = _
      rw [rowNx_apply _ t _ hf r, ← cur_succ _ _ ⟨n, hn⟩ r]
      exact if_congr Iff.rfl rfl (congrFun ih r)

theorem rmax_apply (s : FVec Ideal S32x2048 .f32) (t : Fin 2048) (h : ∀ p, 0 ≤ s (ix2 p t)) (n : Fin 32) :
    rowMax (rit s n.val) (ix2 0 t) = s (ix2 (sortedFrom (gtB fun p => s (ix2 p t)) n) t) := by
  rw [rowMax_apply, rit_apply s t h n.val n.isLt.le,
    fold_fst _ _ (fst_cur (fun p => s (ix2 p t)) (Ideal.ofBits .f32 4048155338#32) (fun p => c_low.trans_le (h p)) n), cur_at]

theorem score_apply (s : FVec Ideal S32x2048 .f32) (a b c : FVec Ideal S1x2048 .f32) (t : Fin 2048) :
    Tc.score s a b c (ix2 0 t) = a (ix2 0 t) + Ideal.ofBits .f32 0x3F19999A#32 * b (ix2 0 t)
      + Ideal.ofBits .f32 0x3ECCCCCD#32 * Ideal.div (c (ix2 0 t)) (Ideal.ofBits .f32 0x40C00000#32)
      + Ideal.ofBits .f32 0x3E4CCCCD#32 * Ideal.sqrt (Ideal.div (∑ p, (s (ix2 p t) - a (ix2 0 t)) * (s (ix2 p t) - a (ix2 0 t))) (Ideal.ofBits .f32 0x41F80000#32)) := by
  pointwise [Tc.score]
  rw [rowSum_apply]
  pointwise []

theorem rowMean_apply (s : FVec Ideal S32x2048 .f32) (t : Fin 2048) : rowMean s (ix2 0 t) = mean fun p => s (ix2 p t) := by
  pointwise [rowMean]
  rw [rowSum_apply]
  rfl

theorem acc_apply (s : FVec Ideal S32x2048 .f32) (t : Fin 2048) :
    acc3 (acc3 zrow s) (rowNx (rowNx (rowNx s))) (ix2 0 t) = ∑ j : Fin 6, rowMax (rit s j.val) (ix2 0 t) := by
  rw [Fin.sum_univ_six]
  pointwise [acc3, zrow]
  rfl

theorem scoreOf_apply (s : FVec Ideal S32x2048 .f32) (t : Fin 2048) (h : ∀ p, 0 ≤ s (ix2 p t)) :
    scoreOf s (ix2 0 t) = Sel.score fun p => s (ix2 p t) := by
  unfold scoreOf
  rw [score_apply, rowMean_apply, rowMax_apply, acc_apply]
  unfold Sel.score
  have e : (∑ j : Fin 6, rowMax (rit s j.val) (ix2 0 t)) = ∑ j : Fin 6, s (ix2 (sortedFrom (gtB fun p => s (ix2 p t)) (j.castLE (by decide))) t) :=
    Finset.sum_congr rfl fun j _ => rmax_apply s t h (j.castLE (by decide))
  rw [e]

/-! ## The twelve -/

theorem gmx_apply (u : FVec Ideal S1x2048 .f32) : gmx u (ix3 0 0 0) = Finset.univ.fold max ⊥ fun p => u (ix2 0 p) := by
  pointwise [gmx, gl]
  rw [c_bot]
  exact fold_snd max ⊥ fun p => u (ix2 0 p)
theorem gpos_apply (u : FVec Ideal S1x2048 .f32) (p : Fin 2048) (h : Fst (fun r => u (ix2 0 r)) p) : gpos u = BitVec.ofNat 32 p.val := by
  pointwise [gpos, gsel3, gsel, geq, gmb, iotaS]
  rw [gmx_apply, fold_fst _ p h]
  refine (fold_snd (n := 2048) IntOp.minsi 2147483647#32 fun x => if u (ix2 0 x) = u (ix2 0 p) then BitVec.ofNat 32 x.val else 2048#32).trans ?_
  exact fold_pos (by norm_num) (fun r => u (ix2 0 r)) p h _ fun j => rfl
theorem gnx_apply (u : FVec Ideal S1x2048 .f32) (p : Fin 2048) (h : Fst (fun r => u (ix2 0 r)) p) (r : Fin 2048) :
    gnx u (ix2 0 r) = if r = p then Ideal.ofBits .f32 4048155338#32 else u (ix2 0 r) := by
  pointwise [gnx, iotaS]
  rw [gpos_apply u p h, cmpi_of _ _ (by have := r.isLt; omega) (by have := p.isLt; omega), select_of]
  exact if_congr Fin.ext_iff.symm rfl rfl
theorem git_apply (u : FVec Ideal S1x2048 .f32) (h : ∀ r, 0 ≤ u (ix2 0 r)) :
    ∀ n, n ≤ 2048 → (fun r => git u n (ix2 0 r)) = cur (fun r => u (ix2 0 r)) (Ideal.ofBits .f32 4048155338#32) n
  | 0, _ => (cur_zero _ _).symm
  | n + 1, hn => by
      have ih := git_apply u h n (by omega)
      have hf := fst_cur (fun r => u (ix2 0 r)) (Ideal.ofBits .f32 4048155338#32) (fun p => c_low.trans_le (h p)) ⟨n, hn⟩
      rw [← ih] at hf
      funext r
      show gnx (git u n) (ix2 0 r) = _
      rw [gnx_apply _ _ hf r, ← cur_succ _ _ ⟨n, hn⟩ r]
      exact if_congr Iff.rfl rfl (congrFun ih r)
theorem pos_apply (u : FVec Ideal S1x2048 .f32) (h : ∀ r, 0 ≤ u (ix2 0 r)) (j : Fin 12) :
    gpos (git u j.val) = BitVec.ofNat 32 (top (fun r => u (ix2 0 r)) j).val := by
  have hf := fst_cur (fun r => u (ix2 0 r)) (Ideal.ofBits .f32 4048155338#32) (fun p => c_low.trans_le (h p)) (j.castLE (by decide))
  rw [← git_apply u h _ (j.castLE (by decide : 12 ≤ 2048)).isLt.le] at hf
  exact gpos_apply _ _ hf

theorem gcol_apply (p : Fin 2048) (s : FVec Ideal S32x2048 .f32) (r : Fin 32) : gcol (BitVec.ofNat 32 p.val) s (ix2 r 0) = s (ix2 r p) := by
  pointwise [gcol, iotaS]
  exact sum_hot (n := 2048) (by norm_num) p fun x => s (ix2 r x)
theorem ssub_apply (P : ℕ → BitVec 32) (s : FVec Ideal S32x2048 .f32) (r : Fin 32) (j : Fin 12) : ssub P s (ix2 r j) = gcol (P j.val) s (ix2 r 0) := by
  fin_cases j <;> pointwise [ssub]

theorem put_apply (r : ℕ) (hr : r < 12) (p : BitVec 32) (t : IVec S1x12 32) (j : Fin 12) :
    put (BitVec.ofNat 32 r) p t (ix2 0 j) = if j.val = r then p else t (ix2 0 j) := by
  pointwise [put, iotaU]
  rw [cmpi_of _ _ (by have := j.isLt; omega) (by omega), select_of]
theorem tp_apply (P : ℕ → BitVec 32) (j : Fin 12) : tp P (ix2 0 j) = P j.val := by
  unfold tp tp3
  rw [put_apply 11 (by decide), put_apply 10 (by decide), put_apply 9 (by decide), put_apply 8 (by decide), put_apply 7 (by decide), put_apply 6 (by decide),
    put_apply 5 (by decide), put_apply 4 (by decide), put_apply 3 (by decide), put_apply 2 (by decide), put_apply 1 (by decide), put_apply 0 (by decide)]
  fin_cases j <;> rfl

/-! ## The four -/

theorem gains_apply (S : FVec Ideal S32x12 .f32) (m : FVec Ideal S32x1 .f32) (b : IVec S1x12 1) (B : Fin 12 → Bool)
    (hb : ∀ j, b (ix2 0 j) = if B j = true then 1#1 else 0#1) (j : Fin 12) :
    gains S m b (ix2 0 j) = gain (fun p j => S (ix2 p j)) (fun p => m (ix2 p 0)) B j := by
  pointwise [gains]
  rw [hb, select_of]
  rfl
theorem bj_apply (g : FVec Ideal S1x12 .f32) (p : Fin 12) (h : Fst (fun r => g (ix2 0 r)) p) : bj g = BitVec.ofNat 32 p.val := by
  pointwise [bj, bpos, bmx, iotaU]
  rw [c_bot, show Finset.univ.fold max (⊥ : EReal) (fun x : Fin 1 × Fin 12 => g (ix2 0 x.2)) = g (ix2 0 p) from
    (fold_snd (n := 12) max ⊥ fun x => g (ix2 0 x)).trans (fold_fst _ p h)]
  refine (fold_snd (n := 12) IntOp.minsi 2147483647#32 fun x => if g (ix2 0 x) = g (ix2 0 p) then BitVec.ofNat 32 x.val else 12#32).trans ?_
  exact fold_pos (by norm_num) (fun r => g (ix2 0 r)) p h _ fun j => rfl
theorem hot_apply (p j : Fin 12) : hot (BitVec.ofNat 32 p.val) (ix2 0 j) = if j = p then 1#1 else 0#1 := by
  pointwise [hot, iotaU]
  rw [cmpi_of _ _ (by have := j.isLt; omega) (by have := p.isLt; omega)]
  exact if_congr Fin.ext_iff.symm rfl rfl
theorem cho_apply (t : IVec S1x12 32) (p : Fin 12) : cho t (BitVec.ofNat 32 p.val) = t (ix2 0 p) := by
  pointwise [cho]
  have e : ∀ x : Fin 12, Scalar.select (hot (BitVec.ofNat 32 p.val) (ix2 0 x)) (t (ix2 0 x)) 0#32 = if x = p then t (ix2 0 x) else 0#32 := by
    intro x; rw [hot_apply, select_of]
  refine (fold_snd (n := 12) IntOp.addi 0#32 fun x => Scalar.select (hot (BitVec.ofNat 32 p.val) (ix2 0 x)) (t (ix2 0 x)) 0#32).trans ?_
  rw [show (fun x : Fin 12 => Scalar.select (hot (BitVec.ofNat 32 p.val) (ix2 0 x)) (t (ix2 0 x)) 0#32) = fun x => if x = p then t (ix2 0 x) else 0#32 from funext e,
    fold_addi, if_pos (Finset.mem_univ _)]
theorem bnx_apply (b : IVec S1x12 1) (B : Fin 12 → Bool) (hb : ∀ j, b (ix2 0 j) = if B j = true then 1#1 else 0#1) (p j : Fin 12) :
    bnx b (BitVec.ofNat 32 p.val) (ix2 0 j) = if (B j || decide (j = p)) = true then 1#1 else 0#1 := by
  show b (ix2 0 j) ||| hot (BitVec.ofNat 32 p.val) (ix2 0 j) = _
  rw [hb, hot_apply]
  by_cases h : j = p <;> cases B j <;> simp [h]
theorem mnx_apply (S : FVec Ideal S32x12 .f32) (m : FVec Ideal S32x1 .f32) (p : Fin 12) (r : Fin 32) :
    mnx S m (BitVec.ofNat 32 p.val) (ix2 r 0) = max (m (ix2 r 0)) (S (ix2 r p)) := by
  pointwise [mnx, hot1]
  refine congrArg (max (m (ix2 r 0))) ?_
  rw [Finset.sum_eq_single p]
  · rw [hot_apply, select_of, if_pos rfl]
  · intro j _ hj
    rw [hot_apply, select_of, if_neg hj]
  · intro h; exact absurd (Finset.mem_univ _) h

theorem gst_apply (S : FVec Ideal S32x12 .f32) : ∀ n,
    (∀ p, (gst S n).1 (ix2 p 0) = (st (fun p j => S (ix2 p j)) n).1 p)
      ∧ (∀ j, (gst S n).2 (ix2 0 j) = if (st (fun p j => S (ix2 p j)) n).2 j = true then 1#1 else 0#1)
      ∧ gj S n = BitVec.ofNat 32 (jr (fun p j => S (ix2 p j)) n).val := by
  intro n
  have key : ∀ (m : FVec Ideal S32x1 .f32) (b : IVec S1x12 1) (M : Fin 32 → EReal) (B : Fin 12 → Bool), (∀ p, m (ix2 p 0) = M p) →
      (∀ j, b (ix2 0 j) = if B j = true then 1#1 else 0#1) → bj (gains S m b) = BitVec.ofNat 32 (best (fun p j => S (ix2 p j)) M B).val := by
    intro m b M B hm hb
    refine bj_apply _ _ ?_
    have e : (fun j => gains S m b (ix2 0 j)) = gain (fun p j => S (ix2 p j)) M B := by
      funext j
      rw [gains_apply S m b B hb, show (fun p => m (ix2 p 0)) = M from funext hm]
    rw [e]
    exact fst_sorted _ _ rfl
  induction n with
  | zero =>
    have h1 : ∀ p, (gst S 0).1 (ix2 p 0) = (st (fun p j => S (ix2 p j)) 0).1 p := fun p => Ideal.ofBits_zero_f32
    have h2 : ∀ j, (gst S 0).2 (ix2 0 j) = if (st (fun p j => S (ix2 p j)) 0).2 j = true then 1#1 else 0#1 := fun j => rfl
    exact ⟨h1, h2, key _ _ _ _ h1 h2⟩
  | succ n ih =>
    obtain ⟨h1, h2, h3⟩ := ih
    have g1 : ∀ p, (gst S (n + 1)).1 (ix2 p 0) = (st (fun p j => S (ix2 p j)) (n + 1)).1 p := by
      intro p
      show mnx S (gst S n).1 (gj S n) (ix2 p 0) = max _ _
      rw [h3, mnx_apply, h1]
      rfl
    have g2 : ∀ j, (gst S (n + 1)).2 (ix2 0 j) = if (st (fun p j => S (ix2 p j)) (n + 1)).2 j = true then 1#1 else 0#1 := by
      intro j
      show bnx (gst S n).2 (gj S n) (ix2 0 j) = _
      rw [h3, bnx_apply _ _ h2]
      rfl
    exact ⟨g1, g2, key _ _ _ _ g1 g2⟩

/-- The kernel's four keys. -/
theorem chosen_apply (s : FVec Ideal S32x2048 .f32) (h : ∀ p t, 0 ≤ s (ix2 p t)) (n : ℕ) :
    chosen s n = BitVec.ofNat 32 (pickd (fun p t => s (ix2 p t)) n).val := by
  have hu : (fun t => scoreOf s (ix2 0 t)) = fun t => Sel.score fun p => s (ix2 p t) := funext fun t => scoreOf_apply s t fun p => h p t
  have hP : ∀ j : Fin 12, posOf s j.val = BitVec.ofNat 32 (top (fun t => Sel.score fun p => s (ix2 p t)) j).val := by
    intro j
    unfold posOf
    rw [pos_apply _ (fun t => by rw [scoreOf_apply s t fun p => h p t]; exact score_nonneg _ fun p => h p t) j, hu]
  have hS : (fun (p : Fin 32) (j : Fin 12) => ssub (posOf s) s (ix2 p j)) = fun p j => s (ix2 p (top (fun t => Sel.score fun p => s (ix2 p t)) j)) := by
    funext p j
    rw [ssub_apply, hP, gcol_apply]
  unfold chosen
  rw [(gst_apply (ssub (posOf s) s) n).2.2, cho_apply, tp_apply, hP, hS]
  rfl

/-! ## Attention to the four -/

theorem pick_apply (c : Fin 2048) (x : FVec Ideal S2048x64 .f32) (d : Fin 64) : pick (hotT (BitVec.ofNat 32 c.val)) x (ix2 0 d) = x (ix2 c d) := by
  pointwise [pick, hotT, iotaT]
  exact sum_hot (n := 2048) (by norm_num) c fun j => x (ix2 j d)
theorem four_apply (a : ℕ → FVec Ideal S1x64 .f32) (g : Fin 4) (d : Fin 64) : four (a 0) (a 1) (a 2) (a 3) (ix2 g d) = a g.val (ix2 0 d) := by
  fin_cases g <;> pointwise [four]
theorem kg4_apply (s : FVec Ideal S32x2048 .f32) (h : ∀ p t, 0 ≤ s (ix2 p t)) (x : FVec Ideal S2048x64 .f32) (g : Fin 4) (d : Fin 64) :
    kg4 s x (ix2 g d) = x (ix2 (pickd (fun p t => s (ix2 p t)) g.val) d) := by
  unfold kg4
  rw [four_apply (fun n => pick (hotT (chosen s n)) x), chosen_apply s h, pick_apply]
theorem glog_apply (kg : FVec Ideal S4x64 .f32) (q : FVec Ideal S2048x64 .f32) (g : Fin 4) (t : Fin 2048) :
    glog kg q (ix2 g t) = (∑ d, kg (ix2 g d) * q (ix2 t d)) * ((1 / 8 : ℝ) : EReal) := by
  pointwise [glog]
  rw [← Sc.c_eighth]
theorem gM_apply (l : FVec Ideal S4x2048 .f32) (t : Fin 2048) : gM l (ix2 0 t) = Finset.univ.fold max ⊥ fun g => l (ix2 g t) := by
  pointwise [gM]
  rw [c_bot]
theorem gZ_apply (l : FVec Ideal S4x2048 .f32) (t : Fin 2048) : gZ l (ix2 0 t) = ∑ g, Ideal.exp (l (ix2 g t) - gM l (ix2 0 t)) := by
  pointwise [gZ, gE]
theorem gO_apply (kg : FVec Ideal S4x64 .f32) (l : FVec Ideal S4x2048 .f32) (d : Fin 64) (t : Fin 2048) :
    gO kg l (ix2 d t) = ∑ g, kg (ix2 g d) * Ideal.exp (l (ix2 g t) - gM l (ix2 0 t)) := by
  pointwise [gO, gE]

end Cert.Proof.Tc

end
-- ==== Proof.ScTcBlk.lean ====
/-
  What a point of the dense part leaves in its five blocks, and so the five arrays it leaves, read at an index over its three input arrays.
-/
module

public import proofs.«01_k».proof.Proof.ScTcIdeal
public import proofs.«01_k».proof.Proof.ScTcReg
public import Idealize.ShloMosaic.Lib.Pipeline.ValueKit

@[expose] public section

set_option synthInstance.maxSize 4096

noncomputable section

namespace Cert.Proof.Tc

open Cert.KernelIdeal Cert.KernelIdeal.Gen
open Idealize.ShloMosaic Idealize.ShloMosaic.TcCoe Idealize.SL.Sem
open Idealize.ShloMosaic.Pipeline (Dat Cfg Window)
open Cert.Proof.Sel Cert.Proof.Top
open scoped BigOperators

/-! ## A block -/

/-- A head's rows. -/
def rows (x : FVec Ideal S1x2048x64 .f32) (s : Fin 2048) (d : Fin 64) : EReal := x (ix3 0 s d)

variable (k q v : FVec Ideal S1x2048x64 .f32)

theorem pay3_apply (s : Fin 2048) (d : Fin 64) : k0_pay3 (F := Ideal) k (ix2 s d) = rows k s d := by
  pointwise [k0_pay3]; rfl
theorem pay4_apply (s : Fin 2048) (d : Fin 64) : k0_pay4 (F := Ideal) q (ix2 s d) = rows q s d := by
  pointwise [k0_pay4]; rfl
theorem pay5_apply (s : Fin 2048) (d : Fin 64) : k0_pay5 (F := Ideal) v (ix2 s d) = rows v s d := by
  pointwise [k0_pay5]; rfl
theorem pay6_apply (d : Fin 64) (t : Fin 2048) : k0_pay6 (F := Ideal) q (ix3 0 d t) = rows q t d := by
  pointwise [k0_pay6]; rw [pay4_apply]
theorem pay7_apply (d : Fin 64) (t : Fin 2048) : k0_pay7 (F := Ideal) k (ix3 0 d t) = rows k t d := by
  pointwise [k0_pay7]; rw [pay3_apply]
theorem pay8_apply (d : Fin 64) (t : Fin 2048) : k0_pay8 (F := Ideal) v (ix3 0 d t) = rows v t d := by
  pointwise [k0_pay8]; rw [pay5_apply]
theorem pay9_apply (s : Fin 2048) (d : Fin 64) : k0_pay9 (F := Ideal) k (ix2 s d) = nz (rows k) s d := by
  pointwise [k0_pay9]
  simp only [pay3_apply]
  rfl
theorem pay10_apply (s : Fin 2048) : k0_pay10 (F := Ideal) q (ix2 s 0) = Ideal.sqrt (∑ e, rows q s e * rows q s e) := by
  pointwise [k0_pay10]
  simp only [pay4_apply]

theorem smOf_apply (p : Fin 32) (s : Fin 2048) : smOf k q (ix2 p s) = SM (rows k) (rows q) p s := by
  unfold smOf
  rw [smat_apply]
  unfold SM
  refine congrArg (fun y : EReal => max y 0) (Finset.sum_congr rfl fun d _ => ?_)
  rw [pay9_apply, normed_apply, pay4_apply, pay10_apply]
  rfl

theorem lgOf_apply (g : Fin 4) (t : Fin 2048) : lgOf k q (ix2 g t) = lgt (rows k) (rows q) g t := by
  unfold lgOf lgt ck
  rw [glog_apply]
  refine congrArg (· * _) (Finset.sum_congr rfl fun d _ => ?_)
  rw [kg4_apply _ (fun p s => by rw [smOf_apply]; exact SM_nonneg _ _ _ _), pay3_apply, pay4_apply,
    show (fun p t => smOf k q (ix2 p t)) = SM (rows k) (rows q) from funext fun p => funext fun s => smOf_apply k q p s]

theorem gM_lg (t : Fin 2048) : gM (lgOf k q) (ix2 0 t) = gmax (rows k) (rows q) t := by
  rw [gM_apply, show (fun g => lgOf k q (ix2 g t)) = fun g => lgt (rows k) (rows q) g t from funext fun g => lgOf_apply k q g t]
  rfl

theorem mz0_apply (t : Fin 2048) : mzOf k q (ix3 0 0 t) = gmax (rows k) (rows q) t := by
  unfold mzOf
  pointwise [k0_pay2]
  exact gM_lg k q t
theorem mz1_apply (t : Fin 2048) : mzOf k q (ix3 0 1 t) = gsum (rows k) (rows q) t := by
  unfold mzOf
  pointwise [k0_pay2]
  rw [gZ_apply, gM_lg]
  exact Finset.sum_congr rfl fun g _ => by rw [lgOf_apply]
theorem og_apply (d : Fin 64) (t : Fin 2048) : ogOf k q v (ix3 0 d t) = gout (rows k) (rows q) (rows v) t d := by
  unfold ogOf
  pointwise [k0_pay1]
  rw [gO_apply, gM_lg]
  refine Finset.sum_congr rfl fun g _ => ?_
  rw [lgOf_apply, kg4_apply _ (fun p s => by rw [smOf_apply]; exact SM_nonneg _ _ _ _), pay5_apply,
    show (fun p t => smOf k q (ix2 p t)) = SM (rows k) (rows q) from funext fun p => funext fun s => smOf_apply k q p s]
  rfl

/-! ## The arrays -/

variable (V : (c : Dev nD) → (b : Ref sig .tc) → Buf (Elt Ideal) ((c : Thread nD τ).loc b)) (c : Dev nD)

/-- The point of a head. -/
def hpt (h : Fin 16) : Fin cfg0.N := ⟨h.val, h.isLt.trans_eq N_0.symm⟩

theorem ix0 : ∀ t : Fin grid0.N, win0_0.index t = ![t.val, 0, 0] := by decide +kernel
theorem ix1' : ∀ t : Fin grid0.N, win0_1.index t = ![t.val, 0, 0] := by decide +kernel
theorem ix2' : ∀ t : Fin grid0.N, win0_2.index t = ![t.val, 0, 0] := by decide +kernel
theorem ix3' : ∀ t : Fin grid0.N, win0_3.index t = ![t.val, 0, 0] := by decide +kernel
theorem ix4' : ∀ t : Fin grid0.N, win0_4.index t = ![t.val, 0, 0] := by decide +kernel
theorem ix5' : ∀ t : Fin grid0.N, win0_5.index t = ![t.val, 0, 0] := by decide +kernel
theorem ix6' : ∀ t : Fin grid0.N, win0_6.index t = ![t.val, 0, 0] := by decide +kernel
theorem ix7' : ∀ t : Fin grid0.N, win0_7.index t = ![t.val, 0, 0] := by decide +kernel

theorem emb0 (h : Fin 16) (s : Fin 2048) (d : Fin 64) : (win0_0.blk (hpt h)).view.emb (ix3 0 s d) = ix3 h s d := by
  have e := ix0 (hpt h)
  have e' : (hpt h).val = h.val := rfl
  blk_ext [e, e']
theorem bk_rows (h : Fin 16) : rows (bk V c (hpt h)) = fun s d => V c main_v1 (ix3 h s d) := by
  funext s d
  unfold rows
  blk_simp [bk]
  exact congrArg (V c main_v1) (emb0 h s d)
theorem emb1 (h : Fin 16) (s : Fin 2048) (d : Fin 64) : (win0_1.blk (hpt h)).view.emb (ix3 0 s d) = ix3 h s d := by
  have e := ix1' (hpt h)
  have e' : (hpt h).val = h.val := rfl
  blk_ext [e, e']
theorem bq_rows (h : Fin 16) : rows (bq V c (hpt h)) = fun s d => V c main_v0 (ix3 h s d) := by
  funext s d
  unfold rows
  blk_simp [bq]
  exact congrArg (V c main_v0) (emb1 h s d)
theorem emb2 (h : Fin 16) (s : Fin 2048) (d : Fin 64) : (win0_2.blk (hpt h)).view.emb (ix3 0 s d) = ix3 h s d := by
  have e := ix2' (hpt h)
  have e' : (hpt h).val = h.val := rfl
  blk_ext [e, e']
theorem bv_rows (h : Fin 16) : rows (bv V c (hpt h)) = fun s d => V c main_v2 (ix3 h s d) := by
  funext s d
  unfold rows
  blk_simp [bv]
  exact congrArg (V c main_v2) (emb2 h s d)
theorem emb3 (h : Fin 16) (d : Fin 64) (s : Fin 2048) : (win0_3.blk (hpt h)).view.emb (ix3 0 d s) = ix3 h d s := by
  have e := ix3' (hpt h)
  have e' : (hpt h).val = h.val := rfl
  blk_ext [e, e']
theorem arr3 (h : Fin 16) (d : Fin 64) (s : Fin 2048) : (dat V c).arrAt 3 cfg0.N (ix3 h d s) = ogOf (bk V c (hpt h)) (bq V c (hpt h)) (bv V c (hpt h)) (ix3 0 d s) := by
  have h1 := (dat V c).arrAt_emb_eq_flushed 3 (Window.hdisj_of_index_inj (cfg0.win 3) (by decide +kernel)) (hpt h) (flush0_3 _) (ix3 0 d s)
  rw [← emb3 h d s]
  exact h1
theorem emb4 (h : Fin 16) (d : Fin 2) (s : Fin 2048) : (win0_4.blk (hpt h)).view.emb (ix3 0 d s) = ix3 h d s := by
  have e := ix4' (hpt h)
  have e' : (hpt h).val = h.val := rfl
  blk_ext [e, e']
theorem arr4 (h : Fin 16) (d : Fin 2) (s : Fin 2048) : (dat V c).arrAt 4 cfg0.N (ix3 h d s) = mzOf (bk V c (hpt h)) (bq V c (hpt h)) (ix3 0 d s) := by
  have h1 := (dat V c).arrAt_emb_eq_flushed 4 (Window.hdisj_of_index_inj (cfg0.win 4) (by decide +kernel)) (hpt h) (flush0_4 _) (ix3 0 d s)
  rw [← emb4 h d s]
  exact h1
theorem emb5 (h : Fin 16) (d : Fin 64) (s : Fin 2048) : (win0_5.blk (hpt h)).view.emb (ix3 0 d s) = ix3 h d s := by
  have e := ix5' (hpt h)
  have e' : (hpt h).val = h.val := rfl
  blk_ext [e, e']
theorem arr5 (h : Fin 16) (d : Fin 64) (s : Fin 2048) : (dat V c).arrAt 5 cfg0.N (ix3 h d s) = k0_pay6 (bq V c (hpt h)) (ix3 0 d s) := by
  have h1 := (dat V c).arrAt_emb_eq_flushed 5 (Window.hdisj_of_index_inj (cfg0.win 5) (by decide +kernel)) (hpt h) (flush0_5 _) (ix3 0 d s)
  rw [← emb5 h d s]
  exact h1
theorem emb6 (h : Fin 16) (d : Fin 64) (s : Fin 2048) : (win0_6.blk (hpt h)).view.emb (ix3 0 d s) = ix3 h d s := by
  have e := ix6' (hpt h)
  have e' : (hpt h).val = h.val := rfl
  blk_ext [e, e']
theorem arr6 (h : Fin 16) (d : Fin 64) (s : Fin 2048) : (dat V c).arrAt 6 cfg0.N (ix3 h d s) = k0_pay7 (bk V c (hpt h)) (ix3 0 d s) := by
  have h1 := (dat V c).arrAt_emb_eq_flushed 6 (Window.hdisj_of_index_inj (cfg0.win 6) (by decide +kernel)) (hpt h) (flush0_6 _) (ix3 0 d s)
  rw [← emb6 h d s]
  exact h1
theorem emb7 (h : Fin 16) (d : Fin 64) (s : Fin 2048) : (win0_7.blk (hpt h)).view.emb (ix3 0 d s) = ix3 h d s := by
  have e := ix7' (hpt h)
  have e' : (hpt h).val = h.val := rfl
  blk_ext [e, e']
theorem arr7 (h : Fin 16) (d : Fin 64) (s : Fin 2048) : (dat V c).arrAt 7 cfg0.N (ix3 h d s) = k0_pay8 (bv V c (hpt h)) (ix3 0 d s) := by
  have h1 := (dat V c).arrAt_emb_eq_flushed 7 (Window.hdisj_of_index_inj (cfg0.win 7) (by decide +kernel)) (hpt h) (flush0_7 _) (ix3 0 d s)
  rw [← emb7 h d s]
  exact h1

end Cert.Proof.Tc

end
-- ==== Proof.ScRefOps.lean ====
/-
  The reference's operations that choose and gather, read at an index: a sort's places, and a gather at positions known as naturals.
-/
module

public import proofs.«01_k».proof.Proof.Gen.ReferenceIdeal.Run
public import proofs.«01_k».proof.Proof.ScWin
public import proofs.«01_k».proof.Proof.ScArg
public import Idealize.ShloMosaic.Lib.Pointwise
public import Idealize.ShloMosaic.PureOps.Ideal.Laws
public import Idealize.ShloMosaic.PureOps.Reduce
public import Idealize.ShloMosaic.Lib.StableHlo.Predicate

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo
open Cert.Proof.Top Cert.Proof.Win
open scoped BigOperators

/-! ## Gathers -/

theorem g_win (x : FVec Ideal S1x16x2048x64 .f32) (i : IVec S2048x16x1 32) (h : Fin 16) (t : Fin 2048) (f : Fin 16) (d : Fin 64) (a : Fin 2048)
    (hi : i (ix3 t f 0) = BitVec.ofNat 32 a.val) : Host.gather gather_S1x16x2048x64_S2048x16x1_S1x16x2048x16x64_014_2_n_n_2_2_116164 x i (ix5 0 h t f d) = x (ix4 0 h a d) := by
  unfold Host.gather
  refine congrArg x ?_
  funext c
  match c with
  | ⟨0, _⟩ => exact Subsingleton.elim (α := Fin 1) _ _
  | ⟨1, _⟩ => exact Fin.ext (show 0 + 0 + h.val = h.val by omega)
  | ⟨2, _⟩ =>
    refine Fin.ext ?_
    have e : gather_S1x16x2048x64_S2048x16x1_S1x16x2048x16x64_014_2_n_n_2_2_116164.siIdx (ix5 0 h t f d) ⟨0, by decide⟩ = ix3 t f 0 := by
      funext c
      match c with
      | ⟨0, _⟩ => rfl
      | ⟨1, _⟩ => rfl
      | ⟨2, _⟩ => rfl
    show min (i (gather_S1x16x2048x64_S2048x16x1_S1x16x2048x16x64_014_2_n_n_2_2_116164.siIdx (ix5 0 h t f d) ⟨0, by decide⟩)).toInt.toNat 2047 + 0 + 0 = a.val
    rw [e, hi, clamp_small _ _ (by have := a.isLt; omega) (by have := a.isLt; omega)]
    rfl
  | ⟨3, _⟩ => exact Fin.ext (show 0 + 0 + d.val = d.val by omega)
theorem g_proto (x : FVec Ideal S16x2048x64 .f32) (i : IVec S32x1 32) (h : Fin 16) (p : Fin 32) (d : Fin 64) (a : Fin 2048)
    (hi : i (ix2 p 0) = BitVec.ofNat 32 a.val) : Host.gather gather_S16x2048x64_S32x1_S16x32x64_02_1_n_n_1_1_16164 x i (ix3 h p d) = x (ix3 h a d) := by
  unfold Host.gather
  refine congrArg x ?_
  funext c
  match c with
  | ⟨0, _⟩ => exact Fin.ext (show 0 + 0 + h.val = h.val by omega)
  | ⟨1, _⟩ =>
    refine Fin.ext ?_
    have e : gather_S16x2048x64_S32x1_S16x32x64_02_1_n_n_1_1_16164.siIdx (ix3 h p d) ⟨0, by decide⟩ = ix2 p 0 := by
      funext c
      match c with
      | ⟨0, _⟩ => rfl
      | ⟨1, _⟩ => rfl
    show min (i (gather_S16x2048x64_S32x1_S16x32x64_02_1_n_n_1_1_16164.siIdx (ix3 h p d) ⟨0, by decide⟩)).toInt.toNat 2047 + 0 + 0 = a.val
    rw [e, hi, clamp_small _ _ (by have := a.isLt; omega) (by have := a.isLt; omega)]
    rfl
  | ⟨2, _⟩ => exact Fin.ext (show 0 + 0 + d.val = d.val by omega)
theorem g_col (x : FVec Ideal S16x2048x32 .f32) (i : IVec S16x12x1 32) (h : Fin 16) (j : Fin 12) (p : Fin 32) (a : Fin 2048)
    (hi : i (ix3 h j 0) = BitVec.ofNat 32 a.val) : Host.gather gather_S16x2048x32_S16x12x1_S16x12x32_2_1_0_0_1_2_1132 x i (ix3 h j p) = x (ix3 h a p) := by
  unfold Host.gather
  refine congrArg x ?_
  funext c
  match c with
  | ⟨0, _⟩ => exact Fin.ext (show 0 + h.val + 0 = h.val by omega)
  | ⟨1, _⟩ =>
    refine Fin.ext ?_
    have e : gather_S16x2048x32_S16x12x1_S16x12x32_2_1_0_0_1_2_1132.siIdx (ix3 h j p) ⟨0, by decide⟩ = ix3 h j 0 := by
      funext c
      match c with
      | ⟨0, _⟩ => rfl
      | ⟨1, _⟩ => rfl
      | ⟨2, _⟩ => rfl
    show min (i (gather_S16x2048x32_S16x12x1_S16x12x32_2_1_0_0_1_2_1132.siIdx (ix3 h j p) ⟨0, by decide⟩)).toInt.toNat 2047 + 0 + 0 = a.val
    rw [e, hi, clamp_small _ _ (by have := a.isLt; omega) (by have := a.isLt; omega)]
    rfl
  | ⟨2, _⟩ => exact Fin.ext (show 0 + 0 + p.val = p.val by omega)
theorem g_best (x : FVec Ideal S16x12x32 .f32) (i : IVec S16x1x1 32) (h : Fin 16) (p : Fin 32) (a : Fin 12)
    (hi : i (ix3 h 0 0) = BitVec.ofNat 32 a.val) : Host.gather gather_S16x12x32_S16x1x1_S16x1x32_2_1_0_0_1_2_1132 x i (ix3 h 0 p) = x (ix3 h a p) := by
  unfold Host.gather
  refine congrArg x ?_
  funext c
  match c with
  | ⟨0, _⟩ => exact Fin.ext (show 0 + h.val + 0 = h.val by omega)
  | ⟨1, _⟩ =>
    refine Fin.ext ?_
    have e : gather_S16x12x32_S16x1x1_S16x1x32_2_1_0_0_1_2_1132.siIdx (ix3 h 0 p) ⟨0, by decide⟩ = ix3 h 0 0 := by
      funext c
      match c with
      | ⟨0, _⟩ => rfl
      | ⟨1, _⟩ => rfl
      | ⟨2, _⟩ => rfl
    show min (i (gather_S16x12x32_S16x1x1_S16x1x32_2_1_0_0_1_2_1132.siIdx (ix3 h 0 p) ⟨0, by decide⟩)).toInt.toNat 11 + 0 + 0 = a.val
    rw [e, hi, clamp_small _ _ (by have := a.isLt; omega) (by have := a.isLt; omega)]
    rfl
  | ⟨2, _⟩ => exact Fin.ext (show 0 + 0 + p.val = p.val by omega)
theorem g_key (x : IVec S16x12 32) (i : IVec S16x4x1 32) (h : Fin 16) (g : Fin 4) (a : Fin 12)
    (hi : i (ix3 h g 0) = BitVec.ofNat 32 a.val) : Host.gather gather_S16x12_S16x4x1_S16x4_n_1_0_0_1_2_11 x i (ix2 h g) = x (ix2 h a) := by
  unfold Host.gather
  refine congrArg x ?_
  funext c
  match c with
  | ⟨0, _⟩ => exact Fin.ext (show 0 + h.val + 0 = h.val by omega)
  | ⟨1, _⟩ =>
    refine Fin.ext ?_
    have e : gather_S16x12_S16x4x1_S16x4_n_1_0_0_1_2_11.siIdx (ix2 h g) ⟨0, by decide⟩ = ix3 h g 0 := by
      funext c
      match c with
      | ⟨0, _⟩ => rfl
      | ⟨1, _⟩ => rfl
      | ⟨2, _⟩ => rfl
    show min (i (gather_S16x12_S16x4x1_S16x4_n_1_0_0_1_2_11.siIdx (ix2 h g) ⟨0, by decide⟩)).toInt.toNat 11 + 0 + 0 = a.val
    rw [e, hi, clamp_small _ _ (by have := a.isLt; omega) (by have := a.isLt; omega)]
    rfl
theorem g_six (x : FVec Ideal S1x16x2048x16 .f32) (i : IVec S16x2048x6x1 32) (h : Fin 16) (t : Fin 2048) (j : Fin 6) (a : Fin 16)
    (hi : i (ix4 h t j 0) = BitVec.ofNat 32 a.val) : Host.gather gather_S1x16x2048x16_S16x2048x6x1_S1x16x2048x6_0_3_12_01_3_3_1111 x i (ix4 0 h t j) = x (ix4 0 h t a) := by
  unfold Host.gather
  refine congrArg x ?_
  funext c
  match c with
  | ⟨0, _⟩ => exact Subsingleton.elim (α := Fin 1) _ _
  | ⟨1, _⟩ => exact Fin.ext (show 0 + h.val + 0 = h.val by omega)
  | ⟨2, _⟩ => exact Fin.ext (show 0 + t.val + 0 = t.val by omega)
  | ⟨3, _⟩ =>
    refine Fin.ext ?_
    have e : gather_S1x16x2048x16_S16x2048x6x1_S1x16x2048x6_0_3_12_01_3_3_1111.siIdx (ix4 0 h t j) ⟨0, by decide⟩ = ix4 h t j 0 := by
      funext c
      match c with
      | ⟨0, _⟩ => rfl
      | ⟨1, _⟩ => rfl
      | ⟨2, _⟩ => rfl
      | ⟨3, _⟩ => rfl
    show min (i (gather_S1x16x2048x16_S16x2048x6x1_S1x16x2048x6_0_3_12_01_3_3_1111.siIdx (ix4 0 h t j) ⟨0, by decide⟩)).toInt.toNat 15 + 0 + 0 = a.val
    rw [e, hi, clamp_small _ _ (by have := a.isLt; omega) (by have := a.isLt; omega)]
    rfl
theorem g_val (x : FVec Ideal S1x16x2048x16x64 .f32) (i : IVec S16x2048x6x1 32) (h : Fin 16) (t : Fin 2048) (j : Fin 6) (d : Fin 64) (a : Fin 16)
    (hi : i (ix4 h t j 0) = BitVec.ofNat 32 a.val) : Host.gather gather_S1x16x2048x16x64_S16x2048x6x1_S1x16x2048x6x64_04_3_12_01_3_3_111164 x i (ix5 0 h t j d) = x (ix5 0 h t a d) := by
  unfold Host.gather
  refine congrArg x ?_
  funext c
  match c with
  | ⟨0, _⟩ => exact Subsingleton.elim (α := Fin 1) _ _
  | ⟨1, _⟩ => exact Fin.ext (show 0 + h.val + 0 = h.val by omega)
  | ⟨2, _⟩ => exact Fin.ext (show 0 + t.val + 0 = t.val by omega)
  | ⟨3, _⟩ =>
    refine Fin.ext ?_
    have e : gather_S1x16x2048x16x64_S16x2048x6x1_S1x16x2048x6x64_04_3_12_01_3_3_111164.siIdx (ix5 0 h t j d) ⟨0, by decide⟩ = ix4 h t j 0 := by
      funext c
      match c with
      | ⟨0, _⟩ => rfl
      | ⟨1, _⟩ => rfl
      | ⟨2, _⟩ => rfl
      | ⟨3, _⟩ => rfl
    show min (i (gather_S1x16x2048x16x64_S16x2048x6x1_S1x16x2048x6x64_04_3_12_01_3_3_111164.siIdx (ix5 0 h t j d) ⟨0, by decide⟩)).toInt.toNat 15 + 0 + 0 = a.val
    rw [e, hi, clamp_small _ _ (by have := a.isLt; omega) (by have := a.isLt; omega)]
    rfl
  | ⟨4, _⟩ => exact Fin.ext (show 0 + 0 + d.val = d.val by omega)
theorem g_four (x : FVec Ideal S1x16x2048x64 .f32) (i : IVec S16x4x1 32) (h : Fin 16) (g : Fin 4) (d : Fin 64) (a : Fin 2048)
    (hi : i (ix3 h g 0) = BitVec.ofNat 32 a.val) : Host.gather gather_S1x16x2048x64_S16x4x1_S1x16x4x64_03_2_1_0_2_2_11164 x i (ix4 0 h g d) = x (ix4 0 h a d) := by
  unfold Host.gather
  refine congrArg x ?_
  funext c
  match c with
  | ⟨0, _⟩ => exact Subsingleton.elim (α := Fin 1) _ _
  | ⟨1, _⟩ => exact Fin.ext (show 0 + h.val + 0 = h.val by omega)
  | ⟨2, _⟩ =>
    refine Fin.ext ?_
    have e : gather_S1x16x2048x64_S16x4x1_S1x16x4x64_03_2_1_0_2_2_11164.siIdx (ix4 0 h g d) ⟨0, by decide⟩ = ix3 h g 0 := by
      funext c
      match c with
      | ⟨0, _⟩ => rfl
      | ⟨1, _⟩ => rfl
      | ⟨2, _⟩ => rfl
    show min (i (gather_S1x16x2048x64_S16x4x1_S1x16x4x64_03_2_1_0_2_2_11164.siIdx (ix4 0 h g d) ⟨0, by decide⟩)).toInt.toNat 2047 + 0 + 0 = a.val
    rw [e, hi, clamp_small _ _ (by have := a.isLt; omega) (by have := a.isLt; omega)]
    rfl
  | ⟨3, _⟩ => exact Fin.ext (show 0 + 0 + d.val = d.val by omega)

/-! ## Sorts -/

theorem t_six (x : FVec Ideal S1x16x2048x16 .f32) (h : Fin 16) (t : Fin 2048) (j : Fin 6) :
    (Host.topK S1x16x2048x6 3 (FloatOps.cmpfTotal .gt) x sliceFits_S1x16x2048x16_S1x16x2048x6).2 (ix4 0 h t j) = BitVec.ofNat 32 (sortedFrom (gtB fun f : Fin 16 => x (ix4 0 h t f)) (j.castLE (by decide))).val := by
  unfold Host.topK Host.sort2
  pointwise
  have al : ∀ (a b : Fin 16), (ix4 (0 : Fin 1) h t a : S1x16x2048x16.Idx).along 3 b = ix4 0 h t b := by
    intro a b
    funext c
    match c with
    | ⟨0, _⟩ => rfl
    | ⟨1, _⟩ => rfl
    | ⟨2, _⟩ => rfl
    | ⟨3, _⟩ => rfl
  refine congrArg (BitVec.ofNat 32) ?_
  have al3 : ∀ (a b : Fin 16), (ix4 (0 : Fin 1) h t a : S1x16x2048x16.Idx).along 3 b 3 = b := fun a b => by rw [al]; rfl
  rw [al3]
  refine congrArg (fun g : Fin 16 → Fin 16 => (g (j.castLE (by decide))).val) (sortedFrom_congr (n := 16) _ _ fun b b' _ => ?_)
  have h1 := al (j.castLE (by decide)) b
  have h2 := al (j.castLE (by decide)) b'
  refine (congrArg₂ (fun y y' => FloatOps.cmpfTotal (F := Ideal) CmpDirection.gt (x y) (x y') == 1#1) h1 h2).trans ?_
  show (BitVec.ofBool (decide (x (ix4 0 h t b') < x (ix4 0 h t b))) == 1#1) = decide (x (ix4 0 h t b') < x (ix4 0 h t b))
  cases decide (x (ix4 0 h t b') < x (ix4 0 h t b)) <;> rfl
theorem t_val (x : FVec Ideal S16x2048x32 .f32) (h : Fin 16) (s : Fin 2048) (j : Fin 6) :
    (Host.topK S16x2048x6 2 (FloatOps.cmpfTotal .gt) x sliceFits_S16x2048x32_S16x2048x6).1 (ix3 h s j) = x (ix3 h s (sortedFrom (gtB fun f : Fin 32 => x (ix3 h s f)) (j.castLE (by decide)))) := by
  unfold Host.topK Host.sort2
  pointwise
  have al : ∀ (a b : Fin 32), (ix3 h s a : S16x2048x32.Idx).along 2 b = ix3 h s b := by
    intro a b
    funext c
    match c with
    | ⟨0, _⟩ => rfl
    | ⟨1, _⟩ => rfl
    | ⟨2, _⟩ => rfl
  rw [al]
  refine congrArg (fun g : Fin 32 → Fin 32 => x (ix3 h s (g (j.castLE (by decide))))) (sortedFrom_congr (n := 32) _ _ fun b b' _ => ?_)
  have h1 := al (j.castLE (by decide)) b
  have h2 := al (j.castLE (by decide)) b'
  refine (congrArg₂ (fun y y' => FloatOps.cmpfTotal (F := Ideal) CmpDirection.gt (x y) (x y') == 1#1) h1 h2).trans ?_
  show (BitVec.ofBool (decide (x (ix3 h s b') < x (ix3 h s b))) == 1#1) = decide (x (ix3 h s b') < x (ix3 h s b))
  cases decide (x (ix3 h s b') < x (ix3 h s b)) <;> rfl
theorem t_twelve (x : FVec Ideal S16x2048 .f32) (h : Fin 16) (j : Fin 12) :
    (Host.topK S16x12 1 (FloatOps.cmpfTotal .gt) x sliceFits_S16x2048_S16x12).2 (ix2 h j) = BitVec.ofNat 32 (sortedFrom (gtB fun f : Fin 2048 => x (ix2 h f)) (j.castLE (by decide))).val := by
  unfold Host.topK Host.sort2
  pointwise
  have al : ∀ (a b : Fin 2048), (ix2 h a : S16x2048.Idx).along 1 b = ix2 h b := by
    intro a b
    funext c
    match c with
    | ⟨0, _⟩ => rfl
    | ⟨1, _⟩ => rfl
  refine congrArg (BitVec.ofNat 32) ?_
  have al3 : ∀ (a b : Fin 2048), (ix2 h a : S16x2048.Idx).along 1 b 1 = b := fun a b => by rw [al]; rfl
  rw [al3]
  refine congrArg (fun g : Fin 2048 → Fin 2048 => (g (j.castLE (by decide))).val) (sortedFrom_congr (n := 2048) _ _ fun b b' _ => ?_)
  have h1 := al (j.castLE (by decide)) b
  have h2 := al (j.castLE (by decide)) b'
  refine (congrArg₂ (fun y y' => FloatOps.cmpfTotal (F := Ideal) CmpDirection.gt (x y) (x y') == 1#1) h1 h2).trans ?_
  show (BitVec.ofBool (decide (x (ix2 h b') < x (ix2 h b))) == 1#1) = decide (x (ix2 h b') < x (ix2 h b))
  cases decide (x (ix2 h b') < x (ix2 h b)) <;> rfl
theorem t_one (x : FVec Ideal S16x12 .f32) (h : Fin 16) :
    (Host.topK S16x1 1 (FloatOps.cmpfTotal .gt) x sliceFits_S16x12_S16x1).2 (ix2 h 0) = BitVec.ofNat 32 (sortedFrom (gtB fun f : Fin 12 => x (ix2 h f)) 0).val := by
  unfold Host.topK Host.sort2
  pointwise
  have al : ∀ (a b : Fin 12), (ix2 h a : S16x12.Idx).along 1 b = ix2 h b := by
    intro a b
    funext c
    match c with
    | ⟨0, _⟩ => rfl
    | ⟨1, _⟩ => rfl
  refine congrArg (BitVec.ofNat 32) ?_
  have al3 : ∀ (a b : Fin 12), (ix2 h a : S16x12.Idx).along 1 b 1 = b := fun a b => by rw [al]; rfl
  rw [al3]
  refine congrArg (fun g : Fin 12 → Fin 12 => (g 0).val) (sortedFrom_congr (n := 12) _ _ fun b b' _ => ?_)
  have h1 := al 0 b
  have h2 := al 0 b'
  refine (congrArg₂ (fun y y' => FloatOps.cmpfTotal (F := Ideal) CmpDirection.gt (x y) (x y') == 1#1) h1 h2).trans ?_
  show (BitVec.ofBool (decide (x (ix2 h b') < x (ix2 h b))) == 1#1) = decide (x (ix2 h b') < x (ix2 h b))
  cases decide (x (ix2 h b') < x (ix2 h b)) <;> rfl

end Cert.Proof.Ref

end
-- ==== Proof.ScRef.lean ====
/-
  The reference's output element: each of its operations read at an index — the window's scores and six chosen keys, the similarity
  to the prototypes, the scores, the twelve and the four, the ten logits and their softmax.
-/
module

public import proofs.«01_k».proof.Proof.ScRefOps

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo
open Cert.Proof.Top Cert.Proof.Win Cert.Proof.Sel
open scoped BigOperators

variable (W : Valuation τ sig (Elt Ideal))

/-- The arguments. -/
abbrev aq : FVec Ideal S1x16x2048x64 .f32 := W (Proc.devRef .tc main_arg0)
abbrev ak : FVec Ideal S1x16x2048x64 .f32 := W (Proc.devRef .tc main_arg1)
abbrev av : FVec Ideal S1x16x2048x64 .f32 := W (Proc.devRef .tc main_arg2)
/-- Head `h`'s rows. -/
abbrev hd (x : FVec Ideal S1x16x2048x64 .f32) (h : Fin 16) (s : Fin 2048) (d : Fin 64) : EReal := x (ix4 0 h s d)

/-! ## The window -/

theorem v9_apply (t : Fin 2048) (f : Fin 16) : res_main_v9 (F := Ideal) W (ix2 t f) = BitVec.ofNat 32 (bt t.val + f.val) := by
  pointwise [res_main_v9]
  show IntOp.minsi 2032#32 (IntOp.maxsi 0#32 (BitVec.ofNat 32 t.val - 8#32)) + BitVec.ofNat 32 f.val = _
  rw [clipw, BitVec.ofNat_add]

theorem v26_apply (h : Fin 16) (t : Fin 2048) (f : Fin 16) : res_main_v26 (F := Ideal) W (ix4 0 h t f) = sco (hd (aq W) h) (hd (ak W) h) t f := by
  pointwise [res_main_v26]
  unfold sco
  rw [← Sc.c_eighth]
  refine congrArg (· * _) (Finset.sum_congr rfl fun d _ => ?_)
  rw [g_win _ _ h t f d (kp t f)]
  pointwise []
  rw [v9_apply]
  exact sel_small _ 2048 (by have := bt_le t.val; have := f.isLt; omega)

theorem v41_apply (h : Fin 16) (t : Fin 2048) (f : Fin 16) : res_main_v41 (F := Ideal) W (ix4 0 h t f) = xk (hd (aq W) h) (hd (ak W) h) t f := by
  pointwise [res_main_v41]
  rw [v26_apply, v9_apply]
  unfold xk pri
  refine congrArg (fun y => sco _ _ t f + Ideal.ofBits .f32 0x3E4CCCCD#32 * Ideal.exp y) ?_
  rw [Sc.c_eight, Ideal.div_coe (by norm_num)]
  show (-((((IntOp.absi (BitVec.ofNat 32 (bt t.val + f.val) - BitVec.ofNat 32 t.val)).toInt : ℝ)) : EReal)) * _ = _
  generalize (((IntOp.absi (BitVec.ofNat 32 (bt t.val + f.val) - BitVec.ofNat 32 t.val)).toInt : ℝ)) = r
  rw [← EReal.coe_neg, ← EReal.coe_mul, ← EReal.coe_mul]
  refine congrArg _ ?_
  ring

/-- The six keys chosen in the window. -/
def six (q k : Fin 2048 → Fin 64 → EReal) (t : Fin 2048) (j : Fin 6) : Fin 16 := sortedFrom (gtB (xk q k t)) (j.castLE (by decide))

theorem ind_apply (h : Fin 16) (t : Fin 2048) (j : Fin 6) :
    res_main_indices (F := Ideal) W (ix4 0 h t j) = BitVec.ofNat 32 (six (hd (aq W) h) (hd (ak W) h) t j).val := by
  unfold res_main_indices
  rw [t_six, show (fun f : Fin 16 => res_main_v41 (F := Ideal) W (ix4 0 h t f)) = xk (hd (aq W) h) (hd (ak W) h) t from funext fun f => v41_apply W h t f]
  rfl

/-! ## The similarity -/

theorem one_row (f : Fin 1 → EReal) : Ideal.div (∑ x, f x) 1 = f 0 := by
  rw [Fin.sum_univ_one, show (1 : EReal) = ((1 : ℝ) : EReal) from rfl, Ideal.div_coe one_ne_zero, one_div_one, EReal.coe_one, mul_one]

theorem v47_apply (h : Fin 16) (s : Fin 2048) (d : Fin 64) : res_main_v47 (F := Ideal) W (ix3 h s d) = hd (ak W) h s d := by
  pointwise [res_main_v47]
  exact one_row fun x : Fin 1 => ak W (ix4 x h s d)
theorem v55_apply (h : Fin 16) (s : Fin 2048) (d : Fin 64) : res_main_v55 (F := Ideal) W (ix3 h s d) = hd (aq W) h s d := by
  pointwise [res_main_v55]
  exact one_row fun x : Fin 1 => aq W (ix4 x h s d)

theorem c_apply (p : Fin 32) : res_main_c (F := Ideal) W (ix1 p) = BitVec.ofNat 32 (ip p).val := by
  fin_cases p <;> rfl

theorem v67_apply (h : Fin 16) (s : Fin 2048) (p : Fin 32) : res_main_v67 (F := Ideal) W (ix3 h s p) = SM (hd (ak W) h) (hd (aq W) h) p s := by
  pointwise [res_main_v67]
  unfold SM nz
  refine congrArg (fun y : EReal => max y 0) (Finset.sum_congr rfl fun d _ => ?_)
  rw [g_proto _ _ h p d (ip p)]
  · pointwise []
    simp only [v47_apply, v55_apply]
    exact mul_comm _ _
  · pointwise []
    exact c_apply W p

theorem v8_apply (i : S_.Idx) : res_main_call6_call0_v8 (F := Ideal) W i = Ideal.ofBits .f32 0x41F80000#32 := by
  pointwise [res_main_call6_call0_v8]
  rw [c_32, c_31]
  show ((32 : ℝ) : EReal) - (((1#32 : BitVec 32).toInt : ℝ) : EReal) = _
  rw [show (1#32 : BitVec 32).toInt = 1 from by decide, ← EReal.coe_sub]
  norm_num

theorem v5_apply (h : Fin 16) (s : Fin 2048) (p : Fin 32) : res_main_call6_call0_v5 (F := Ideal) W (ix3 h s p)
    = SM (hd (ak W) h) (hd (aq W) h) p s - mean fun p => SM (hd (ak W) h) (hd (aq W) h) p s := by
  pointwise [res_main_call6_call0_v5]
  simp only [v67_apply]
  rfl

theorem mx_apply (x : FVec Ideal S16x2048x32 .f32) (h : Fin 16) (s : Fin 2048) :
    Finset.fold max (Ideal.ofBits FTy.f32 4286578688#32) x {i | reducesTo_S16x2048x32_S16x2048_d2.drop i = ix2 h s} = Finset.univ.fold max ⊥ fun p => x (ix3 h s p) := by
  pointwise []
  rw [c_bot]

theorem v86_apply (h : Fin 16) (s : Fin 2048) : res_main_v86 (F := Ideal) W (ix2 h s) = score fun p => SM (hd (ak W) h) (hd (aq W) h) p s := by
  pointwise [res_main_v86]
  have e1 := mx_apply (res_main_v67 (F := Ideal) W) h s
  rw [show (fun p => res_main_v67 (F := Ideal) W (ix3 h s p)) = fun p => SM (hd (ak W) h) (hd (aq W) h) p s from funext fun p => v67_apply W h s p] at e1
  have e2 := fun x : Fin 6 => (t_val (res_main_v67 (F := Ideal) W) h s x).trans (show _ = SM (hd (ak W) h) (hd (aq W) h)
      (sortedFrom (gtB fun p => SM (hd (ak W) h) (hd (aq W) h) p s) (x.castLE (by decide))) s by
    rw [show (fun p => res_main_v67 (F := Ideal) W (ix3 h s p)) = fun p => SM (hd (ak W) h) (hd (aq W) h) p s from funext fun p => v67_apply W h s p, v67_apply])
  simp only [v67_apply, v5_apply, v8_apply, e2]
  rw [if_pos (by rw [c_31]; exact_mod_cast (by norm_num : (0 : ℝ) < 31))]
  unfold score
  refine congrArg₂ (· + ·) (congrArg₂ (· + ·) (congrArg₂ (· + ·) rfl ?_) rfl) rfl
  exact congrArg (_ * ·) e1

/-! ## The twelve -/

theorem i30_apply (h : Fin 16) (j : Fin 12) : res_main_indices_30 (F := Ideal) W (ix2 h j)
    = BitVec.ofNat 32 (top (fun s => score fun p => SM (hd (ak W) h) (hd (aq W) h) p s) j).val := by
  unfold res_main_indices_30
  rw [t_twelve, show (fun f => res_main_v86 (F := Ideal) W (ix2 h f)) = fun s => score fun p => SM (hd (ak W) h) (hd (aq W) h) p s from funext fun f => v86_apply W h f]
  rfl

/-- The twelve keys' columns. -/
def SS (q k : Fin 2048 → Fin 64 → EReal) (p : Fin 32) (j : Fin 12) : EReal := SM k q p (top (fun s => score fun p => SM k q p s) j)

theorem v88_apply (h : Fin 16) (j : Fin 12) (p : Fin 32) : res_main_v88 (F := Ideal) W (ix3 h j p) = SS (hd (aq W) h) (hd (ak W) h) p j := by
  unfold res_main_v88
  rw [g_col _ _ h j p (top (fun s => score fun p => SM (hd (ak W) h) (hd (aq W) h) p s) j), v67_apply]
  · rfl
  · pointwise [res_main_v87]
    rw [i30_apply]
    exact sel_small _ 2048 (by have := (top (fun s => score fun p => SM (hd (ak W) h) (hd (aq W) h) p s) j).isLt; omega)

/-! ## The four -/

/-- One round: the gains over the maxima so far, the first best, and it is blocked and merged. -/
def GN (S : FVec Ideal S16x12x32 .f32) (m : FVec Ideal S16x32 .f32) (b : IVec S16x12 1) : FVec Ideal S16x12 .f32 :=
  select b (broadcastInDim S16x12 ![] bcast_S_S16x12 (id (constant S_ .f32 0xCE6E6B28#32))) (Host.reduceAdd (maximumf (subf S (broadcastInDim S16x12x32 ![0, 1, 2] bcast_S16x1x32_S16x12x32_0_1_2 (broadcastInDim S16x1x32 ![0, 2] bcast_S16x32_S16x1x32_0_2 m))) (broadcastInDim S16x12x32 ![] bcast_S_S16x12x32 (constant S_ .f32 0x00000000#32))) (constant S_ .f32 0x00000000#32) reducesTo_S16x12x32_S16x12_d2 h_S_)
def BJ (g : FVec Ideal S16x12 .f32) : IVec S16 32 :=
  shapeCast _ ((Host.topK S16x1 1 (FloatOps.cmpfTotal .gt) g sliceFits_S16x12_S16x1).2) shapeCasts_S16x1_S16
def BN (b : IVec S16x12 1) (j : IVec S16 32) : IVec S16x12 1 :=
  ori b (cmpi .eq (broadcastInDim S16x12 ![0, 1] bcast_S1x12_S16x12_0_1 (broadcastInDim S1x12 ![1] bcast_S12_S1x12_1 (iotaInDim S12 32 0))) (broadcastInDim S16x12 ![0, 1] bcast_S16x1_S16x12_0_1 (broadcastInDim S16x1 ![0] bcast_S16_S16x1_0 j)))
def JB (j : IVec S16 32) : IVec S16x1x1 32 := broadcastInDim S16x1x1 ![0] bcast_S16_S16x1x1_0 j
def MN (S : FVec Ideal S16x12x32 .f32) (m : FVec Ideal S16x32 .f32) (j : IVec S16x1x1 32) : FVec Ideal S16x32 .f32 :=
  maximumf m (shapeCast _ (Host.gather gather_S16x12x32_S16x1x1_S16x1x32_2_1_0_0_1_2_1132 S (select (cmpi .slt j (broadcastInDim S16x1x1 ![] bcast_S_S16x1x1 (constantI S_ 32 0#32))) (addi j (broadcastInDim S16x1x1 ![] bcast_S_S16x1x1 (constantI S_ 32 12#32))) j)) shapeCasts_S16x1x32_S16x32)

/-- What a round holds: the maxima, the blocked ones, the best. -/
structure Rnd (S : FVec Ideal S16x12x32 .f32) (A : Fin 16 → Fin 32 → Fin 12 → EReal) (n : ℕ) (m : FVec Ideal S16x32 .f32) (b : IVec S16x12 1) : Prop where
  hm : ∀ h p, m (ix2 h p) = (st (A h) n).1 p
  hb : ∀ h j, b (ix2 h j) = if (st (A h) n).2 j = true then 1#1 else 0#1

theorem GN_apply (S : FVec Ideal S16x12x32 .f32) (A : Fin 16 → Fin 32 → Fin 12 → EReal) (hS : ∀ h j p, S (ix3 h j p) = A h p j)
    (n : ℕ) (m : FVec Ideal S16x32 .f32) (b : IVec S16x12 1) (r : Rnd S A n m b) (h : Fin 16) (j : Fin 12) :
    GN S m b (ix2 h j) = gain (A h) (st (A h) n).1 (st (A h) n).2 j := by
  pointwise [GN]
  rw [r.hb, select_of]
  simp only [hS, r.hm]
  rfl

theorem BJ_apply (S : FVec Ideal S16x12x32 .f32) (A : Fin 16 → Fin 32 → Fin 12 → EReal) (hS : ∀ h j p, S (ix3 h j p) = A h p j)
    (n : ℕ) (m : FVec Ideal S16x32 .f32) (b : IVec S16x12 1) (r : Rnd S A n m b) (h : Fin 16) : BJ (GN S m b) (ix1 h) = BitVec.ofNat 32 (jr (A h) n).val := by
  pointwise [BJ]
  rw [t_one, show (fun f => GN S m b (ix2 h f)) = gain (A h) (st (A h) n).1 (st (A h) n).2 from funext fun f => GN_apply S A hS n m b r h f]
  rfl

theorem rnd_succ (S : FVec Ideal S16x12x32 .f32) (A : Fin 16 → Fin 32 → Fin 12 → EReal) (hS : ∀ h j p, S (ix3 h j p) = A h p j)
    (n : ℕ) (m : FVec Ideal S16x32 .f32) (b : IVec S16x12 1) (r : Rnd S A n m b) :
    Rnd S A (n + 1) (MN S m (JB (BJ (GN S m b)))) (BN b (BJ (GN S m b))) := by
  have hj := BJ_apply S A hS n m b r
  obtain ⟨J, hJ⟩ : ∃ J, J = BJ (GN S m b) := ⟨_, rfl⟩
  rw [← hJ] at hj ⊢
  refine ⟨fun h p => ?_, fun h j => ?_⟩
  · pointwise [MN]
    rw [g_best _ _ h p (jr (A h) n), r.hm, hS]
    · rfl
    · pointwise [JB]
      rw [hj]
      exact sel_small _ 12 (by have := (jr (A h) n).isLt; omega)
  · pointwise [BN]
    rw [hj, r.hb, cmpi_of _ _ (by have := j.isLt; omega) (by have := (jr (A h) n).isLt; omega)]
    show _ = if ((st (A h) n).2 j || decide (j = jr (A h) n)) = true then 1#1 else 0#1
    by_cases e : j = jr (A h) n
    · rw [if_pos (congrArg Fin.val e), e]
      cases (st (A h) n).2 (jr (A h) n) <;> simp <;> rfl
    · rw [if_neg (fun h' => e (Fin.ext h'))]
      cases (st (A h) n).2 j <;> simp [e] <;> rfl

end Cert.Proof.Ref

end
-- ==== Proof.ScRefVal.lean ====
/-
  The reference's four keys, its ten logits and their softmax, and its result's element as the one of `ScMath`.
-/
module

public import proofs.«01_k».proof.Proof.ScRef

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo
open Cert.Proof.Top Cert.Proof.Win Cert.Proof.Sel
open scoped BigOperators

variable (W : Valuation τ sig (Elt Ideal))

/-! ## The rounds -/

/-- The twelve keys' columns, head by head. -/
abbrev AA (h : Fin 16) : Fin 32 → Fin 12 → EReal := SS (hd (aq W) h) (hd (ak W) h)

abbrev xS : FVec Ideal S16x12x32 .f32 := res_main_v88 (F := Ideal) W

theorem e96 : res_main_v96 (F := Ideal) W = GN (xS W) (res_main_v89 (F := Ideal) W) (res_main_v90 (F := Ideal) W) := rfl
theorem e97 : res_main_v97 (F := Ideal) W = BJ (res_main_v96 (F := Ideal) W) := rfl
theorem e104 : res_main_v104 (F := Ideal) W = BN (res_main_v90 (F := Ideal) W) (res_main_v97 (F := Ideal) W) := rfl
theorem e108 : res_main_v108 (F := Ideal) W = MN (xS W) (res_main_v89 (F := Ideal) W) (JB (res_main_v97 (F := Ideal) W)) := rfl
theorem e114 : res_main_v114 (F := Ideal) W = GN (xS W) (res_main_v108 (F := Ideal) W) (res_main_v104 (F := Ideal) W) := rfl
theorem e115 : res_main_v115 (F := Ideal) W = BJ (res_main_v114 (F := Ideal) W) := rfl
theorem e122 : res_main_v122 (F := Ideal) W = BN (res_main_v104 (F := Ideal) W) (res_main_v115 (F := Ideal) W) := rfl
theorem e126 : res_main_v126 (F := Ideal) W = MN (xS W) (res_main_v108 (F := Ideal) W) (JB (res_main_v115 (F := Ideal) W)) := rfl
theorem e132 : res_main_v132 (F := Ideal) W = GN (xS W) (res_main_v126 (F := Ideal) W) (res_main_v122 (F := Ideal) W) := rfl
theorem e133 : res_main_v133 (F := Ideal) W = BJ (res_main_v132 (F := Ideal) W) := rfl
theorem e140 : res_main_v140 (F := Ideal) W = BN (res_main_v122 (F := Ideal) W) (res_main_v133 (F := Ideal) W) := rfl
theorem e144 : res_main_v144 (F := Ideal) W = MN (xS W) (res_main_v126 (F := Ideal) W) (JB (res_main_v133 (F := Ideal) W)) := rfl
theorem e150 : res_main_v150 (F := Ideal) W = GN (xS W) (res_main_v144 (F := Ideal) W) (res_main_v140 (F := Ideal) W) := rfl
theorem e151 : res_main_v151 (F := Ideal) W = BJ (res_main_v150 (F := Ideal) W) := rfl

theorem hS (h : Fin 16) (j : Fin 12) (p : Fin 32) : xS W (ix3 h j p) = AA W h p j := v88_apply W h j p

theorem r0 : Rnd (xS W) (AA W) 0 (res_main_v89 (F := Ideal) W) (res_main_v90 (F := Ideal) W) where
  hm h p := by
    pointwise [res_main_v89]
    rfl
  hb h j := by
    pointwise [res_main_v90]
    rfl
theorem r1 : Rnd (xS W) (AA W) 1 (res_main_v108 (F := Ideal) W) (res_main_v104 (F := Ideal) W) := by
  rw [e108, e104, e97, e96]; exact rnd_succ _ _ (hS W) 0 _ _ (r0 W)
theorem r2 : Rnd (xS W) (AA W) 2 (res_main_v126 (F := Ideal) W) (res_main_v122 (F := Ideal) W) := by
  rw [e126, e122, e115, e114]; exact rnd_succ _ _ (hS W) 1 _ _ (r1 W)
theorem r3 : Rnd (xS W) (AA W) 3 (res_main_v144 (F := Ideal) W) (res_main_v140 (F := Ideal) W) := by
  rw [e144, e140, e133, e132]; exact rnd_succ _ _ (hS W) 2 _ _ (r2 W)

theorem j0 (h : Fin 16) : res_main_v97 (F := Ideal) W (ix1 h) = BitVec.ofNat 32 (jr (AA W h) 0).val := by
  rw [e97, e96]; exact BJ_apply _ _ (hS W) 0 _ _ (r0 W) h
theorem j1 (h : Fin 16) : res_main_v115 (F := Ideal) W (ix1 h) = BitVec.ofNat 32 (jr (AA W h) 1).val := by
  rw [e115, e114]; exact BJ_apply _ _ (hS W) 1 _ _ (r1 W) h
theorem j2 (h : Fin 16) : res_main_v133 (F := Ideal) W (ix1 h) = BitVec.ofNat 32 (jr (AA W h) 2).val := by
  rw [e133, e132]; exact BJ_apply _ _ (hS W) 2 _ _ (r2 W) h
theorem j3 (h : Fin 16) : res_main_v151 (F := Ideal) W (ix1 h) = BitVec.ofNat 32 (jr (AA W h) 3).val := by
  rw [e151, e150]; exact BJ_apply _ _ (hS W) 3 _ _ (r3 W) h

theorem v167_apply (h : Fin 16) (g : Fin 4) : res_main_v167 (F := Ideal) W (ix2 h g) = BitVec.ofNat 32 (jr (AA W h) g.val).val := by
  fin_cases g <;> pointwise [res_main_v167]
  · exact j0 W h
  · exact j1 W h
  · exact j2 W h
  · exact j3 W h

/-! ## The chosen keys -/

theorem v168_apply (h : Fin 16) (g : Fin 4) : res_main_v168 (F := Ideal) W (ix2 h g) = BitVec.ofNat 32 (ck (hd (ak W) h) (hd (aq W) h) g).val := by
  unfold res_main_v168
  rw [g_key _ _ h g (jr (AA W h) g.val), i30_apply]
  · rfl
  · pointwise []
    rw [v167_apply]
    exact sel_small _ 12 (by have := (jr (AA W h) g.val).isLt; omega)

theorem sel4 (a : ℕ) (ha : a < 2048) (x : IVec S1x16x4x1 32) (h : Fin 16) (g : Fin 4) (hx : x (ix4 0 h g 0) = BitVec.ofNat 32 a) :
    shapeCast S16x4x1 (select (cmpi .slt x (broadcastInDim S1x16x4x1 ![] bcast_S_S1x16x4x1 (constantI S_ 32 0#32))) (addi x (broadcastInDim S1x16x4x1 ![] bcast_S_S1x16x4x1 (constantI S_ 32 2048#32))) x) shapeCasts_S1x16x4x1_S16x4x1 (ix3 h g 0)
      = BitVec.ofNat 32 a := by
  pointwise []
  rw [hx]
  exact sel_small _ 2048 (by omega)

theorem v169_apply (h : Fin 16) (g : Fin 4) : res_main_v169 (F := Ideal) W (ix4 0 h g 0) = BitVec.ofNat 32 (ck (hd (ak W) h) (hd (aq W) h) g).val := by
  pointwise [res_main_v169]
  exact v168_apply W h g
theorem v171_apply (h : Fin 16) (g : Fin 4) : res_main_v171 (F := Ideal) W (ix4 0 h g 0) = BitVec.ofNat 32 (ck (hd (ak W) h) (hd (aq W) h) g).val := by
  pointwise [res_main_v171]
  exact v168_apply W h g

/-! ## The logits -/

def TEN (a : FVec Ideal S1x16x2048x6 .f32) (b : FVec Ideal S1x16x2048x4 .f32) : FVec Ideal S1x16x2048x10 .f32 :=
  concatenate S1x16x2048x10 3 [⟨S1x16x2048x6, a⟩, ⟨S1x16x2048x4, b⟩] concatenates_S1x16x2048x6_S1x16x2048x4_S1x16x2048x10_d3

theorem TEN_apply (a : FVec Ideal S1x16x2048x6 .f32) (b : FVec Ideal S1x16x2048x4 .f32) (h : Fin 16) (t : Fin 2048) (k : Fin 10) :
    TEN a b (ix4 0 h t k) = if hk : k.val < 6 then a (ix4 0 h t ⟨k.val, hk⟩) else b (ix4 0 h t ⟨k.val - 6, by have := k.isLt; omega⟩) := by
  fin_cases k <;> pointwise [TEN] <;> rfl

theorem TEN_six (a : FVec Ideal S1x16x2048x6 .f32) (b : FVec Ideal S1x16x2048x4 .f32) (h : Fin 16) (t : Fin 2048) (j : Fin 6) :
    TEN a b (ix4 0 h t (j.castAdd 4)) = a (ix4 0 h t j) := by
  rw [TEN_apply, dif_pos (show (j.castAdd 4).val < 6 from j.isLt)]
  rfl
theorem TEN_four (a : FVec Ideal S1x16x2048x6 .f32) (b : FVec Ideal S1x16x2048x4 .f32) (h : Fin 16) (t : Fin 2048) (g : Fin 4) :
    TEN a b (ix4 0 h t (g.natAdd 6)) = b (ix4 0 h t g) := by
  rw [TEN_apply, dif_neg (show ¬ (g.natAdd 6).val < 6 from by rw [Fin.val_natAdd]; omega)]
  exact congrArg (fun x => b (ix4 0 h t x)) (Fin.ext (by show (g.natAdd 6).val - 6 = g.val; rw [Fin.val_natAdd]; omega))

theorem v176_six (h : Fin 16) (t : Fin 2048) (j : Fin 6) : res_main_v176 (F := Ideal) W (ix4 0 h t (j.castAdd 4))
    = sco (hd (aq W) h) (hd (ak W) h) t (six (hd (aq W) h) (hd (ak W) h) t j) := by
  refine (TEN_six _ _ h t j).trans ?_
  rw [g_six _ _ h t j (six (hd (aq W) h) (hd (ak W) h) t j), v26_apply]
  pointwise []
  rw [ind_apply]
  exact sel_small _ 16 (by have := (six (hd (aq W) h) (hd (ak W) h) t j).isLt; omega)

theorem v176_four (h : Fin 16) (t : Fin 2048) (g : Fin 4) : res_main_v176 (F := Ideal) W (ix4 0 h t (g.natAdd 6))
    = lgt (hd (ak W) h) (hd (aq W) h) g t := by
  refine (TEN_four _ _ h t g).trans ?_
  pointwise []
  unfold lgt
  rw [← Sc.c_eighth]
  refine congrArg (· * _) (Finset.sum_congr rfl fun d _ => ?_)
  rw [g_four _ _ h g d _ (sel4 _ (ck (hd (ak W) h) (hd (aq W) h) g).isLt _ h g (v169_apply W h g))]
  exact mul_comm _ _

/-- The maximum of the ten logits, and the exponentials and their quotients over it. -/
def mx10 (x : FVec Ideal S1x16x2048x10 .f32) (h : Fin 16) (t : Fin 2048) : EReal := Finset.univ.fold max ⊥ fun k => x (ix4 0 h t k)

theorem mx10_apply (x : FVec Ideal S1x16x2048x10 .f32) (h : Fin 16) (t : Fin 2048) :
    max (Ideal.ofBits FTy.f32 4286578688#32) (Finset.fold max (Ideal.ofBits FTy.f32 4286578688#32) x {i | reducesTo_S1x16x2048x10_S1x16x2048_d3.drop i = ix3 0 h t})
      = mx10 x h t := by
  pointwise []
  rw [c_bot]
  exact max_bot_left _

abbrev xL : FVec Ideal S1x16x2048x10 .f32 := res_main_v176 (F := Ideal) W
abbrev xE : FVec Ideal S1x16x2048x10 .f32 := res_main_v183 (F := Ideal) W
abbrev xP : FVec Ideal S1x16x2048x10 .f32 := res_main_v187 (F := Ideal) W

theorem v183_apply (h : Fin 16) (t : Fin 2048) (k : Fin 10) : xE W (ix4 0 h t k) = Ideal.exp (xL W (ix4 0 h t k) - mx10 (xL W) h t) := by
  pointwise [res_main_v183]
  exact congrArg (fun y => Ideal.exp (xL W (ix4 0 h t k) - y)) (mx10_apply (xL W) h t)

theorem v187_apply (h : Fin 16) (t : Fin 2048) (k : Fin 10) : xP W (ix4 0 h t k) = Ideal.div (xE W (ix4 0 h t k)) (∑ k, xE W (ix4 0 h t k)) := by
  pointwise [res_main_v187]

theorem KW_apply (x : FVec Ideal S1x16x2048x64 .f32) (h : Fin 16) (t : Fin 2048) (f : Fin 16) (d : Fin 64) :
    Host.gather gather_S1x16x2048x64_S2048x16x1_S1x16x2048x16x64_014_2_n_n_2_2_116164 x (broadcastInDim S2048x16x1 ![0, 1] bcast_S2048x16_S2048x16x1_0_1 (select (cmpi .slt (res_main_v9 (F := Ideal) W) (broadcastInDim S2048x16 ![] bcast_S_S2048x16 (constantI S_ 32 0#32))) (addi (res_main_v9 (F := Ideal) W) (broadcastInDim S2048x16 ![] bcast_S_S2048x16 (constantI S_ 32 2048#32))) (res_main_v9 (F := Ideal) W))) (ix5 0 h t f d)
      = hd x h (kp t f) d := by
  rw [g_win _ _ h t f d (kp t f)]
  pointwise []
  rw [v9_apply]
  exact sel_small _ 2048 (by have := bt_le t.val; have := f.isLt; omega)

/-- The result, as the program's last operations compute it. -/
def OUT : FVec Ideal S1x16x2048x64 .f32 :=
  addf (Host.dotGeneral (φ₁ := .f32) (φ₂ := .f32) dot_S1x16x2048x6_S1x16x2048x6x64_S1x16x2048x64_3_3_n_4_012_012 none (extractStridedSlice S1x16x2048x6 ![0, 0, 0, 0] (xP W) slices_S1x16x2048x10_S1x16x2048x6_0_0_0_0) (Host.gather gather_S1x16x2048x16x64_S16x2048x6x1_S1x16x2048x6x64_04_3_12_01_3_3_111164 (Host.gather gather_S1x16x2048x64_S2048x16x1_S1x16x2048x16x64_014_2_n_n_2_2_116164 (av W) (broadcastInDim S2048x16x1 ![0, 1] bcast_S2048x16_S2048x16x1_0_1 (select (cmpi .slt (res_main_v9 (F := Ideal) W) (broadcastInDim S2048x16 ![] bcast_S_S2048x16 (constantI S_ 32 0#32))) (addi (res_main_v9 (F := Ideal) W) (broadcastInDim S2048x16 ![] bcast_S_S2048x16 (constantI S_ 32 2048#32))) (res_main_v9 (F := Ideal) W)))) (shapeCast _ (select (cmpi .slt (res_main_v43 (F := Ideal) W) (broadcastInDim S1x16x2048x6x1 ![] bcast_S_S1x16x2048x6x1 (constantI S_ 32 0#32))) (addi (res_main_v43 (F := Ideal) W) (broadcastInDim S1x16x2048x6x1 ![] bcast_S_S1x16x2048x6x1 (constantI S_ 32 16#32))) (res_main_v43 (F := Ideal) W)) shapeCasts_S1x16x2048x6x1_S16x2048x6x1))) (Host.dotGeneral (φ₁ := .f32) (φ₂ := .f32) dot_S1x16x2048x4_S1x16x4x64_S1x16x2048x64_3_2_2_3_01_01 none (extractStridedSlice S1x16x2048x4 ![0, 0, 0, 6] (xP W) slices_S1x16x2048x10_S1x16x2048x4_0_0_0_6) (Host.gather gather_S1x16x2048x64_S16x4x1_S1x16x4x64_03_2_1_0_2_2_11164 (av W) (shapeCast _ (select (cmpi .slt (res_main_v171 (F := Ideal) W) (broadcastInDim S1x16x4x1 ![] bcast_S_S1x16x4x1 (constantI S_ 32 0#32))) (addi (res_main_v171 (F := Ideal) W) (broadcastInDim S1x16x4x1 ![] bcast_S_S1x16x4x1 (constantI S_ 32 2048#32))) (res_main_v171 (F := Ideal) W)) shapeCasts_S1x16x4x1_S16x4x1)))

theorem OUT_apply (h : Fin 16) (t : Fin 2048) (d : Fin 64) : OUT W (ix4 0 h t d)
    = (∑ j : Fin 6, xP W (ix4 0 h t (j.castAdd 4)) * hd (av W) h (kp t (six (hd (aq W) h) (hd (ak W) h) t j)) d)
      + ∑ g : Fin 4, xP W (ix4 0 h t (g.natAdd 6)) * hd (av W) h (ck (hd (ak W) h) (hd (aq W) h) g) d := by
  pointwise [OUT]
  refine congrArg₂ (· + ·) (Finset.sum_congr rfl fun j _ => ?_) (Finset.sum_congr rfl fun g _ => ?_)
  · refine congrArg₂ (· * ·) ?_ ?_
    · exact congrArg (fun x => xP W (ix4 0 h t x)) (Fin.ext rfl)
    · rw [g_val _ _ h t j d (six (hd (aq W) h) (hd (ak W) h) t j), KW_apply]
      pointwise [res_main_v43]
      rw [ind_apply]
      exact sel_small _ 16 (by have := (six (hd (aq W) h) (hd (ak W) h) t j).isLt; omega)
  · refine congrArg₂ (· * ·) ?_ ?_
    · exact congrArg (fun x => xP W (ix4 0 h t x)) (Fin.ext rfl)
    · exact g_four _ _ h g d _ (sel4 _ (ck (hd (ak W) h) (hd (aq W) h) g).isLt _ h g (v171_apply W h g))

/-! ## The element -/

theorem fold_max_real {n : ℕ} (hn : 0 < n) (a : Fin n → ℝ) : ∃ M : ℝ, Finset.univ.fold max (⊥ : EReal) (fun i => ((a i : ℝ) : EReal)) = M := by
  rcases fold_real Finset.univ a with ⟨h0, -⟩ | h1
  · exact absurd h0 (Finset.univ_nonempty_iff.mpr ⟨⟨0, hn⟩⟩).ne_empty
  · exact h1

theorem RES_apply (h : Fin 16) (t : Fin 2048) (d : Fin 64) (s : Fin 16 → ℝ) (l : Fin 4 → ℝ) (m : ℝ)
    (hs : ∀ f, sco (hd (aq W) h) (hd (ak W) h) t f = s f) (hl : ∀ g, lgt (hd (ak W) h) (hd (aq W) h) g t = l g) :
    OUT W (ix4 0 h t d) = Sc.CAN s (xk (hd (aq W) h) (hd (ak W) h) t) (fun f => hd (av W) h (kp t f) d) m (∑ g, Real.exp (l g - m))
      (∑ g, hd (av W) h (ck (hd (ak W) h) (hd (aq W) h) g) d * Ideal.exp ((l g : EReal) - m)) := by
  have h6 : ∀ j : Fin 6, xL W (ix4 0 h t (j.castAdd 4)) = ((s (six (hd (aq W) h) (hd (ak W) h) t j) : ℝ) : EReal) := fun j => (v176_six W h t j).trans (hs _)
  have h4 : ∀ g : Fin 4, xL W (ix4 0 h t (g.natAdd 6)) = ((l g : ℝ) : EReal) := fun g => (v176_four W h t g).trans (hl g)
  obtain ⟨a, ha⟩ : ∃ a : Fin 10 → ℝ, ∀ k, xL W (ix4 0 h t k) = ((a k : ℝ) : EReal) := by
    have : ∀ k : Fin 10, ∃ r : ℝ, xL W (ix4 0 h t k) = ((r : ℝ) : EReal) := by
      intro k
      refine Fin.addCases (m := 6) (n := 4) (motive := fun k => ∃ r : ℝ, xL W (ix4 0 h t k) = ((r : ℝ) : EReal)) (fun j => ⟨_, h6 j⟩) (fun g => ⟨_, h4 g⟩) k
    choose a ha using this
    exact ⟨a, ha⟩
  obtain ⟨M, hM⟩ : ∃ M : ℝ, mx10 (xL W) h t = M := by
    unfold mx10
    rw [show (fun k => xL W (ix4 0 h t k)) = fun k => ((a k : ℝ) : EReal) from funext ha]
    exact fold_max_real (by decide) a
  have e6 : ∀ j : Fin 6, xE W (ix4 0 h t (j.castAdd 4)) = Ideal.exp ((s (six (hd (aq W) h) (hd (ak W) h) t j) : EReal) - M) := fun j => by
    rw [v183_apply, h6, hM]
  have e4 : ∀ g : Fin 4, xE W (ix4 0 h t (g.natAdd 6)) = Ideal.exp ((l g : EReal) - M) := fun g => by rw [v183_apply, h4, hM]
  have eZ : (∑ k, xE W (ix4 0 h t k)) = (∑ j : Fin 6, Ideal.exp ((s (six (hd (aq W) h) (hd (ak W) h) t j) : EReal) - M)) + ∑ g, Ideal.exp ((l g : EReal) - M) := by
    refine (Fin.sum_univ_add (a := 6) (b := 4) fun k => xE W (ix4 0 h t k)).trans ?_
    exact congrArg₂ (· + ·) (Finset.sum_congr rfl fun j _ => e6 j) (Finset.sum_congr rfl fun g _ => e4 g)
  rw [OUT_apply]
  simp only [v187_apply, e6, e4]
  exact ten s (xk (hd (aq W) h) (hd (ak W) h) t) (fun f => hd (av W) h (kp t f) d) l (fun g => hd (av W) h (ck (hd (ak W) h) (hd (aq W) h) g) d) M m _ eZ

end Cert.Proof.Ref

end
-- ==== Proof.ScAlg.lean ====
/-
  The value claim: from queries and keys that are real, the kernel's result and the reference's are equal extended reals, element by element.
-/
module

public import proofs.«01_k».proof.Defs
public import proofs.«01_k».proof.Proof.ScFrames
public import proofs.«01_k».proof.Proof.ScKer
public import proofs.«01_k».proof.Proof.ScTcBlk
public import proofs.«01_k».proof.Proof.ScRefVal
public import Idealize.ShloMosaic.Lib.ReduceAll

@[expose] public section

noncomputable section

namespace Cert.Proof.Alg

open Idealize.ShloMosaic Idealize.ShloMosaic.TcCoe Idealize.SL.Sem
open Idealize.ShloMosaic.StableHlo (after launchContents)
open Cert.KernelIdeal (S16x64x2048 S16x2x2048 S1x16x2048x64 main_v0 main_v1 main_v2 nD τ sig)
open Cert.Proof.Win (sco xk kp)
open Cert.Proof.Sel (gmax gsum gout lgt)
open Cert.Proof.Sc (V0 VT arrF rf)
open scoped BigOperators

/-! ## The precondition -/

theorem preFacts : Cert.Pre_tame.Facts where
  bcast_S_S1x16x2048x64 := by decide
  reducesTo_S1x16x2048x64_S_d0_1_2_3 := by decide
  h_S_ := by decide

theorem real_of_abs_lt (x : EReal) (h : max x (-x) < ⊤) : ∃ r : ℝ, x = r := by
  induction x using EReal.rec with
  | bot => simp at h
  | top => simp at h
  | coe r => exact ⟨r, rfl⟩

theorem real_of_cmp (x : EReal) (h : BitVec.ofBool (decide (max x (-x) < Ideal.ofBits .f32 0x7F800000#32)) = 1#1) : ∃ r : ℝ, x = r := by
  refine real_of_abs_lt x ?_
  rw [show Ideal.ofBits .f32 0x7F800000#32 = (⊤ : EReal) from by simp [Ideal.ofBits, Ideal.ieee]] at h
  exact of_decide_eq_true ((StableHlo.Predicate.ofBool_eq_one_iff _).mp h)

instance : Subsingleton (Cert.Pre_tame.S_).Idx := ⟨fun a b => funext fun i => i.elim0⟩

theorem pre_decode (q k v : FVec Ideal S1x16x2048x64 .f32) (h : (letI := preFacts; Cert.Pre_tame.fn (F := Ideal) q k v) = fun _ => 1#1) :
    (∀ i, ∃ r : ℝ, q i = r) ∧ ∀ i, ∃ r : ℝ, k i = r := by
  letI := preFacts
  have h0 := congrFun h (fun i => i.elim0)
  dsimp only [Cert.Pre_tame.fn] at h0
  obtain ⟨hq, hk⟩ := IntOp.andi_eq_one.mp h0
  exact ⟨fun i => real_of_cmp _ (Host.reduce_andi_all _ _ _ _ _ hq i), fun i => real_of_cmp _ (Host.reduce_andi_all _ _ _ _ _ hk i)⟩

/-! ## What the TensorCore call leaves, read at an index -/

section Arrays

variable (m : (ℓ : Loc nD τ sig) → Buf (Elt Ideal) ℓ) (c : Dev nD)

/-- An argument's rows for one head. -/
abbrev hd (x : FVec Ideal S1x16x2048x64 .f32) (h : Fin 16) : Fin 2048 → Fin 64 → EReal := fun s d => x (ix4 0 h s d)
abbrev aq : FVec Ideal S1x16x2048x64 .f32 := m ((c.tc : Thread nD τ).loc Cert.KernelIdeal.main_arg0)
abbrev ak : FVec Ideal S1x16x2048x64 .f32 := m ((c.tc : Thread nD τ).loc Cert.KernelIdeal.main_arg1)
abbrev av : FVec Ideal S1x16x2048x64 .f32 := m ((c.tc : Thread nD τ).loc Cert.KernelIdeal.main_arg2)

theorem V0_q (h : Fin 16) (s : Fin 2048) (d : Fin 64) : V0 m c (rf main_v0) (ix3 h s d) = aq m c (ix4 0 h s d) := by
  unfold V0
  after_results_simp
  pointwise []
theorem V0_k (h : Fin 16) (s : Fin 2048) (d : Fin 64) : V0 m c (rf main_v1) (ix3 h s d) = ak m c (ix4 0 h s d) := by
  unfold V0
  after_results_simp
  pointwise []
theorem V0_v (h : Fin 16) (s : Fin 2048) (d : Fin 64) : V0 m c (rf main_v2) (ix3 h s d) = av m c (ix4 0 h s d) := by
  unfold V0
  after_results_simp
  pointwise []

theorem rows_q (h : Fin 16) : Tc.rows (Tc.bq (fun c b => V0 m c (rf b)) c (Tc.hpt h)) = hd (aq m c) h :=
  (Tc.bq_rows _ c h).trans (funext fun s => funext fun d => V0_q m c h s d)
theorem rows_k (h : Fin 16) : Tc.rows (Tc.bk (fun c b => V0 m c (rf b)) c (Tc.hpt h)) = hd (ak m c) h :=
  (Tc.bk_rows _ c h).trans (funext fun s => funext fun d => V0_k m c h s d)
theorem rows_v (h : Fin 16) : Tc.rows (Tc.bv (fun c b => V0 m c (rf b)) c (Tc.hpt h)) = hd (av m c) h :=
  (Tc.bv_rows _ c h).trans (funext fun s => funext fun d => V0_v m c h s d)

/-- The call's five arrays. -/
abbrev Aog : FVec Ideal S16x64x2048 .f32 := VT m c (rf Cert.KernelIdeal.main_v3_0)
abbrev Amz : FVec Ideal S16x2x2048 .f32 := VT m c (rf Cert.KernelIdeal.main_v3_1)
abbrev Aq : FVec Ideal S16x64x2048 .f32 := VT m c (rf Cert.KernelIdeal.main_v3_2)
abbrev Ak : FVec Ideal S16x64x2048 .f32 := VT m c (rf Cert.KernelIdeal.main_v3_3)
abbrev Av : FVec Ideal S16x64x2048 .f32 := VT m c (rf Cert.KernelIdeal.main_v3_4)

theorem Aog_apply (h : Fin 16) (d : Fin 64) (s : Fin 2048) : Aog m c (ix3 h d s) = gout (hd (ak m c) h) (hd (aq m c) h) (hd (av m c) h) s d :=
  (congrFun (Sc.VT_0 m c) _).trans ((Tc.arr3 _ c h d s).trans ((Tc.og_apply _ _ _ d s).trans (by rw [rows_q, rows_k, rows_v])))
theorem Amz0_apply (h : Fin 16) (s : Fin 2048) : Amz m c (ix3 h 0 s) = gmax (hd (ak m c) h) (hd (aq m c) h) s :=
  (congrFun (Sc.VT_1 m c) _).trans ((Tc.arr4 _ c h 0 s).trans ((Tc.mz0_apply _ _ s).trans (by rw [rows_q, rows_k])))
theorem Amz1_apply (h : Fin 16) (s : Fin 2048) : Amz m c (ix3 h 1 s) = gsum (hd (ak m c) h) (hd (aq m c) h) s :=
  (congrFun (Sc.VT_1 m c) _).trans ((Tc.arr4 _ c h 1 s).trans ((Tc.mz1_apply _ _ s).trans (by rw [rows_q, rows_k])))
theorem Aq_apply (h : Fin 16) (d : Fin 64) (s : Fin 2048) : Aq m c (ix3 h d s) = hd (aq m c) h s d :=
  (congrFun (Sc.VT_2 m c) _).trans ((Tc.arr5 _ c h d s).trans ((Tc.pay6_apply _ d s).trans (by rw [rows_q])))
theorem Ak_apply (h : Fin 16) (d : Fin 64) (s : Fin 2048) : Ak m c (ix3 h d s) = hd (ak m c) h s d :=
  (congrFun (Sc.VT_3 m c) _).trans ((Tc.arr6 _ c h d s).trans ((Tc.pay7_apply _ d s).trans (by rw [rows_k])))
theorem Av_apply (h : Fin 16) (d : Fin 64) (s : Fin 2048) : Av m c (ix3 h d s) = hd (av m c) h s d :=
  (congrFun (Sc.VT_4 m c) _).trans ((Tc.arr7 _ c h d s).trans ((Tc.pay8_apply _ d s).trans (by rw [rows_v])))

end Arrays

/-! ## The equality of the results -/

theorem real_sum_exp (l : Fin 4 → ℝ) (m : ℝ) : ∑ g, Ideal.exp ((l g : EReal) - m) = ((∑ g, Real.exp (l g - m) : ℝ) : EReal) := by
  rw [Sc.coe_sum]
  exact Finset.sum_congr rfl fun g _ => by rw [← EReal.coe_sub, Ideal.exp_coe]

theorem values (W : Valuation Cert.ReferenceIdeal.τ Cert.ReferenceIdeal.sig (Elt Ideal)) (q k v og : FVec Ideal S16x64x2048 .f32) (mz : FVec Ideal S16x2x2048 .f32)
    (hq : ∀ i, ∃ r : ℝ, Ref.aq W i = r) (hk : ∀ i, ∃ r : ℝ, Ref.ak W i = r)
    (eq : ∀ h d s, q (ix3 h d s) = hd (Ref.aq W) h s d) (ek : ∀ h d s, k (ix3 h d s) = hd (Ref.ak W) h s d) (ev : ∀ h d s, v (ix3 h d s) = hd (Ref.av W) h s d)
    (em : ∀ h s, mz (ix3 h 0 s) = gmax (hd (Ref.ak W) h) (hd (Ref.aq W) h) s) (ez : ∀ h s, mz (ix3 h 1 s) = gsum (hd (Ref.ak W) h) (hd (Ref.aq W) h) s)
    (eo : ∀ h d s, og (ix3 h d s) = gout (hd (Ref.ak W) h) (hd (Ref.aq W) h) (hd (Ref.av W) h) s d) :
    Ker.OH (Sc.OUTA (F := Ideal) (Ker.QH q) (Ker.KH k) (Ker.KH v) (Ker.QH og) (Ker.MH mz)) = Ref.OUT W := by
  choose qr hqr using hq
  choose kr hkr using hk
  funext i
  rw [eq_ix4 i]
  obtain ⟨h, hh⟩ : ∃ h : Fin 16, h = i 1 := ⟨_, rfl⟩
  obtain ⟨t, ht⟩ : ∃ t : Fin 2048, t = i 2 := ⟨_, rfl⟩
  obtain ⟨y, hy⟩ : ∃ y : Fin 64, y = i 3 := ⟨_, rfl⟩
  have h0 : i 0 = (0 : Fin 1) := Subsingleton.elim (α := Fin 1) _ _
  rw [← hh, ← ht, ← hy, h0]
  have tq : Ker.tr q h = hd (Ref.aq W) h := funext fun s => funext fun d => eq h d s
  have tk : Ker.tr k h = hd (Ref.ak W) h := funext fun s => funext fun d => ek h d s
  have hs : ∀ f : Fin 16, sco (hd (Ref.aq W) h) (hd (Ref.ak W) h) t f = (((∑ d : Fin 64, qr (ix4 0 h t d) * kr (ix4 0 h (kp t f) d)) * (1 / 8) : ℝ) : EReal) := by
    intro f
    unfold sco
    rw [EReal.coe_mul, Sc.coe_sum]
    refine congrArg (· * _) (Finset.sum_congr rfl fun d _ => ?_)
    exact (congrArg₂ (· * ·) (hqr _) (hkr _)).trans (EReal.coe_mul _ _).symm
  have hl : ∀ g : Fin 4, lgt (hd (Ref.ak W) h) (hd (Ref.aq W) h) g t = (((∑ d : Fin 64, kr (ix4 0 h (Sel.ck (hd (Ref.ak W) h) (hd (Ref.aq W) h) g) d) * qr (ix4 0 h t d)) * (1 / 8) : ℝ) : EReal) := by
    intro g
    unfold lgt
    rw [EReal.coe_mul, Sc.coe_sum]
    refine congrArg (· * _) (Finset.sum_congr rfl fun d _ => ?_)
    exact (congrArg₂ (· * ·) (hkr _) (hqr _)).trans (EReal.coe_mul _ _).symm
  obtain ⟨M, hM⟩ : ∃ M : ℝ, gmax (hd (Ref.ak W) h) (hd (Ref.aq W) h) t = M := by
    unfold gmax
    rw [funext hl]
    exact Ref.fold_max_real (by decide) _
  have hZ : gsum (hd (Ref.ak W) h) (hd (Ref.aq W) h) t = ((∑ g, Real.exp (((∑ d : Fin 64, kr (ix4 0 h (Sel.ck (hd (Ref.ak W) h) (hd (Ref.aq W) h) g) d) * qr (ix4 0 h t d)) * (1 / 8)) - M) : ℝ) : EReal) := by
    unfold gsum
    simp only [hM, hl]
    exact real_sum_exp _ M
  rw [Ker.OH_apply, Ker.OUTA_apply q k v og mz h t y _ M _ (fun f => by rw [tq, tk]; exact hs f) ((em h t).trans hM) ((ez h t).trans hZ) (Finset.sum_nonneg fun _ _ => (Real.exp_pos _).le)]
  refine Eq.trans ?_ (Ref.RES_apply W h t y _ _ M hs hl).symm
  rw [tq, tk, eo h y t]
  unfold gout
  simp only [hM, hl, ev]

/-! ## The claim -/

theorem frame_KernelIdeal_pre : letI := preFacts; Cert.quiescent_KernelIdeal_pre_tame := fun m ρ _ => Sc.frame_KernelIdeal m ρ trivial

theorem frame_ReferenceIdeal_pre : letI := preFacts; Cert.quiescent_ReferenceIdeal_pre_tame := fun m ρ _ => Sc.frame_ReferenceIdeal m ρ trivial

theorem kernel_eq (m : (ℓ : Loc nD τ sig) → Buf (Elt Ideal) ℓ) (c : Dev nD) (W : Valuation Cert.ReferenceIdeal.τ Cert.ReferenceIdeal.sig (Elt Ideal))
    (a0 : Ref.aq W = aq m c) (a1 : Ref.ak W = ak m c) (a2 : Ref.av W = av m c)
    (hq : ∀ i, ∃ r : ℝ, aq m c i = r) (hk : ∀ i, ∃ r : ℝ, ak m c i = r) :
    Sc.V3 m c (rf Cert.KernelIdeal.main_v50) = Ref.OUT W := by
  rw [Ker.res_eq]
  unfold Sc.oF Sc.oA
  rw [Ker.qA_eq, Ker.kA_eq, Ker.vA_eq, Ker.gA_eq, Ker.mA_eq]
  refine values W (Aq m c) (Ak m c) (Av m c) (Aog m c) (Amz m c) ?_ ?_ ?_ ?_ ?_ ?_ ?_ ?_
  · rw [a0]; exact hq
  · rw [a1]; exact hk
  · rw [a0]; exact Aq_apply m c
  · rw [a1]; exact Ak_apply m c
  · rw [a2]; exact Av_apply m c
  · rw [a0, a1]; exact Amz0_apply m c
  · rw [a0, a1]; exact Amz1_apply m c
  · rw [a0, a1, a2]; exact Aog_apply m c

theorem algebraic : letI := preFacts; Cert.algebraic_KernelIdeal_ReferenceIdeal_pre_tame := by
  letI := preFacts
  intro m g m' g' hpre hargs
  refine ⟨fun c => Sc.V3 m c (rf Cert.KernelIdeal.main_v50), ?_, ?_⟩
  · exact (θ_run Cert.KernelIdeal.defs _ _).mono (fun r (h : Sc.QC m r) c =>
      ⟨h.1 c Cert.KernelIdeal.main_v50 rfl, (h.1 c Cert.KernelIdeal.main_arg0 rfl).trans (Sc.V3_args m c).1, (h.1 c Cert.KernelIdeal.main_arg1 rfl).trans (Sc.V3_args m c).2.1,
        (h.1 c Cert.KernelIdeal.main_arg2 rfl).trans (Sc.V3_args m c).2.2⟩) (Sc.run_main (F := Ideal) m g)
  · refine (θ_run Cert.ReferenceIdeal.defs _ _).mono (fun r h c => ⟨(h c).1.trans ?_, (h c).2⟩) (Cert.ReferenceIdeal.Value.run (F := Ideal) m' g')
    obtain ⟨a0, a1, a2⟩ := hargs c
    obtain ⟨hq, hk⟩ := pre_decode _ _ _ (hpre c)
    exact (kernel_eq m c (launchContents m' c) a0 a1 a2 hq hk).symm

end Cert.Proof.Alg

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.ScFrames
public import proofs.«01_k».proof.Proof.ScAlg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Alg.preFacts,
  Sc.frame_Kernel, Sc.frame_KernelIdeal, Alg.frame_KernelIdeal_pre, Sc.frame_ReferenceIdeal, Alg.frame_ReferenceIdeal_pre, trivial, Alg.algebraic⟩

end Cert.Proof

end
